-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_spread [hPre_scores_spread : Cert.Pre_scores_spread.Facts] (m : (ℓ : Loc Cert.KernelIdeal.nD Cert.KernelIdeal.τ Cert.KernelIdeal.sig) → Buf (Elt Ideal) ℓ) : Prop :=
  ∀ c : Dev Cert.KernelIdeal.nD,
    (Cert.Pre_scores_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_spread [hPre_scores_spread : Cert.Pre_scores_spread.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_spread.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_scores_spread [hKernelIdeal : Cert.KernelIdeal.Facts] [hPre_scores_spread : Cert.Pre_scores_spread.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_spread m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_scores_spread [hReferenceIdeal : Cert.ReferenceIdeal.Facts] [hPre_scores_spread : Cert.Pre_scores_spread.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_spread m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_scores_spread [hKernelIdeal : Cert.KernelIdeal.Facts] [hReferenceIdeal : Cert.ReferenceIdeal.Facts] [hPre_scores_spread : Cert.Pre_scores_spread.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_spread m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_scores_spread : Cert.Pre_scores_spread.Facts),
    quiescent_Kernel (hKernel := hKernel)
    ∧ quiescent_KernelIdeal (hKernelIdeal := hKernelIdeal)
    ∧ quiescent_KernelIdeal_pre_scores_spread (hKernelIdeal := hKernelIdeal) (hPre_scores_spread := hPre_scores_spread)
    ∧ quiescent_ReferenceIdeal (hReferenceIdeal := hReferenceIdeal)
    ∧ quiescent_ReferenceIdeal_pre_scores_spread (hReferenceIdeal := hReferenceIdeal) (hPre_scores_spread := hPre_scores_spread)
    ∧ preserves_Kernel_KernelIdeal
    ∧ algebraic_KernelIdeal_ReferenceIdeal_pre_scores_spread (hKernelIdeal := hKernelIdeal) (hReferenceIdeal := hReferenceIdeal) (hPre_scores_spread := hPre_scores_spread)
-- ==== Pre_scores_spread.lean ====
abbrev S4x2048x64 : Shape := ⟨3, ![4, 2048, 64]⟩
abbrev S64x32 : Shape := ⟨2, ![64, 32]⟩
abbrev S32 : Shape := ⟨1, ![32]⟩
abbrev S32x128 : Shape := ⟨2, ![32, 128]⟩
abbrev S128 : Shape := ⟨1, ![128]⟩
abbrev S_ : Shape := ⟨0, ![]⟩
abbrev S4x2048x32 : Shape := ⟨3, ![4, 2048, 32]⟩
abbrev S1x1x32 : Shape := ⟨3, ![1, 1, 32]⟩
abbrev S4x2048x128 : Shape := ⟨3, ![4, 2048, 128]⟩
abbrev S1x1x128 : Shape := ⟨3, ![1, 1, 128]⟩
abbrev S1x2048x128 : Shape := ⟨3, ![1, 2048, 128]⟩
abbrev S2048x128 : Shape := ⟨2, ![2048, 128]⟩
abbrev S4 : Shape := ⟨1, ![4]⟩
abbrev S1 : Shape := ⟨1, ![1]⟩
abbrev S5 : Shape := ⟨1, ![5]⟩
abbrev S5x1 : Shape := ⟨2, ![5, 1]⟩
abbrev S5x128 : Shape := ⟨2, ![5, 128]⟩
abbrev S2048x1x128 : Shape := ⟨3, ![2048, 1, 128]⟩
abbrev S1x5x128 : Shape := ⟨3, ![1, 5, 128]⟩
abbrev S2048x5x128 : Shape := ⟨3, ![2048, 5, 128]⟩
abbrev S2048x5 : Shape := ⟨2, ![2048, 5]⟩
abbrev S2048 : Shape := ⟨1, ![2048]⟩
abbrev S2048x1 : Shape := ⟨2, ![2048, 1]⟩
abbrev S1x5 : Shape := ⟨2, ![1, 5]⟩
abbrev S5x2048 : Shape := ⟨2, ![5, 2048]⟩
abbrev S4x128x5 : Shape := ⟨3, ![4, 128, 5]⟩
abbrev S4x5x128 : Shape := ⟨3, ![4, 5, 128]⟩
abbrev S1x5x1 : Shape := ⟨3, ![1, 5, 1]⟩
abbrev S4x2048 : Shape := ⟨2, ![4, 2048]⟩
abbrev S4x1 : Shape := ⟨2, ![4, 1]⟩
abbrev S1x2048 : Shape := ⟨2, ![1, 2048]⟩

class Facts : Prop where
  bcast_S32_S1x1x32_2 : S32.BroadcastsInDim S1x1x32 (![2] : Fin 1 → Fin S1x1x32.rank)
  bcast_S1x1x32_S4x2048x32_0_1_2 : S1x1x32.BroadcastsInDim S4x2048x32 (![0, 1, 2] : Fin 3 → Fin S4x2048x32.rank)
  bcast_S_S4x2048x32 : S_.BroadcastsInDim S4x2048x32 (![] : Fin 0 → Fin S4x2048x32.rank)
  bcast_S128_S1x1x128_2 : S128.BroadcastsInDim S1x1x128 (![2] : Fin 1 → Fin S1x1x128.rank)
  bcast_S1x1x128_S4x2048x128_0_1_2 : S1x1x128.BroadcastsInDim S4x2048x128 (![0, 1, 2] : Fin 3 → Fin S4x2048x128.rank)
  bcast_S_S4x2048x128 : S_.BroadcastsInDim S4x2048x128 (![] : Fin 0 → Fin S4x2048x128.rank)
  slices_S4x2048x128_S1x2048x128_0_0_0 : S4x2048x128.Slices ![0, 0, 0] S1x2048x128
  shapeCasts_S1x2048x128_S2048x128 : S1x2048x128.ShapeCasts S2048x128
  bcast_S_S4 : S_.BroadcastsInDim S4 (![] : Fin 0 → Fin S4.rank)
  shapeCasts_S_S1 : S_.ShapeCasts S1
  bcast_S1_S4_0 : S1.BroadcastsInDim S4 (![0] : Fin 1 → Fin S4.rank)
  bcast_S_S1 : S_.BroadcastsInDim S1 (![] : Fin 0 → Fin S1.rank)
  concatenates_S4_S1_S5_d0 : Shape.Concatenates [S4, S1] S5 0
  bcast_S_S5 : S_.BroadcastsInDim S5 (![] : Fin 0 → Fin S5.rank)
  bcast_S5_S5x1_0 : S5.BroadcastsInDim S5x1 (![0] : Fin 1 → Fin S5x1.rank)
  bcast_S2048x128_S2048x1x128_0_2 : S2048x128.BroadcastsInDim S2048x1x128 (![0, 2] : Fin 2 → Fin S2048x1x128.rank)
  bcast_S5x128_S1x5x128_1_2 : S5x128.BroadcastsInDim S1x5x128 (![1, 2] : Fin 2 → Fin S1x5x128.rank)
  bcast_S2048x1x128_S2048x5x128_0_1_2 : S2048x1x128.BroadcastsInDim S2048x5x128 (![0, 1, 2] : Fin 3 → Fin S2048x5x128.rank)
  bcast_S1x5x128_S2048x5x128_0_1_2 : S1x5x128.BroadcastsInDim S2048x5x128 (![0, 1, 2] : Fin 3 → Fin S2048x5x128.rank)
  reducesTo_S2048x5x128_S2048x5_d2 : S2048x5x128.ReducesTo [2] S2048x5
  h_S_ : 0 < S_.numel
  reducesTo_S2048x5_S2048_d1 : S2048x5.ReducesTo [1] S2048
  bcast_S2048_S2048x1_0 : S2048.BroadcastsInDim S2048x1 (![0] : Fin 1 → Fin S2048x1.rank)
  bcast_S2048x1_S2048x5_0_1 : S2048x1.BroadcastsInDim S2048x5 (![0, 1] : Fin 2 → Fin S2048x5.rank)
  bcast_S1x5_S2048x5_0_1 : S1x5.BroadcastsInDim S2048x5 (![0, 1] : Fin 2 → Fin S2048x5.rank)
  transposes_S2048x5_S5x2048_1_0 : S2048x5.Transposes [1, 0] S5x2048
  reducesTo_S2048x5_S5_d0 : S2048x5.ReducesTo [0] S5
  bcast_S5x1_S5x128_0_1 : S5x1.BroadcastsInDim S5x128 (![0, 1] : Fin 2 → Fin S5x128.rank)
  transposes_S4x128x5_S4x5x128_0_2_1 : S4x128x5.Transposes [0, 2, 1] S4x5x128
  bcast_S5_S1x5x1_1 : S5.BroadcastsInDim S1x5x1 (![1] : Fin 1 → Fin S1x5x1.rank)
  bcast_S1x5x1_S4x5x128_0_1_2 : S1x5x1.BroadcastsInDim S4x5x128 (![0, 1, 2] : Fin 3 → Fin S4x5x128.rank)
  bcast_S_S2048 : S_.BroadcastsInDim S2048 (![] : Fin 0 → Fin S2048.rank)
  reducesTo_S4x2048x128_S4x2048_d2 : S4x2048x128.ReducesTo [2] S4x2048
  bcast_S_S4x2048 : S_.BroadcastsInDim S4x2048 (![] : Fin 0 → Fin S4x2048.rank)
  reducesTo_S4x2048_S4_d1 : S4x2048.ReducesTo [1] S4
  bcast_S4_S4x1_0 : S4.BroadcastsInDim S4x1 (![0] : Fin 1 → Fin S4x1.rank)
  bcast_S4x1_S4x2048_0_1 : S4x1.BroadcastsInDim S4x2048 (![0, 1] : Fin 2 → Fin S4x2048.rank)
  bcast_S2048_S1x2048_1 : S2048.BroadcastsInDim S1x2048 (![1] : Fin 1 → Fin S1x2048.rank)
  bcast_S1x2048_S4x2048_0_1 : S1x2048.BroadcastsInDim S4x2048 (![0, 1] : Fin 2 → Fin S4x2048.rank)
  reducesTo_S4_S_d0 : S4.ReducesTo [0] S_
  dot_S4x2048x64_S64x32_S4x2048x32_2_0_01_1_n_n_wf : DotDims.WF S4x2048x64 S64x32 S4x2048x32 [2] [0] [0, 1] [1] [] []
  dot_S4x2048x32_S32x128_S4x2048x128_2_0_01_1_n_n_wf : DotDims.WF S4x2048x32 S32x128 S4x2048x128 [2] [0] [0, 1] [1] [] []
  gather_S2048x128_S5x1_S5x128_1_0_n_n_0_1_1128_wf : GatherDims.WF S2048x128 S5x1 S5x128 [1] [0] [] [0] [] 1 ![1, 128]
  dot_S5x2048_S2048x128_S5x128_1_0_0_1_n_n_wf : DotDims.WF S5x2048 S2048x128 S5x128 [1] [0] [0] [1] [] []
  dot_S4x2048x128_S2048x5_S4x128x5_1_0_02_1_n_n_wf : DotDims.WF S4x2048x128 S2048x5 S4x128x5 [1] [0] [0, 2] [1] [] []
  gather_S4x5x128_S2048x1_S4x2048x128_02_1_n_n_1_1_41128_wf : GatherDims.WF S4x5x128 S2048x1 S4x2048x128 [0, 2] [1] [] [1] [] 1 ![4, 1, 128]

variable [Facts]

variable {F : FTy → Type} [FloatOps F]
def dot_S4x2048x64_S64x32_S4x2048x32_2_0_01_1_n_n : DotDims S4x2048x64 S64x32 S4x2048x32 where
  lhsContracting := [2]
  rhsContracting := [0]
  lhsNonContracting := [0, 1]
  rhsNonContracting := [1]
  lhsBatch := []
  rhsBatch := []
  wf := dot_S4x2048x64_S64x32_S4x2048x32_2_0_01_1_n_n_wf
def dot_S4x2048x32_S32x128_S4x2048x128_2_0_01_1_n_n : DotDims S4x2048x32 S32x128 S4x2048x128 where
  lhsContracting := [2]
  rhsContracting := [0]
  lhsNonContracting := [0, 1]
  rhsNonContracting := [1]
  lhsBatch := []
  rhsBatch := []
  wf := dot_S4x2048x32_S32x128_S4x2048x128_2_0_01_1_n_n_wf
def gather_S2048x128_S5x1_S5x128_1_0_n_n_0_1_1128 : GatherDims S2048x128 S5x1 S5x128 where
  offsetDims := [1]
  collapsedSliceDims := [0]
  operandBatchingDims := []
  startIndicesBatchingDims := []
  startIndexMap := [0]
  indexVectorDim := 1
  sliceSizes := ![1, 128]
  wf := gather_S2048x128_S5x1_S5x128_1_0_n_n_0_1_1128_wf
def reducer_argmin_f32_i32 : F .f32 × BitVec 32 → F .f32 × BitVec 32 → F .f32 × BitVec 32 :=
  fun a b =>
    let v2 := FloatOps.cmpf .olt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def dot_S5x2048_S2048x128_S5x128_1_0_0_1_n_n : DotDims S5x2048 S2048x128 S5x128 where
  lhsContracting := [1]
  rhsContracting := [0]
  lhsNonContracting := [0]
  rhsNonContracting := [1]
  lhsBatch := []
  rhsBatch := []
  wf := dot_S5x2048_S2048x128_S5x128_1_0_0_1_n_n_wf
def dot_S4x2048x128_S2048x5_S4x128x5_1_0_02_1_n_n : DotDims S4x2048x128 S2048x5 S4x128x5 where
  lhsContracting := [1]
  rhsContracting := [0]
  lhsNonContracting := [0, 2]
  rhsNonContracting := [1]
  lhsBatch := []
  rhsBatch := []
  wf := dot_S4x2048x128_S2048x5_S4x128x5_1_0_02_1_n_n_wf
def gather_S4x5x128_S2048x1_S4x2048x128_02_1_n_n_1_1_41128 : GatherDims S4x5x128 S2048x1 S4x2048x128 where
  offsetDims := [0, 2]
  collapsedSliceDims := [1]
  operandBatchingDims := []
  startIndicesBatchingDims := []
  startIndexMap := [1]
  indexVectorDim := 1
  sliceSizes := ![4, 1, 128]
  wf := gather_S4x5x128_S2048x1_S4x2048x128_02_1_n_n_1_1_41128_wf

def fn_relu {F : FTy → Type} [FloatOps F] (arg0 : FVec F S4x2048x32 .f32) : FVec F S4x2048x32 .f32 :=
  let cst : FVec F S_ .f32 := constant S_ .f32 0x00000000#32
  let v0 : FVec F S4x2048x32 .f32 := broadcastInDim S4x2048x32 ![] bcast_S_S4x2048x32 cst
  let v1 : FVec F S4x2048x32 .f32 := maximumf arg0 v0
  v1

def fn_relu_0 {F : FTy → Type} [FloatOps F] (arg0 : FVec F S4x2048x128 .f32) : FVec F S4x2048x128 .f32 :=
  let cst : FVec F S_ .f32 := constant S_ .f32 0x00000000#32
  let v0 : FVec F S4x2048x128 .f32 := broadcastInDim S4x2048x128 ![] bcast_S_S4x2048x128 cst
  let v1 : FVec F S4x2048x128 .f32 := maximumf arg0 v0
  v1

def fn_linspace {F : FTy → Type} [FloatOps F] (arg0 : IVec S_ 32) (arg1 : IVec S_ 32) : FVec F S5 .f32 :=
  let v0 : FVec F S_ .f32 := sitofp .f32 arg0
  let v1 : FVec F S_ .f32 := sitofp .f32 arg1
  let v2 : FVec F S_ .f32 := subf v1 v0
  let cst : FVec F S_ .f32 := constant S_ .f32 0x40800000#32
  let v3 : FVec F S_ .f32 := Host.divf v2 cst
  let v4 : FVec F S4 .f32 := sitofp .f32 (iotaInDim S4 32 0)
  let cst_0 : FVec F S_ .f32 := constant S_ .f32 0x40800000#32
  let v5 : FVec F S4 .f32 := broadcastInDim S4 ![] bcast_S_S4 cst_0
  let v6 : FVec F S4 .f32 := Host.divf v4 v5
  let v7 : FVec F S1 .f32 := shapeCast S1 v0 shapeCasts_S_S1
  let cst_1 : FVec F S_ .f32 := constant S_ .f32 0x3F800000#32
  let v8 : FVec F S4 .f32 := broadcastInDim S4 ![] bcast_S_S4 cst_1
  let v9 : FVec F S4 .f32 := subf v8 v6
  let v10 : FVec F S4 .f32 := broadcastInDim S4 ![0] bcast_S1_S4_0 v7
  let v11 : FVec F S4 .f32 := mulf v10 v9
  let v12 : FVec F S1 .f32 := shapeCast S1 v1 shapeCasts_S_S1
  let v13 : FVec F S4 .f32 := broadcastInDim S4 ![0] bcast_S1_S4_0 v12
  let v14 : FVec F S4 .f32 := mulf v13 v6
  let v15 : FVec F S4 .f32 := addf v11 v14
  let v16 : FVec F S1 .f32 := broadcastInDim S1 ![] bcast_S_S1 v1
  let v17 : FVec F S5 .f32 := (fun a b => concatenate S5 0 [⟨S4, a⟩, ⟨S1, b⟩] concatenates_S4_S1_S5_d0) v15 v16
  v17

def fn_argmin {F : FTy → Type} [FloatOps F] (arg0 : FVec F S2048x5 .f32) : IVec S2048 32 :=
  let v0 : IVec S2048x5 32 := iotaInDim S2048x5 32 1
  let cst : FVec F S_ .f32 := constant S_ .f32 0x7F800000#32
  let c : IVec S_ 32 := constantI S_ 32 0#32
  let v1_0 : FVec F S2048 .f32 := (fun x y u v j => (Host.argReduce reducer_argmin_f32_i32 x y u v reducesTo_S2048x5_S2048_d1 h_S_ j).1) arg0 v0 cst c
  let v1_1 : IVec S2048 32 := (fun x y u v j => (Host.argReduce reducer_argmin_f32_i32 x y u v reducesTo_S2048x5_S2048_d1 h_S_ j).2) arg0 v0 cst c
  v1_1

def fn_one_hot {F : FTy → Type} [FloatOps F] (arg0 : IVec S2048 32) : FVec F S2048x5 .f32 :=
  let v0 : IVec S2048x1 32 := broadcastInDim S2048x1 ![0] bcast_S2048_S2048x1_0 arg0
  let v1 : IVec S1x5 32 := iotaInDim S1x5 32 1
  let v2 : IVec S2048x5 32 := broadcastInDim S2048x5 ![0, 1] bcast_S2048x1_S2048x5_0_1 v0
  let v3 : IVec S2048x5 32 := broadcastInDim S2048x5 ![0, 1] bcast_S1x5_S2048x5_0_1 v1
  let v4 : IVec S2048x5 1 := cmpi .eq v2 v3
  let v5 : FVec F S2048x5 .f32 := uitofp .f32 v4
  v5

def fn_part11 {F : FTy → Type} [FloatOps F] (main_arg5 : IVec S_ 32) (main_v220 : FVec F S4x2048 .f32) (main_v221 : IVec S1x2048 32) : IVec S_ 1 :=
  let main_v222 : FVec F S1x2048 .f32 := sitofp .f32 main_v221
  let main_v223 : FVec F S4x2048 .f32 := broadcastInDim S4x2048 ![0, 1] bcast_S1x2048_S4x2048_0_1 main_v222
  let main_v224 : FVec F S4x2048 .f32 := addf main_v220 main_v223
  let main_c_40 : IVec S_ 32 := constantI S_ 32 0#32
  let main_v225 : IVec S_ 1 := cmpi .ne main_arg5 main_c_40
  let main_cst_41 : FVec F S_ .f32 := constant S_ .f32 0xFF800000#32
  let main_v226 : FVec F S4 .f32 := (fun x v => Host.reduce FloatOps.maximumf x v reducesTo_S4x2048_S4_d1 h_S_) main_v224 main_cst_41
  let main_cst_42 : FVec F S_ .f32 := constant S_ .f32 0x7F800000#32
  let main_v227 : FVec F S4 .f32 := (fun x v => Host.reduce FloatOps.minimumf x v reducesTo_S4x2048_S4_d1 h_S_) main_v224 main_cst_42
  let main_v228 : IVec S4 1 := cmpf .ogt main_v226 main_v227
  let main_c_43 : IVec S_ 1 := constantI S_ 1 1#1
  let main_v229 : IVec S_ 1 := (fun x v => Host.reduce IntOp.andi x v reducesTo_S4_S_d0 h_S_) main_v228 main_c_43
  let main_v230 : IVec S_ 1 := andi main_v225 main_v229
  main_v230

def fn_part10 {F : FTy → Type} [FloatOps F] (main_arg5 : IVec S_ 32) (main_v9 : FVec F S4x2048x128 .f32) (main_v181 : IVec S2048 32) (main_v199 : FVec F S4x5x128 .f32) (main_v201 : IVec S2048 1) (main_c_35 : IVec S_ 32) : IVec S_ 1 :=
  let main_v202 : IVec S2048 32 := broadcastInDim S2048 ![] bcast_S_S2048 main_c_35
  let main_v203 : IVec S2048 32 := addi main_v181 main_v202
  let main_v204 : IVec S2048 32 := select main_v201 main_v203 main_v181
  let main_v205 : IVec S2048x1 32 := broadcastInDim S2048x1 ![0] bcast_S2048_S2048x1_0 main_v204
  let main_v206 : FVec F S4x2048x128 .f32 := (fun x i => Host.gather gather_S4x5x128_S2048x1_S4x2048x128_02_1_n_n_1_1_41128 x i) main_v199 main_v205
  let main_v207 : FVec F S4x2048x128 .f32 := subf main_v9 main_v206
  let main_v208 : FVec F S4x2048x128 .f32 := mulf main_v207 main_v207
  let main_cst_36 : FVec F S_ .f32 := constant S_ .f32 0x00000000#32
  let main_v209 : FVec F S4x2048 .f32 := (fun x v => Host.reduceAdd x v reducesTo_S4x2048x128_S4x2048_d2 h_S_) main_v208 main_cst_36
  let main_cst_37 : FVec F S_ .f32 := constant S_ .f32 0x43000000#32
  let main_v210 : FVec F S4x2048 .f32 := broadcastInDim S4x2048 ![] bcast_S_S4x2048 main_cst_37
  let main_v211 : FVec F S4x2048 .f32 := Host.divf main_v209 main_v210
  let main_cst_38 : FVec F S_ .f32 := constant S_ .f32 0x7F800000#32
  let main_v212 : FVec F S4 .f32 := (fun x v => Host.reduce FloatOps.minimumf x v reducesTo_S4x2048_S4_d1 h_S_) main_v211 main_cst_38
  let main_v213 : FVec F S4x1 .f32 := broadcastInDim S4x1 ![0] bcast_S4_S4x1_0 main_v212
  let main_cst_39 : FVec F S_ .f32 := constant S_ .f32 0xFF800000#32
  let main_v214 : FVec F S4 .f32 := (fun x v => Host.reduce FloatOps.maximumf x v reducesTo_S4x2048_S4_d1 h_S_) main_v211 main_cst_39
  let main_v215 : FVec F S4x1 .f32 := broadcastInDim S4x1 ![0] bcast_S4_S4x1_0 main_v214
  let main_v216 : FVec F S4x2048 .f32 := broadcastInDim S4x2048 ![0, 1] bcast_S4x1_S4x2048_0_1 main_v213
  let main_v217 : FVec F S4x2048 .f32 := subf main_v211 main_v216
  let main_v218 : FVec F S4x1 .f32 := subf main_v215 main_v213
  let main_v219 : FVec F S4x2048 .f32 := broadcastInDim S4x2048 ![0, 1] bcast_S4x1_S4x2048_0_1 main_v218
  let main_v220 : FVec F S4x2048 .f32 := Host.divf main_v217 main_v219
  let main_v221 : IVec S1x2048 32 := broadcastInDim S1x2048 ![1] bcast_S2048_S1x2048_1 main_v181
  fn_part11 (F := F) main_arg5 main_v220 main_v221

def fn_part9 {F : FTy → Type} [FloatOps F] (main_arg5 : IVec S_ 32) (main_v9 : FVec F S4x2048x128 .f32) (main_v11 : FVec F S2048x128 .f32) (main_v181 : IVec S2048 32) (main_v182 : FVec F S2048x5 .f32) (main_v183 : FVec F S5x2048 .f32) : IVec S_ 1 :=
  let main_v184 : FVec F S5x128 .f32 := (fun l r => Host.dotGeneral dot_S5x2048_S2048x128_S5x128_1_0_0_1_n_n none l r) main_v183 main_v11
  let main_cst_30 : FVec F S_ .f32 := constant S_ .f32 0x00000000#32
  let main_v185 : FVec F S5 .f32 := (fun x v => Host.reduceAdd x v reducesTo_S2048x5_S5_d0 h_S_) main_v182 main_cst_30
  let main_cst_31 : FVec F S_ .f32 := constant S_ .f32 0x3F800000#32
  let main_v186 : FVec F S5 .f32 := broadcastInDim S5 ![] bcast_S_S5 main_cst_31
  let main_v187 : FVec F S5 .f32 := maximumf main_v185 main_v186
  let main_v188 : FVec F S5x1 .f32 := broadcastInDim S5x1 ![0] bcast_S5_S5x1_0 main_v187
  let main_v189 : FVec F S5x128 .f32 := broadcastInDim S5x128 ![0, 1] bcast_S5x1_S5x128_0_1 main_v188
  let main_v190 : FVec F S5x128 .f32 := Host.divf main_v184 main_v189
  let main_v191 : FVec F S2048x5 .f32 := fn_one_hot (F := F) main_v181
  let main_v192 : FVec F S4x128x5 .f32 := (fun l r => Host.dotGeneral dot_S4x2048x128_S2048x5_S4x128x5_1_0_02_1_n_n none l r) main_v9 main_v191
  let main_v193 : FVec F S4x5x128 .f32 := (transpose S4x5x128 [0, 2, 1] · transposes_S4x128x5_S4x5x128_0_2_1) main_v192
  let main_cst_32 : FVec F S_ .f32 := constant S_ .f32 0x00000000#32
  let main_v194 : FVec F S5 .f32 := (fun x v => Host.reduceAdd x v reducesTo_S2048x5_S5_d0 h_S_) main_v191 main_cst_32
  let main_cst_33 : FVec F S_ .f32 := constant S_ .f32 0x3F800000#32
  let main_v195 : FVec F S5 .f32 := broadcastInDim S5 ![] bcast_S_S5 main_cst_33
  let main_v196 : FVec F S5 .f32 := maximumf main_v194 main_v195
  let main_v197 : FVec F S1x5x1 .f32 := broadcastInDim S1x5x1 ![1] bcast_S5_S1x5x1_1 main_v196
  let main_v198 : FVec F S4x5x128 .f32 := broadcastInDim S4x5x128 ![0, 1, 2] bcast_S1x5x1_S4x5x128_0_1_2 main_v197
  let main_v199 : FVec F S4x5x128 .f32 := Host.divf main_v193 main_v198
  let main_c_34 : IVec S_ 32 := constantI S_ 32 0#32
  let main_v200 : IVec S2048 32 := broadcastInDim S2048 ![] bcast_S_S2048 main_c_34
  let main_v201 : IVec S2048 1 := cmpi .slt main_v181 main_v200
  let main_c_35 : IVec S_ 32 := constantI S_ 32 5#32
  fn_part10 (F := F) main_arg5 main_v9 main_v181 main_v199 main_v201 main_c_35

def fn_part8 {F : FTy → Type} [FloatOps F] (main_arg5 : IVec S_ 32) (main_v9 : FVec F S4x2048x128 .f32) (main_v11 : FVec F S2048x128 .f32) (main_v162 : FVec F S2048x5x128 .f32) (main_cst_26 : FVec F S_ .f32) : IVec S_ 1 :=
  let main_v163 : FVec F S2048x5 .f32 := (fun x v => Host.reduceAdd x v reducesTo_S2048x5x128_S2048x5_d2 h_S_) main_v162 main_cst_26
  let main_v164 : IVec S2048 32 := fn_argmin (F := F) main_v163
  let main_v165 : FVec F S2048x5 .f32 := fn_one_hot (F := F) main_v164
  let main_v166 : FVec F S5x2048 .f32 := (transpose S5x2048 [1, 0] · transposes_S2048x5_S5x2048_1_0) main_v165
  let main_v167 : FVec F S5x128 .f32 := (fun l r => Host.dotGeneral dot_S5x2048_S2048x128_S5x128_1_0_0_1_n_n none l r) main_v166 main_v11
  let main_cst_27 : FVec F S_ .f32 := constant S_ .f32 0x00000000#32
  let main_v168 : FVec F S5 .f32 := (fun x v => Host.reduceAdd x v reducesTo_S2048x5_S5_d0 h_S_) main_v165 main_cst_27
  let main_cst_28 : FVec F S_ .f32 := constant S_ .f32 0x3F800000#32
  let main_v169 : FVec F S5 .f32 := broadcastInDim S5 ![] bcast_S_S5 main_cst_28
  let main_v170 : FVec F S5 .f32 := maximumf main_v168 main_v169
  let main_v171 : FVec F S5x1 .f32 := broadcastInDim S5x1 ![0] bcast_S5_S5x1_0 main_v170
  let main_v172 : FVec F S5x128 .f32 := broadcastInDim S5x128 ![0, 1] bcast_S5x1_S5x128_0_1 main_v171
  let main_v173 : FVec F S5x128 .f32 := Host.divf main_v167 main_v172
  let main_v174 : FVec F S2048x1x128 .f32 := broadcastInDim S2048x1x128 ![0, 2] bcast_S2048x128_S2048x1x128_0_2 main_v11
  let main_v175 : FVec F S1x5x128 .f32 := broadcastInDim S1x5x128 ![1, 2] bcast_S5x128_S1x5x128_1_2 main_v173
  let main_v176 : FVec F S2048x5x128 .f32 := broadcastInDim S2048x5x128 ![0, 1, 2] bcast_S2048x1x128_S2048x5x128_0_1_2 main_v174
  let main_v177 : FVec F S2048x5x128 .f32 := broadcastInDim S2048x5x128 ![0, 1, 2] bcast_S1x5x128_S2048x5x128_0_1_2 main_v175
  let main_v178 : FVec F S2048x5x128 .f32 := subf main_v176 main_v177
  let main_v179 : FVec F S2048x5x128 .f32 := mulf main_v178 main_v178
  let main_cst_29 : FVec F S_ .f32 := constant S_ .f32 0x00000000#32
  let main_v180 : FVec F S2048x5 .f32 := (fun x v => Host.reduceAdd x v reducesTo_S2048x5x128_S2048x5_d2 h_S_) main_v179 main_cst_29
  let main_v181 : IVec S2048 32 := fn_argmin (F := F) main_v180
  let main_v182 : FVec F S2048x5 .f32 := fn_one_hot (F := F) main_v181
  let main_v183 : FVec F S5x2048 .f32 := (transpose S5x2048 [1, 0] · transposes_S2048x5_S5x2048_1_0) main_v182
  fn_part9 (F := F) main_arg5 main_v9 main_v11 main_v181 main_v182 main_v183

def fn_part7 {F : FTy → Type} [FloatOps F] (main_arg5 : IVec S_ 32) (main_v9 : FVec F S4x2048x128 .f32) (main_v11 : FVec F S2048x128 .f32) (main_v141 : FVec F S1x5x128 .f32) (main_v142 : FVec F S2048x5x128 .f32) : IVec S_ 1 :=
  let main_v143 : FVec F S2048x5x128 .f32 := broadcastInDim S2048x5x128 ![0, 1, 2] bcast_S1x5x128_S2048x5x128_0_1_2 main_v141
  let main_v144 : FVec F S2048x5x128 .f32 := subf main_v142 main_v143
  let main_v145 : FVec F S2048x5x128 .f32 := mulf main_v144 main_v144
  let main_cst_23 : FVec F S_ .f32 := constant S_ .f32 0x00000000#32
  let main_v146 : FVec F S2048x5 .f32 := (fun x v => Host.reduceAdd x v reducesTo_S2048x5x128_S2048x5_d2 h_S_) main_v145 main_cst_23
  let main_v147 : IVec S2048 32 := fn_argmin (F := F) main_v146
  let main_v148 : FVec F S2048x5 .f32 := fn_one_hot (F := F) main_v147
  let main_v149 : FVec F S5x2048 .f32 := (transpose S5x2048 [1, 0] · transposes_S2048x5_S5x2048_1_0) main_v148
  let main_v150 : FVec F S5x128 .f32 := (fun l r => Host.dotGeneral dot_S5x2048_S2048x128_S5x128_1_0_0_1_n_n none l r) main_v149 main_v11
  let main_cst_24 : FVec F S_ .f32 := constant S_ .f32 0x00000000#32
  let main_v151 : FVec F S5 .f32 := (fun x v => Host.reduceAdd x v reducesTo_S2048x5_S5_d0 h_S_) main_v148 main_cst_24
  let main_cst_25 : FVec F S_ .f32 := constant S_ .f32 0x3F800000#32
  let main_v152 : FVec F S5 .f32 := broadcastInDim S5 ![] bcast_S_S5 main_cst_25
  let main_v153 : FVec F S5 .f32 := maximumf main_v151 main_v152
  let main_v154 : FVec F S5x1 .f32 := broadcastInDim S5x1 ![0] bcast_S5_S5x1_0 main_v153
  let main_v155 : FVec F S5x128 .f32 := broadcastInDim S5x128 ![0, 1] bcast_S5x1_S5x128_0_1 main_v154
  let main_v156 : FVec F S5x128 .f32 := Host.divf main_v150 main_v155
  let main_v157 : FVec F S2048x1x128 .f32 := broadcastInDim S2048x1x128 ![0, 2] bcast_S2048x128_S2048x1x128_0_2 main_v11
  let main_v158 : FVec F S1x5x128 .f32 := broadcastInDim S1x5x128 ![1, 2] bcast_S5x128_S1x5x128_1_2 main_v156
  let main_v159 : FVec F S2048x5x128 .f32 := broadcastInDim S2048x5x128 ![0, 1, 2] bcast_S2048x1x128_S2048x5x128_0_1_2 main_v157
  let main_v160 : FVec F S2048x5x128 .f32 := broadcastInDim S2048x5x128 ![0, 1, 2] bcast_S1x5x128_S2048x5x128_0_1_2 main_v158
  let main_v161 : FVec F S2048x5x128 .f32 := subf main_v159 main_v160
  let main_v162 : FVec F S2048x5x128 .f32 := mulf main_v161 main_v161
  let main_cst_26 : FVec F S_ .f32 := constant S_ .f32 0x00000000#32
  fn_part8 (F := F) main_arg5 main_v9 main_v11 main_v162 main_cst_26

def fn_part6 {F : FTy → Type} [FloatOps F] (main_arg5 : IVec S_ 32) (main_v9 : FVec F S4x2048x128 .f32) (main_v11 : FVec F S2048x128 .f32) (main_v116 : FVec F S5x128 .f32) (main_v121 : FVec F S5x128 .f32) : IVec S_ 1 :=
  let main_v122 : FVec F S5x128 .f32 := Host.divf main_v116 main_v121
  let main_v123 : FVec F S2048x1x128 .f32 := broadcastInDim S2048x1x128 ![0, 2] bcast_S2048x128_S2048x1x128_0_2 main_v11
  let main_v124 : FVec F S1x5x128 .f32 := broadcastInDim S1x5x128 ![1, 2] bcast_S5x128_S1x5x128_1_2 main_v122
  let main_v125 : FVec F S2048x5x128 .f32 := broadcastInDim S2048x5x128 ![0, 1, 2] bcast_S2048x1x128_S2048x5x128_0_1_2 main_v123
  let main_v126 : FVec F S2048x5x128 .f32 := broadcastInDim S2048x5x128 ![0, 1, 2] bcast_S1x5x128_S2048x5x128_0_1_2 main_v124
  let main_v127 : FVec F S2048x5x128 .f32 := subf main_v125 main_v126
  let main_v128 : FVec F S2048x5x128 .f32 := mulf main_v127 main_v127
  let main_cst_20 : FVec F S_ .f32 := constant S_ .f32 0x00000000#32
  let main_v129 : FVec F S2048x5 .f32 := (fun x v => Host.reduceAdd x v reducesTo_S2048x5x128_S2048x5_d2 h_S_) main_v128 main_cst_20
  let main_v130 : IVec S2048 32 := fn_argmin (F := F) main_v129
  let main_v131 : FVec F S2048x5 .f32 := fn_one_hot (F := F) main_v130
  let main_v132 : FVec F S5x2048 .f32 := (transpose S5x2048 [1, 0] · transposes_S2048x5_S5x2048_1_0) main_v131
  let main_v133 : FVec F S5x128 .f32 := (fun l r => Host.dotGeneral dot_S5x2048_S2048x128_S5x128_1_0_0_1_n_n none l r) main_v132 main_v11
  let main_cst_21 : FVec F S_ .f32 := constant S_ .f32 0x00000000#32
  let main_v134 : FVec F S5 .f32 := (fun x v => Host.reduceAdd x v reducesTo_S2048x5_S5_d0 h_S_) main_v131 main_cst_21
  let main_cst_22 : FVec F S_ .f32 := constant S_ .f32 0x3F800000#32
  let main_v135 : FVec F S5 .f32 := broadcastInDim S5 ![] bcast_S_S5 main_cst_22
  let main_v136 : FVec F S5 .f32 := maximumf main_v134 main_v135
  let main_v137 : FVec F S5x1 .f32 := broadcastInDim S5x1 ![0] bcast_S5_S5x1_0 main_v136
  let main_v138 : FVec F S5x128 .f32 := broadcastInDim S5x128 ![0, 1] bcast_S5x1_S5x128_0_1 main_v137
  let main_v139 : FVec F S5x128 .f32 := Host.divf main_v133 main_v138
  let main_v140 : FVec F S2048x1x128 .f32 := broadcastInDim S2048x1x128 ![0, 2] bcast_S2048x128_S2048x1x128_0_2 main_v11
  let main_v141 : FVec F S1x5x128 .f32 := broadcastInDim S1x5x128 ![1, 2] bcast_S5x128_S1x5x128_1_2 main_v139
  let main_v142 : FVec F S2048x5x128 .f32 := broadcastInDim S2048x5x128 ![0, 1, 2] bcast_S2048x1x128_S2048x5x128_0_1_2 main_v140
  fn_part7 (F := F) main_arg5 main_v9 main_v11 main_v141 main_v142

def fn_part5 {F : FTy → Type} [FloatOps F] (main_arg5 : IVec S_ 32) (main_v9 : FVec F S4x2048x128 .f32) (main_v11 : FVec F S2048x128 .f32) (main_v99 : FVec F S5x128 .f32) (main_v100 : FVec F S5 .f32) (main_cst_16 : FVec F S_ .f32) : IVec S_ 1 :=
  let main_v101 : FVec F S5 .f32 := broadcastInDim S5 ![] bcast_S_S5 main_cst_16
  let main_v102 : FVec F S5 .f32 := maximumf main_v100 main_v101
  let main_v103 : FVec F S5x1 .f32 := broadcastInDim S5x1 ![0] bcast_S5_S5x1_0 main_v102
  let main_v104 : FVec F S5x128 .f32 := broadcastInDim S5x128 ![0, 1] bcast_S5x1_S5x128_0_1 main_v103
  let main_v105 : FVec F S5x128 .f32 := Host.divf main_v99 main_v104
  let main_v106 : FVec F S2048x1x128 .f32 := broadcastInDim S2048x1x128 ![0, 2] bcast_S2048x128_S2048x1x128_0_2 main_v11
  let main_v107 : FVec F S1x5x128 .f32 := broadcastInDim S1x5x128 ![1, 2] bcast_S5x128_S1x5x128_1_2 main_v105
  let main_v108 : FVec F S2048x5x128 .f32 := broadcastInDim S2048x5x128 ![0, 1, 2] bcast_S2048x1x128_S2048x5x128_0_1_2 main_v106
  let main_v109 : FVec F S2048x5x128 .f32 := broadcastInDim S2048x5x128 ![0, 1, 2] bcast_S1x5x128_S2048x5x128_0_1_2 main_v107
  let main_v110 : FVec F S2048x5x128 .f32 := subf main_v108 main_v109
  let main_v111 : FVec F S2048x5x128 .f32 := mulf main_v110 main_v110
  let main_cst_17 : FVec F S_ .f32 := constant S_ .f32 0x00000000#32
  let main_v112 : FVec F S2048x5 .f32 := (fun x v => Host.reduceAdd x v reducesTo_S2048x5x128_S2048x5_d2 h_S_) main_v111 main_cst_17
  let main_v113 : IVec S2048 32 := fn_argmin (F := F) main_v112
  let main_v114 : FVec F S2048x5 .f32 := fn_one_hot (F := F) main_v113
  let main_v115 : FVec F S5x2048 .f32 := (transpose S5x2048 [1, 0] · transposes_S2048x5_S5x2048_1_0) main_v114
  let main_v116 : FVec F S5x128 .f32 := (fun l r => Host.dotGeneral dot_S5x2048_S2048x128_S5x128_1_0_0_1_n_n none l r) main_v115 main_v11
  let main_cst_18 : FVec F S_ .f32 := constant S_ .f32 0x00000000#32
  let main_v117 : FVec F S5 .f32 := (fun x v => Host.reduceAdd x v reducesTo_S2048x5_S5_d0 h_S_) main_v114 main_cst_18
  let main_cst_19 : FVec F S_ .f32 := constant S_ .f32 0x3F800000#32
  let main_v118 : FVec F S5 .f32 := broadcastInDim S5 ![] bcast_S_S5 main_cst_19
  let main_v119 : FVec F S5 .f32 := maximumf main_v117 main_v118
  let main_v120 : FVec F S5x1 .f32 := broadcastInDim S5x1 ![0] bcast_S5_S5x1_0 main_v119
  let main_v121 : FVec F S5x128 .f32 := broadcastInDim S5x128 ![0, 1] bcast_S5x1_S5x128_0_1 main_v120
  fn_part6 (F := F) main_arg5 main_v9 main_v11 main_v116 main_v121

def fn_part4 {F : FTy → Type} [FloatOps F] (main_arg5 : IVec S_ 32) (main_v9 : FVec F S4x2048x128 .f32) (main_v11 : FVec F S2048x128 .f32) (main_v80 : FVec F S2048x5 .f32) (main_v81 : FVec F S5x2048 .f32) : IVec S_ 1 :=
  let main_v82 : FVec F S5x128 .f32 := (fun l r => Host.dotGeneral dot_S5x2048_S2048x128_S5x128_1_0_0_1_n_n none l r) main_v81 main_v11
  let main_cst_12 : FVec F S_ .f32 := constant S_ .f32 0x00000000#32
  let main_v83 : FVec F S5 .f32 := (fun x v => Host.reduceAdd x v reducesTo_S2048x5_S5_d0 h_S_) main_v80 main_cst_12
  let main_cst_13 : FVec F S_ .f32 := constant S_ .f32 0x3F800000#32
  let main_v84 : FVec F S5 .f32 := broadcastInDim S5 ![] bcast_S_S5 main_cst_13
  let main_v85 : FVec F S5 .f32 := maximumf main_v83 main_v84
  let main_v86 : FVec F S5x1 .f32 := broadcastInDim S5x1 ![0] bcast_S5_S5x1_0 main_v85
  let main_v87 : FVec F S5x128 .f32 := broadcastInDim S5x128 ![0, 1] bcast_S5x1_S5x128_0_1 main_v86
  let main_v88 : FVec F S5x128 .f32 := Host.divf main_v82 main_v87
  let main_v89 : FVec F S2048x1x128 .f32 := broadcastInDim S2048x1x128 ![0, 2] bcast_S2048x128_S2048x1x128_0_2 main_v11
  let main_v90 : FVec F S1x5x128 .f32 := broadcastInDim S1x5x128 ![1, 2] bcast_S5x128_S1x5x128_1_2 main_v88
  let main_v91 : FVec F S2048x5x128 .f32 := broadcastInDim S2048x5x128 ![0, 1, 2] bcast_S2048x1x128_S2048x5x128_0_1_2 main_v89
  let main_v92 : FVec F S2048x5x128 .f32 := broadcastInDim S2048x5x128 ![0, 1, 2] bcast_S1x5x128_S2048x5x128_0_1_2 main_v90
  let main_v93 : FVec F S2048x5x128 .f32 := subf main_v91 main_v92
  let main_v94 : FVec F S2048x5x128 .f32 := mulf main_v93 main_v93
  let main_cst_14 : FVec F S_ .f32 := constant S_ .f32 0x00000000#32
  let main_v95 : FVec F S2048x5 .f32 := (fun x v => Host.reduceAdd x v reducesTo_S2048x5x128_S2048x5_d2 h_S_) main_v94 main_cst_14
  let main_v96 : IVec S2048 32 := fn_argmin (F := F) main_v95
  let main_v97 : FVec F S2048x5 .f32 := fn_one_hot (F := F) main_v96
  let main_v98 : FVec F S5x2048 .f32 := (transpose S5x2048 [1, 0] · transposes_S2048x5_S5x2048_1_0) main_v97
  let main_v99 : FVec F S5x128 .f32 := (fun l r => Host.dotGeneral dot_S5x2048_S2048x128_S5x128_1_0_0_1_n_n none l r) main_v98 main_v11
  let main_cst_15 : FVec F S_ .f32 := constant S_ .f32 0x00000000#32
  let main_v100 : FVec F S5 .f32 := (fun x v => Host.reduceAdd x v reducesTo_S2048x5_S5_d0 h_S_) main_v97 main_cst_15
  let main_cst_16 : FVec F S_ .f32 := constant S_ .f32 0x3F800000#32
  fn_part5 (F := F) main_arg5 main_v9 main_v11 main_v99 main_v100 main_cst_16

def fn_part3 {F : FTy → Type} [FloatOps F] (main_arg5 : IVec S_ 32) (main_v9 : FVec F S4x2048x128 .f32) (main_v11 : FVec F S2048x128 .f32) (main_v60 : FVec F S2048x5x128 .f32) (main_cst_8 : FVec F S_ .f32) : IVec S_ 1 :=
  let main_v61 : FVec F S2048x5 .f32 := (fun x v => Host.reduceAdd x v reducesTo_S2048x5x128_S2048x5_d2 h_S_) main_v60 main_cst_8
  let main_v62 : IVec S2048 32 := fn_argmin (F := F) main_v61
  let main_v63 : FVec F S2048x5 .f32 := fn_one_hot (F := F) main_v62
  let main_v64 : FVec F S5x2048 .f32 := (transpose S5x2048 [1, 0] · transposes_S2048x5_S5x2048_1_0) main_v63
  let main_v65 : FVec F S5x128 .f32 := (fun l r => Host.dotGeneral dot_S5x2048_S2048x128_S5x128_1_0_0_1_n_n none l r) main_v64 main_v11
  let main_cst_9 : FVec F S_ .f32 := constant S_ .f32 0x00000000#32
  let main_v66 : FVec F S5 .f32 := (fun x v => Host.reduceAdd x v reducesTo_S2048x5_S5_d0 h_S_) main_v63 main_cst_9
  let main_cst_10 : FVec F S_ .f32 := constant S_ .f32 0x3F800000#32
  let main_v67 : FVec F S5 .f32 := broadcastInDim S5 ![] bcast_S_S5 main_cst_10
  let main_v68 : FVec F S5 .f32 := maximumf main_v66 main_v67
  let main_v69 : FVec F S5x1 .f32 := broadcastInDim S5x1 ![0] bcast_S5_S5x1_0 main_v68
  let main_v70 : FVec F S5x128 .f32 := broadcastInDim S5x128 ![0, 1] bcast_S5x1_S5x128_0_1 main_v69
  let main_v71 : FVec F S5x128 .f32 := Host.divf main_v65 main_v70
  let main_v72 : FVec F S2048x1x128 .f32 := broadcastInDim S2048x1x128 ![0, 2] bcast_S2048x128_S2048x1x128_0_2 main_v11
  let main_v73 : FVec F S1x5x128 .f32 := broadcastInDim S1x5x128 ![1, 2] bcast_S5x128_S1x5x128_1_2 main_v71
  let main_v74 : FVec F S2048x5x128 .f32 := broadcastInDim S2048x5x128 ![0, 1, 2] bcast_S2048x1x128_S2048x5x128_0_1_2 main_v72
  let main_v75 : FVec F S2048x5x128 .f32 := broadcastInDim S2048x5x128 ![0, 1, 2] bcast_S1x5x128_S2048x5x128_0_1_2 main_v73
  let main_v76 : FVec F S2048x5x128 .f32 := subf main_v74 main_v75
  let main_v77 : FVec F S2048x5x128 .f32 := mulf main_v76 main_v76
  let main_cst_11 : FVec F S_ .f32 := constant S_ .f32 0x00000000#32
  let main_v78 : FVec F S2048x5 .f32 := (fun x v => Host.reduceAdd x v reducesTo_S2048x5x128_S2048x5_d2 h_S_) main_v77 main_cst_11
  let main_v79 : IVec S2048 32 := fn_argmin (F := F) main_v78
  let main_v80 : FVec F S2048x5 .f32 := fn_one_hot (F := F) main_v79
  let main_v81 : FVec F S5x2048 .f32 := (transpose S5x2048 [1, 0] · transposes_S2048x5_S5x2048_1_0) main_v80
  fn_part4 (F := F) main_arg5 main_v9 main_v11 main_v80 main_v81

def fn_part2 {F : FTy → Type} [FloatOps F] (main_arg5 : IVec S_ 32) (main_v9 : FVec F S4x2048x128 .f32) (main_v11 : FVec F S2048x128 .f32) (main_v39 : FVec F S1x5x128 .f32) (main_v40 : FVec F S2048x5x128 .f32) : IVec S_ 1 :=
  let main_v41 : FVec F S2048x5x128 .f32 := broadcastInDim S2048x5x128 ![0, 1, 2] bcast_S1x5x128_S2048x5x128_0_1_2 main_v39
  let main_v42 : FVec F S2048x5x128 .f32 := subf main_v40 main_v41
  let main_v43 : FVec F S2048x5x128 .f32 := mulf main_v42 main_v42
  let main_cst_5 : FVec F S_ .f32 := constant S_ .f32 0x00000000#32
  let main_v44 : FVec F S2048x5 .f32 := (fun x v => Host.reduceAdd x v reducesTo_S2048x5x128_S2048x5_d2 h_S_) main_v43 main_cst_5
  let main_v45 : IVec S2048 32 := fn_argmin (F := F) main_v44
  let main_v46 : FVec F S2048x5 .f32 := fn_one_hot (F := F) main_v45
  let main_v47 : FVec F S5x2048 .f32 := (transpose S5x2048 [1, 0] · transposes_S2048x5_S5x2048_1_0) main_v46
  let main_v48 : FVec F S5x128 .f32 := (fun l r => Host.dotGeneral dot_S5x2048_S2048x128_S5x128_1_0_0_1_n_n none l r) main_v47 main_v11
  let main_cst_6 : FVec F S_ .f32 := constant S_ .f32 0x00000000#32
  let main_v49 : FVec F S5 .f32 := (fun x v => Host.reduceAdd x v reducesTo_S2048x5_S5_d0 h_S_) main_v46 main_cst_6
  let main_cst_7 : FVec F S_ .f32 := constant S_ .f32 0x3F800000#32
  let main_v50 : FVec F S5 .f32 := broadcastInDim S5 ![] bcast_S_S5 main_cst_7
  let main_v51 : FVec F S5 .f32 := maximumf main_v49 main_v50
  let main_v52 : FVec F S5x1 .f32 := broadcastInDim S5x1 ![0] bcast_S5_S5x1_0 main_v51
  let main_v53 : FVec F S5x128 .f32 := broadcastInDim S5x128 ![0, 1] bcast_S5x1_S5x128_0_1 main_v52
  let main_v54 : FVec F S5x128 .f32 := Host.divf main_v48 main_v53
  let main_v55 : FVec F S2048x1x128 .f32 := broadcastInDim S2048x1x128 ![0, 2] bcast_S2048x128_S2048x1x128_0_2 main_v11
  let main_v56 : FVec F S1x5x128 .f32 := broadcastInDim S1x5x128 ![1, 2] bcast_S5x128_S1x5x128_1_2 main_v54
  let main_v57 : FVec F S2048x5x128 .f32 := broadcastInDim S2048x5x128 ![0, 1, 2] bcast_S2048x1x128_S2048x5x128_0_1_2 main_v55
  let main_v58 : FVec F S2048x5x128 .f32 := broadcastInDim S2048x5x128 ![0, 1, 2] bcast_S1x5x128_S2048x5x128_0_1_2 main_v56
  let main_v59 : FVec F S2048x5x128 .f32 := subf main_v57 main_v58
  let main_v60 : FVec F S2048x5x128 .f32 := mulf main_v59 main_v59
  let main_cst_8 : FVec F S_ .f32 := constant S_ .f32 0x00000000#32
  fn_part3 (F := F) main_arg5 main_v9 main_v11 main_v60 main_cst_8

def fn_part1 {F : FTy → Type} [FloatOps F] (main_arg5 : IVec S_ 32) (main_v9 : FVec F S4x2048x128 .f32) (main_v11 : FVec F S2048x128 .f32) (main_v19 : IVec S5x1 32) : IVec S_ 1 :=
  let main_v20 : FVec F S5x128 .f32 := (fun x i => Host.gather gather_S2048x128_S5x1_S5x128_1_0_n_n_0_1_1128 x i) main_v11 main_v19
  let main_v21 : FVec F S2048x1x128 .f32 := broadcastInDim S2048x1x128 ![0, 2] bcast_S2048x128_S2048x1x128_0_2 main_v11
  let main_v22 : FVec F S1x5x128 .f32 := broadcastInDim S1x5x128 ![1, 2] bcast_S5x128_S1x5x128_1_2 main_v20
  let main_v23 : FVec F S2048x5x128 .f32 := broadcastInDim S2048x5x128 ![0, 1, 2] bcast_S2048x1x128_S2048x5x128_0_1_2 main_v21
  let main_v24 : FVec F S2048x5x128 .f32 := broadcastInDim S2048x5x128 ![0, 1, 2] bcast_S1x5x128_S2048x5x128_0_1_2 main_v22
  let main_v25 : FVec F S2048x5x128 .f32 := subf main_v23 main_v24
  let main_v26 : FVec F S2048x5x128 .f32 := mulf main_v25 main_v25
  let main_cst : FVec F S_ .f32 := constant S_ .f32 0x00000000#32
  let main_v27 : FVec F S2048x5 .f32 := (fun x v => Host.reduceAdd x v reducesTo_S2048x5x128_S2048x5_d2 h_S_) main_v26 main_cst
  let main_v28 : IVec S2048 32 := fn_argmin (F := F) main_v27
  let main_v29 : FVec F S2048x5 .f32 := fn_one_hot (F := F) main_v28
  let main_v30 : FVec F S5x2048 .f32 := (transpose S5x2048 [1, 0] · transposes_S2048x5_S5x2048_1_0) main_v29
  let main_v31 : FVec F S5x128 .f32 := (fun l r => Host.dotGeneral dot_S5x2048_S2048x128_S5x128_1_0_0_1_n_n none l r) main_v30 main_v11
  let main_cst_3 : FVec F S_ .f32 := constant S_ .f32 0x00000000#32
  let main_v32 : FVec F S5 .f32 := (fun x v => Host.reduceAdd x v reducesTo_S2048x5_S5_d0 h_S_) main_v29 main_cst_3
  let main_cst_4 : FVec F S_ .f32 := constant S_ .f32 0x3F800000#32
  let main_v33 : FVec F S5 .f32 := broadcastInDim S5 ![] bcast_S_S5 main_cst_4
  let main_v34 : FVec F S5 .f32 := maximumf main_v32 main_v33
  let main_v35 : FVec F S5x1 .f32 := broadcastInDim S5x1 ![0] bcast_S5_S5x1_0 main_v34
  let main_v36 : FVec F S5x128 .f32 := broadcastInDim S5x128 ![0, 1] bcast_S5x1_S5x128_0_1 main_v35
  let main_v37 : FVec F S5x128 .f32 := Host.divf main_v31 main_v36
  let main_v38 : FVec F S2048x1x128 .f32 := broadcastInDim S2048x1x128 ![0, 2] bcast_S2048x128_S2048x1x128_0_2 main_v11
  let main_v39 : FVec F S1x5x128 .f32 := broadcastInDim S1x5x128 ![1, 2] bcast_S5x128_S1x5x128_1_2 main_v37
  let main_v40 : FVec F S2048x5x128 .f32 := broadcastInDim S2048x5x128 ![0, 1, 2] bcast_S2048x1x128_S2048x5x128_0_1_2 main_v38
  fn_part2 (F := F) main_arg5 main_v9 main_v11 main_v39 main_v40

def fn {F : FTy → Type} [FloatOps F] (main_arg0 : FVec F S4x2048x64 .f32) (main_arg1 : FVec F S64x32 .f32) (main_arg2 : FVec F S32 .f32) (main_arg3 : FVec F S32x128 .f32) (main_arg4 : FVec F S128 .f32) (main_arg5 : IVec S_ 32) (main_arg6 : IVec S_ 32) : IVec S_ 1 :=
  let main_v0 : FVec F S4x2048x32 .f32 := (fun l r => Host.dotGeneral dot_S4x2048x64_S64x32_S4x2048x32_2_0_01_1_n_n none l r) main_arg0 main_arg1
  let main_v1 : FVec F S1x1x32 .f32 := broadcastInDim S1x1x32 ![2] bcast_S32_S1x1x32_2 main_arg2
  let main_v2 : FVec F S4x2048x32 .f32 := broadcastInDim S4x2048x32 ![0, 1, 2] bcast_S1x1x32_S4x2048x32_0_1_2 main_v1
  let main_v3 : FVec F S4x2048x32 .f32 := addf main_v0 main_v2
  let main_v4 : FVec F S4x2048x32 .f32 := fn_relu (F := F) main_v3
  let main_v5 : FVec F S4x2048x128 .f32 := (fun l r => Host.dotGeneral dot_S4x2048x32_S32x128_S4x2048x128_2_0_01_1_n_n none l r) main_v4 main_arg3
  let main_v6 : FVec F S1x1x128 .f32 := broadcastInDim S1x1x128 ![2] bcast_S128_S1x1x128_2 main_arg4
  let main_v7 : FVec F S4x2048x128 .f32 := broadcastInDim S4x2048x128 ![0, 1, 2] bcast_S1x1x128_S4x2048x128_0_1_2 main_v6
  let main_v8 : FVec F S4x2048x128 .f32 := addf main_v5 main_v7
  let main_v9 : FVec F S4x2048x128 .f32 := fn_relu_0 (F := F) main_v8
  let main_v10 : FVec F S1x2048x128 .f32 := (extractStridedSlice S1x2048x128 ![0, 0, 0] · slices_S4x2048x128_S1x2048x128_0_0_0) main_v9
  let main_v11 : FVec F S2048x128 .f32 := shapeCast S2048x128 main_v10 shapeCasts_S1x2048x128_S2048x128
  let main_c : IVec S_ 32 := constantI S_ 32 0#32
  let main_c_0 : IVec S_ 32 := constantI S_ 32 2047#32
  let main_v12 : FVec F S5 .f32 := fn_linspace (F := F) main_c main_c_0
  let main_v13 : IVec S5 32 := fptosi 32 main_v12
  let main_c_1 : IVec S_ 32 := constantI S_ 32 0#32
  let main_v14 : IVec S5 32 := broadcastInDim S5 ![] bcast_S_S5 main_c_1
  let main_v15 : IVec S5 1 := cmpi .slt main_v13 main_v14
  let main_c_2 : IVec S_ 32 := constantI S_ 32 2048#32
  let main_v16 : IVec S5 32 := broadcastInDim S5 ![] bcast_S_S5 main_c_2
  let main_v17 : IVec S5 32 := addi main_v13 main_v16
  let main_v18 : IVec S5 32 := select main_v15 main_v17 main_v13
  let main_v19 : IVec S5x1 32 := broadcastInDim S5x1 ![0] bcast_S5_S5x1_0 main_v18
  fn_part1 (F := F) main_arg5 main_v9 main_v11 main_v19
-- ==== Kernel.lean ====
abbrev S4x2048x64 : Shape := ⟨3, ![4, 2048, 64]⟩
abbrev S64x32 : Shape := ⟨2, ![64, 32]⟩
abbrev S32 : Shape := ⟨1, ![32]⟩
abbrev S32x128 : Shape := ⟨2, ![32, 128]⟩
abbrev S128 : Shape := ⟨1, ![128]⟩
abbrev S_ : Shape := ⟨0, ![]⟩
abbrev S1 : Shape := ⟨1, ![1]⟩
abbrev S1x32 : Shape := ⟨2, ![1, 32]⟩
abbrev S1x128 : Shape := ⟨2, ![1, 128]⟩
abbrev S4x2048x1 : Shape := ⟨3, ![4, 2048, 1]⟩
abbrev S8192x64 : Shape := ⟨2, ![8192, 64]⟩
abbrev S8192x32 : Shape := ⟨2, ![8192, 32]⟩
abbrev S8192x128 : Shape := ⟨2, ![8192, 128]⟩
abbrev S2048x128 : Shape := ⟨2, ![2048, 128]⟩
abbrev S5x128 : Shape := ⟨2, ![5, 128]⟩
abbrev S2048x1 : Shape := ⟨2, ![2048, 1]⟩
abbrev S1x5 : Shape := ⟨2, ![1, 5]⟩
abbrev S2048 : Shape := ⟨1, ![2048]⟩
abbrev S2048x5 : Shape := ⟨2, ![2048, 5]⟩
abbrev S5x1 : Shape := ⟨2, ![5, 1]⟩
abbrev S256x1 : Shape := ⟨2, ![256, 1]⟩
abbrev S1x256 : Shape := ⟨2, ![1, 256]⟩
abbrev S256x256 : Shape := ⟨2, ![256, 256]⟩
abbrev S1x2048x1 : Shape := ⟨3, ![1, 2048, 1]⟩
abbrev S1x1x1 : Shape := ⟨3, ![1, 1, 1]⟩
abbrev S1x2048 : Shape := ⟨2, ![1, 2048]⟩
abbrev S256x2048 : Shape := ⟨2, ![256, 2048]⟩
abbrev S256x1792 : Shape := ⟨2, ![256, 1792]⟩
abbrev S1792x1 : Shape := ⟨2, ![1792, 1]⟩
abbrev S1x1792 : Shape := ⟨2, ![1, 1792]⟩
abbrev S256x1536 : Shape := ⟨2, ![256, 1536]⟩
abbrev S1536x1 : Shape := ⟨2, ![1536, 1]⟩
abbrev S1x1536 : Shape := ⟨2, ![1, 1536]⟩
abbrev S256x1280 : Shape := ⟨2, ![256, 1280]⟩
abbrev S1280x1 : Shape := ⟨2, ![1280, 1]⟩
abbrev S1x1280 : Shape := ⟨2, ![1, 1280]⟩
abbrev S256x1024 : Shape := ⟨2, ![256, 1024]⟩
abbrev S1024x1 : Shape := ⟨2, ![1024, 1]⟩
abbrev S1x1024 : Shape := ⟨2, ![1, 1024]⟩
abbrev S256x768 : Shape := ⟨2, ![256, 768]⟩
abbrev S768x1 : Shape := ⟨2, ![768, 1]⟩
abbrev S1x768 : Shape := ⟨2, ![1, 768]⟩
abbrev S256x512 : Shape := ⟨2, ![256, 512]⟩
abbrev S512x1 : Shape := ⟨2, ![512, 1]⟩
abbrev S1x512 : Shape := ⟨2, ![1, 512]⟩
abbrev S1x256x1 : Shape := ⟨3, ![1, 256, 1]⟩

abbrev nBuf : Space → Nat
  | .hbm => 13
  | .vmem => 8
  | .smem => 1
  | _ => 0

abbrev bufTy : (tb : Table) → Fin (tcTables nBuf tb) → BufTy
  | .hbm, ⟨0, _⟩ => ⟨S4x2048x64, .f32⟩
  | .hbm, ⟨1, _⟩ => ⟨S64x32, .f32⟩
  | .hbm, ⟨2, _⟩ => ⟨S32, .f32⟩
  | .hbm, ⟨3, _⟩ => ⟨S32x128, .f32⟩
  | .hbm, ⟨4, _⟩ => ⟨S128, .f32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S1x32, .f32⟩
  | .hbm, ⟨9, _⟩ => ⟨S1x128, .f32⟩
  | .hbm, ⟨10, _⟩ => ⟨S4x2048x1, .f32⟩
  | .hbm, ⟨11, _⟩ => ⟨S4x2048x1, .i32⟩
  | .hbm, ⟨12, _⟩ => ⟨S4x2048x1, .f32⟩
  | .local _ .vmem, ⟨0, _⟩ => ⟨S4x2048x64, .f32⟩
  | .local _ .vmem, ⟨1, _⟩ => ⟨S64x32, .f32⟩
  | .local _ .vmem, ⟨2, _⟩ => ⟨S1x32, .f32⟩
  | .local _ .vmem, ⟨3, _⟩ => ⟨S32x128, .f32⟩
  | .local _ .vmem, ⟨4, _⟩ => ⟨S1x128, .f32⟩
  | .local _ .vmem, ⟨5, _⟩ => ⟨S4x2048x1, .f32⟩
  | .local _ .vmem, ⟨6, _⟩ => ⟨S4x2048x1, .i32⟩
  | .local _ .vmem, ⟨7, _⟩ => ⟨S4x2048x1, .f32⟩
  | .local _ .smem, ⟨0, _⟩ => ⟨S1, .i32⟩
  | _, _ => ⟨S4x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

@[reducible] def k0_t1_loop : Scf.Loop 32 :=
  let c0_i32_14 : BitVec 32 := 0#32
  let c10_i32 : BitVec 32 := 10#32
  let v28 : BitVec 32 := Scalar.addi c0_i32_14 c10_i32
  let c1_i32 : BitVec 32 := 1#32
  ⟨c0_i32_14, v28, c1_i32⟩
abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x2048x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x2048x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S4x2048x64 : Shape := ⟨3, ![4, 2048, 64]⟩
abbrev S64x32 : Shape := ⟨2, ![64, 32]⟩
abbrev S32 : Shape := ⟨1, ![32]⟩
abbrev S32x128 : Shape := ⟨2, ![32, 128]⟩
abbrev S128 : Shape := ⟨1, ![128]⟩
abbrev S_ : Shape := ⟨0, ![]⟩
abbrev S4x2048x32 : Shape := ⟨3, ![4, 2048, 32]⟩
abbrev S1x1x32 : Shape := ⟨3, ![1, 1, 32]⟩
abbrev S4x2048x128 : Shape := ⟨3, ![4, 2048, 128]⟩
abbrev S1x1x128 : Shape := ⟨3, ![1, 1, 128]⟩
abbrev S1x2048x128 : Shape := ⟨3, ![1, 2048, 128]⟩
abbrev S2048x128 : Shape := ⟨2, ![2048, 128]⟩
abbrev S4 : Shape := ⟨1, ![4]⟩
abbrev S1 : Shape := ⟨1, ![1]⟩
abbrev S5 : Shape := ⟨1, ![5]⟩
abbrev S5x1 : Shape := ⟨2, ![5, 1]⟩
abbrev S5x128 : Shape := ⟨2, ![5, 128]⟩
abbrev S2048 : Shape := ⟨1, ![2048]⟩
abbrev S2048x1x128 : Shape := ⟨3, ![2048, 1, 128]⟩
abbrev S1x5x128 : Shape := ⟨3, ![1, 5, 128]⟩
abbrev S2048x5x128 : Shape := ⟨3, ![2048, 5, 128]⟩
abbrev S2048x5 : Shape := ⟨2, ![2048, 5]⟩
abbrev S2048x1 : Shape := ⟨2, ![2048, 1]⟩
abbrev S1x5 : Shape := ⟨2, ![1, 5]⟩
abbrev S5x2048 : Shape := ⟨2, ![5, 2048]⟩
abbrev S4x128x5 : Shape := ⟨3, ![4, 128, 5]⟩
abbrev S4x5x128 : Shape := ⟨3, ![4, 5, 128]⟩
abbrev S1x5x1 : Shape := ⟨3, ![1, 5, 1]⟩
abbrev S4x2048 : Shape := ⟨2, ![4, 2048]⟩
abbrev S4x1 : Shape := ⟨2, ![4, 1]⟩
abbrev S1x2048 : Shape := ⟨2, ![1, 2048]⟩
abbrev S4x2048x1 : Shape := ⟨3, ![4, 2048, 1]⟩
abbrev S4x1x2048 : Shape := ⟨3, ![4, 1, 2048]⟩
abbrev S4x2048x2048 : Shape := ⟨3, ![4, 2048, 2048]⟩

abbrev nBuf : Space → Nat
  | .hbm => 212
  | .vmem => 0
  | .smem => 0
  | _ => 0

abbrev hbmTy0_0 (i : Nat) : BufTy := match i % 128 with
  | 0 => ⟨S4x2048x64, .f32⟩
  | 1 => ⟨S64x32, .f32⟩
  | 2 => ⟨S32, .f32⟩
  | 3 => ⟨S32x128, .f32⟩
  | 4 => ⟨S128, .f32⟩
  | 5 => ⟨S_, .i32⟩
  | 6 => ⟨S_, .i32⟩
  | 7 => ⟨S4x2048x32, .f32⟩
  | 8 => ⟨S1x1x32, .f32⟩
  | 9 => ⟨S4x2048x32, .f32⟩
  | 10 => ⟨S4x2048x32, .f32⟩
  | 11 => ⟨S_, .f32⟩
  | 12 => ⟨S4x2048x32, .f32⟩
  | 13 => ⟨S4x2048x32, .f32⟩
  | 14 => ⟨S4x2048x128, .f32⟩
  | 15 => ⟨S1x1x128, .f32⟩
  | 16 => ⟨S4x2048x128, .f32⟩
  | 17 => ⟨S4x2048x128, .f32⟩
  | 18 => ⟨S_, .f32⟩
  | 19 => ⟨S4x2048x128, .f32⟩
  | 20 => ⟨S4x2048x128, .f32⟩
  | 21 => ⟨S1x2048x128, .f32⟩
  | 22 => ⟨S2048x128, .f32⟩
  | 23 => ⟨S_, .i32⟩
  | 24 => ⟨S_, .i32⟩
  | 25 => ⟨S_, .f32⟩
  | 26 => ⟨S_, .f32⟩
  | 27 => ⟨S_, .f32⟩
  | 28 => ⟨S_, .f32⟩
  | 29 => ⟨S_, .f32⟩
  | 30 => ⟨S4, .f32⟩
  | 31 => ⟨S_, .f32⟩
  | 32 => ⟨S4, .f32⟩
  | 33 => ⟨S4, .f32⟩
  | 34 => ⟨S1, .f32⟩
  | 35 => ⟨S_, .f32⟩
  | 36 => ⟨S4, .f32⟩
  | 37 => ⟨S4, .f32⟩
  | 38 => ⟨S4, .f32⟩
  | 39 => ⟨S4, .f32⟩
  | 40 => ⟨S1, .f32⟩
  | 41 => ⟨S4, .f32⟩
  | 42 => ⟨S4, .f32⟩
  | 43 => ⟨S4, .f32⟩
  | 44 => ⟨S1, .f32⟩
  | 45 => ⟨S5, .f32⟩
  | 46 => ⟨S5, .i32⟩
  | 47 => ⟨S_, .i32⟩
  | 48 => ⟨S5, .i32⟩
  | 49 => ⟨S5, .i1⟩
  | 50 => ⟨S_, .i32⟩
  | 51 => ⟨S5, .i32⟩
  | 52 => ⟨S5, .i32⟩
  | 53 => ⟨S5, .i32⟩
  | 54 => ⟨S5x1, .i32⟩
  | 55 => ⟨S5x128, .f32⟩
  | 56 => ⟨S_, .i32⟩
  | 57 => ⟨S2048, .i32⟩
  | 58 => ⟨S_, .i32⟩
  | 59 => ⟨S_, .i32⟩
  | 60 => ⟨S2048x128, .f32⟩
  | 61 => ⟨S_, .i32⟩
  | 62 => ⟨S_, .i32⟩
  | 63 => ⟨S5x128, .f32⟩
  | 64 => ⟨S2048, .i32⟩
  | 65 => ⟨S_, .i32⟩
  | 66 => ⟨S_, .i1⟩
  | 67 => ⟨S_, .i32⟩
  | 68 => ⟨S_, .i32⟩
  | 69 => ⟨S2048x1x128, .f32⟩
  | 70 => ⟨S1x5x128, .f32⟩
  | 71 => ⟨S2048x5x128, .f32⟩
  | 72 => ⟨S2048x5x128, .f32⟩
  | 73 => ⟨S2048x5x128, .f32⟩
  | 74 => ⟨S2048x5x128, .f32⟩
  | 75 => ⟨S_, .f32⟩
  | 76 => ⟨S2048x5, .f32⟩
  | 77 => ⟨S2048x5, .i32⟩
  | 78 => ⟨S_, .f32⟩
  | 79 => ⟨S_, .i32⟩
  | 80 => ⟨S2048, .f32⟩
  | 81 => ⟨S2048, .i32⟩
  | 82 => ⟨S2048x1, .i32⟩
  | 83 => ⟨S1x5, .i32⟩
  | 84 => ⟨S2048x5, .i32⟩
  | 85 => ⟨S2048x5, .i32⟩
  | 86 => ⟨S2048x5, .i1⟩
  | 87 => ⟨S2048x5, .f32⟩
  | 88 => ⟨S_, .f32⟩
  | 89 => ⟨S5, .f32⟩
  | 90 => ⟨S5x2048, .f32⟩
  | 91 => ⟨S5x128, .f32⟩
  | 92 => ⟨S_, .f32⟩
  | 93 => ⟨S5, .f32⟩
  | 94 => ⟨S5, .f32⟩
  | 95 => ⟨S5x1, .f32⟩
  | 96 => ⟨S5x128, .f32⟩
  | 97 => ⟨S5x128, .f32⟩
  | 98 => ⟨S_, .i32⟩
  | 99 => ⟨S_, .i32⟩
  | 100 => ⟨S2048x1, .i32⟩
  | 101 => ⟨S1x5, .i32⟩
  | 102 => ⟨S2048x5, .i32⟩
  | 103 => ⟨S2048x5, .i32⟩
  | 104 => ⟨S2048x5, .i1⟩
  | 105 => ⟨S2048x5, .f32⟩
  | 106 => ⟨S_, .f32⟩
  | 107 => ⟨S5, .f32⟩
  | 108 => ⟨S4x128x5, .f32⟩
  | 109 => ⟨S4x5x128, .f32⟩
  | 110 => ⟨S_, .f32⟩
  | 111 => ⟨S5, .f32⟩
  | 112 => ⟨S5, .f32⟩
  | 113 => ⟨S1x5x1, .f32⟩
  | 114 => ⟨S4x5x128, .f32⟩
  | 115 => ⟨S4x5x128, .f32⟩
  | 116 => ⟨S_, .i32⟩
  | 117 => ⟨S2048, .i32⟩
  | 118 => ⟨S2048, .i1⟩
  | 119 => ⟨S_, .i32⟩
  | 120 => ⟨S2048, .i32⟩
  | 121 => ⟨S2048, .i32⟩
  | 122 => ⟨S2048, .i32⟩
  | 123 => ⟨S2048x1, .i32⟩
  | 124 => ⟨S4x2048x128, .f32⟩
  | 125 => ⟨S4x2048x128, .f32⟩
  | 126 => ⟨S4x2048x128, .f32⟩
  | 127 => ⟨S_, .f32⟩
  | _ => ⟨S4x2048x64, .f32⟩

abbrev hbmTy0_1 (i : Nat) : BufTy := match i % 128 with
  | 0 => ⟨S4x2048, .f32⟩
  | 1 => ⟨S_, .f32⟩
  | 2 => ⟨S4x2048, .f32⟩
  | 3 => ⟨S4x2048, .f32⟩
  | 4 => ⟨S_, .f32⟩
  | 5 => ⟨S4, .f32⟩
  | 6 => ⟨S4x1, .f32⟩
  | 7 => ⟨S_, .f32⟩
  | 8 => ⟨S4, .f32⟩
  | 9 => ⟨S4x1, .f32⟩
  | 10 => ⟨S4x2048, .f32⟩
  | 11 => ⟨S4x2048, .f32⟩
  | 12 => ⟨S4x1, .f32⟩
  | 13 => ⟨S4x2048, .f32⟩
  | 14 => ⟨S4x2048, .f32⟩
  | 15 => ⟨S1x2048, .i32⟩
  | 16 => ⟨S1x2048, .f32⟩
  | 17 => ⟨S4x2048, .f32⟩
  | 18 => ⟨S4x2048, .f32⟩
  | 19 => ⟨S_, .f32⟩
  | 20 => ⟨S4, .f32⟩
  | 21 => ⟨S4x1, .f32⟩
  | 22 => ⟨S_, .f32⟩
  | 23 => ⟨S4, .f32⟩
  | 24 => ⟨S4x1, .f32⟩
  | 25 => ⟨S4x2048, .f32⟩
  | 26 => ⟨S4x2048, .f32⟩
  | 27 => ⟨S4x1, .f32⟩
  | 28 => ⟨S4x2048, .f32⟩
  | 29 => ⟨S4x2048, .f32⟩
  | 30 => ⟨S_, .f32⟩
  | 31 => ⟨S4x2048, .f32⟩
  | 32 => ⟨S4x2048, .f32⟩
  | 33 => ⟨S_, .f32⟩
  | 34 => ⟨S_, .f32⟩
  | 35 => ⟨S_, .f32⟩
  | 36 => ⟨S4x2048x1, .f32⟩
  | 37 => ⟨S4x1x2048, .f32⟩
  | 38 => ⟨S4x2048x2048, .f32⟩
  | 39 => ⟨S4x2048x2048, .f32⟩
  | 40 => ⟨S4x2048x2048, .f32⟩
  | 41 => ⟨S4x2048x2048, .f32⟩
  | 42 => ⟨S4x2048x2048, .f32⟩
  | 43 => ⟨S4x2048x2048, .f32⟩
  | 44 => ⟨S4x2048x2048, .f32⟩
  | 45 => ⟨S_, .f32⟩
  | 46 => ⟨S4x2048x2048, .f32⟩
  | 47 => ⟨S4x2048x2048, .f32⟩
  | 48 => ⟨S_, .f32⟩
  | 49 => ⟨S4x2048x2048, .f32⟩
  | 50 => ⟨S4x2048x2048, .f32⟩
  | 51 => ⟨S_, .f32⟩
  | 52 => ⟨S4x2048, .f32⟩
  | 53 => ⟨S_, .f32⟩
  | 54 => ⟨S4x2048, .f32⟩
  | 55 => ⟨S4x2048, .f32⟩
  | 56 => ⟨S4x2048, .i32⟩
  | 57 => ⟨S4x2048, .f32⟩
  | 58 => ⟨S4x2048, .i32⟩
  | 59 => ⟨S4x2048, .i32⟩
  | 60 => ⟨S4x2048, .i32⟩
  | 61 => ⟨S4x2048, .i32⟩
  | 62 => ⟨S4x2048, .i32⟩
  | 63 => ⟨S4x2048, .i32⟩
  | 64 => ⟨S4x2048, .i32⟩
  | 65 => ⟨S_, .i32⟩
  | 66 => ⟨S4x2048, .i32⟩
  | 67 => ⟨S4x2048, .i1⟩
  | 68 => ⟨S4x2048, .i32⟩
  | 69 => ⟨S4x2048, .i32⟩
  | 70 => ⟨S_, .i32⟩
  | 71 => ⟨S4x2048, .i32⟩
  | 72 => ⟨S4x2048, .i1⟩
  | 73 => ⟨S4x2048, .i1⟩
  | 74 => ⟨S_, .i32⟩
  | 75 => ⟨S4x2048, .i32⟩
  | 76 => ⟨S4x2048, .i32⟩
  | 77 => ⟨S4x2048, .i32⟩
  | 78 => ⟨S_, .i32⟩
  | 79 => ⟨S4x2048, .i32⟩
  | 80 => ⟨S4x2048, .i32⟩
  | 81 => ⟨S4x2048x1, .f32⟩
  | 82 => ⟨S4x2048x1, .i32⟩
  | 83 => ⟨S4x2048x1, .f32⟩
  | _ => ⟨S4x2048x64, .f32⟩

abbrev hbmTy (i : Nat) : BufTy := match i / 128 with
  | 0 => hbmTy0_0 i
  | 1 => hbmTy0_1 i
  | _ => ⟨S4x2048x64, .f32⟩

abbrev bufTy : (tb : Table) → Fin (tcTables nBuf tb) → BufTy
  | .hbm, ⟨i, _⟩ => hbmTy i
  | _, _ => ⟨S4x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_c_0 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_call2_cst : Ref sig .tc := ⟨.hbm, 28, rfl⟩
abbrev main_call2_v3 : Ref sig .tc := ⟨.hbm, 29, rfl⟩
abbrev main_call2_v4 : Ref sig .tc := ⟨.hbm, 30, rfl⟩
abbrev main_call2_cst_0 : Ref sig .tc := ⟨.hbm, 31, rfl⟩
abbrev main_call2_v5 : Ref sig .tc := ⟨.hbm, 32, rfl⟩
abbrev main_call2_v6 : Ref sig .tc := ⟨.hbm, 33, rfl⟩
abbrev main_call2_v7 : Ref sig .tc := ⟨.hbm, 34, rfl⟩
abbrev main_call2_cst_1 : Ref sig .tc := ⟨.hbm, 35, rfl⟩
abbrev main_call2_v8 : Ref sig .tc := ⟨.hbm, 36, rfl⟩
abbrev main_call2_v9 : Ref sig .tc := ⟨.hbm, 37, rfl⟩
abbrev main_call2_v10 : Ref sig .tc := ⟨.hbm, 38, rfl⟩
abbrev main_call2_v11 : Ref sig .tc := ⟨.hbm, 39, rfl⟩
abbrev main_call2_v12 : Ref sig .tc := ⟨.hbm, 40, rfl⟩
abbrev main_call2_v13 : Ref sig .tc := ⟨.hbm, 41, rfl⟩
abbrev main_call2_v14 : Ref sig .tc := ⟨.hbm, 42, rfl⟩
abbrev main_call2_v15 : Ref sig .tc := ⟨.hbm, 43, rfl⟩
abbrev main_call2_v16 : Ref sig .tc := ⟨.hbm, 44, rfl⟩
abbrev main_v12 : Ref sig .tc := ⟨.hbm, 45, rfl⟩
abbrev main_v13 : Ref sig .tc := ⟨.hbm, 46, rfl⟩
abbrev main_c_1 : Ref sig .tc := ⟨.hbm, 47, rfl⟩
abbrev main_v14 : Ref sig .tc := ⟨.hbm, 48, rfl⟩
abbrev main_v15 : Ref sig .tc := ⟨.hbm, 49, rfl⟩
abbrev main_c_2 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_c_3 : Ref sig .tc := ⟨.hbm, 56, rfl⟩
abbrev main_v21 : Ref sig .tc := ⟨.hbm, 57, rfl⟩
abbrev main_c_4 : Ref sig .tc := ⟨.hbm, 58, rfl⟩
abbrev main_c_5 : Ref sig .tc := ⟨.hbm, 59, rfl⟩
abbrev main_v22_0 : Ref sig .tc := ⟨.hbm, 60, rfl⟩
abbrev main_v22_1 : Ref sig .tc := ⟨.hbm, 61, rfl⟩
abbrev main_v22_2 : Ref sig .tc := ⟨.hbm, 62, rfl⟩
abbrev main_v22_3 : Ref sig .tc := ⟨.hbm, 63, rfl⟩
abbrev main_v22_4 : Ref sig .tc := ⟨.hbm, 64, rfl⟩
abbrev main_while0c_c_27 : Ref sig .tc := ⟨.hbm, 65, rfl⟩
abbrev main_while0c_v93 : Ref sig .tc := ⟨.hbm, 66, rfl⟩
abbrev main_while0b_c_27 : Ref sig .tc := ⟨.hbm, 67, rfl⟩
abbrev main_while0b_v93 : Ref sig .tc := ⟨.hbm, 68, rfl⟩
abbrev main_while0b_v94 : Ref sig .tc := ⟨.hbm, 69, rfl⟩
abbrev main_while0b_v95 : Ref sig .tc := ⟨.hbm, 70, rfl⟩
abbrev main_while0b_v96 : Ref sig .tc := ⟨.hbm, 71, rfl⟩
abbrev main_while0b_v97 : Ref sig .tc := ⟨.hbm, 72, rfl⟩
abbrev main_while0b_v98 : Ref sig .tc := ⟨.hbm, 73, rfl⟩
abbrev main_while0b_v99 : Ref sig .tc := ⟨.hbm, 74, rfl⟩
abbrev main_while0b_cst_28 : Ref sig .tc := ⟨.hbm, 75, rfl⟩
abbrev main_while0b_v100 : Ref sig .tc := ⟨.hbm, 76, rfl⟩
abbrev main_while0b_call3_v0 : Ref sig .tc := ⟨.hbm, 77, rfl⟩
abbrev main_while0b_call3_cst : Ref sig .tc := ⟨.hbm, 78, rfl⟩
abbrev main_while0b_call3_c : Ref sig .tc := ⟨.hbm, 79, rfl⟩
abbrev main_while0b_call3_v1_0 : Ref sig .tc := ⟨.hbm, 80, rfl⟩
abbrev main_while0b_v101 : Ref sig .tc := ⟨.hbm, 81, rfl⟩
abbrev main_while0b_call4_v0 : Ref sig .tc := ⟨.hbm, 82, rfl⟩
abbrev main_while0b_call4_v1 : Ref sig .tc := ⟨.hbm, 83, rfl⟩
abbrev main_while0b_call4_v2 : Ref sig .tc := ⟨.hbm, 84, rfl⟩
abbrev main_while0b_call4_v3 : Ref sig .tc := ⟨.hbm, 85, rfl⟩
abbrev main_while0b_call4_v4 : Ref sig .tc := ⟨.hbm, 86, rfl⟩
abbrev main_while0b_v102 : Ref sig .tc := ⟨.hbm, 87, rfl⟩
abbrev main_while0b_cst_29 : Ref sig .tc := ⟨.hbm, 88, rfl⟩
abbrev main_while0b_v103 : Ref sig .tc := ⟨.hbm, 89, rfl⟩
abbrev main_while0b_v104 : Ref sig .tc := ⟨.hbm, 90, rfl⟩
abbrev main_while0b_v105 : Ref sig .tc := ⟨.hbm, 91, rfl⟩
abbrev main_while0b_cst_30 : Ref sig .tc := ⟨.hbm, 92, rfl⟩
abbrev main_while0b_v106 : Ref sig .tc := ⟨.hbm, 93, rfl⟩
abbrev main_while0b_v107 : Ref sig .tc := ⟨.hbm, 94, rfl⟩
abbrev main_while0b_v108 : Ref sig .tc := ⟨.hbm, 95, rfl⟩
abbrev main_while0b_v109 : Ref sig .tc := ⟨.hbm, 96, rfl⟩
abbrev main_while0b_v110 : Ref sig .tc := ⟨.hbm, 97, rfl⟩
abbrev main_while0b_c_31 : Ref sig .tc := ⟨.hbm, 98, rfl⟩
abbrev main_while0b_v111 : Ref sig .tc := ⟨.hbm, 99, rfl⟩
abbrev main_call5_v0 : Ref sig .tc := ⟨.hbm, 100, rfl⟩
abbrev main_call5_v1 : Ref sig .tc := ⟨.hbm, 101, rfl⟩
abbrev main_call5_v2 : Ref sig .tc := ⟨.hbm, 102, rfl⟩
abbrev main_call5_v3 : Ref sig .tc := ⟨.hbm, 103, rfl⟩
abbrev main_call5_v4 : Ref sig .tc := ⟨.hbm, 104, rfl⟩
abbrev main_v23 : Ref sig .tc := ⟨.hbm, 105, rfl⟩
abbrev main_cst : Ref sig .tc := ⟨.hbm, 106, rfl⟩
abbrev main_v24 : Ref sig .tc := ⟨.hbm, 107, rfl⟩
abbrev main_v25 : Ref sig .tc := ⟨.hbm, 108, rfl⟩
abbrev main_v26 : Ref sig .tc := ⟨.hbm, 109, rfl⟩
abbrev main_cst_6 : Ref sig .tc := ⟨.hbm, 110, rfl⟩
abbrev main_v27 : Ref sig .tc := ⟨.hbm, 111, rfl⟩
abbrev main_v28 : Ref sig .tc := ⟨.hbm, 112, rfl⟩
abbrev main_v29 : Ref sig .tc := ⟨.hbm, 113, rfl⟩
abbrev main_v30 : Ref sig .tc := ⟨.hbm, 114, rfl⟩
abbrev main_v31 : Ref sig .tc := ⟨.hbm, 115, rfl⟩
abbrev main_c_7 : Ref sig .tc := ⟨.hbm, 116, rfl⟩
abbrev main_v32 : Ref sig .tc := ⟨.hbm, 117, rfl⟩
abbrev main_v33 : Ref sig .tc := ⟨.hbm, 118, rfl⟩
abbrev main_c_8 : Ref sig .tc := ⟨.hbm, 119, rfl⟩
abbrev main_v34 : Ref sig .tc := ⟨.hbm, 120, rfl⟩
abbrev main_v35 : Ref sig .tc := ⟨.hbm, 121, rfl⟩
abbrev main_v36 : Ref sig .tc := ⟨.hbm, 122, rfl⟩
abbrev main_v37 : Ref sig .tc := ⟨.hbm, 123, rfl⟩
abbrev main_v38 : Ref sig .tc := ⟨.hbm, 124, rfl⟩
abbrev main_v39 : Ref sig .tc := ⟨.hbm, 125, rfl⟩
abbrev main_v40 : Ref sig .tc := ⟨.hbm, 126, rfl⟩
abbrev main_cst_9 : Ref sig .tc := ⟨.hbm, 127, rfl⟩
abbrev main_v41 : Ref sig .tc := ⟨.hbm, 128, rfl⟩
abbrev main_cst_10 : Ref sig .tc := ⟨.hbm, 129, rfl⟩
abbrev main_v42 : Ref sig .tc := ⟨.hbm, 130, rfl⟩
abbrev main_v43 : Ref sig .tc := ⟨.hbm, 131, rfl⟩
abbrev main_cst_11 : Ref sig .tc := ⟨.hbm, 132, rfl⟩
abbrev main_v44 : Ref sig .tc := ⟨.hbm, 133, rfl⟩
abbrev main_v45 : Ref sig .tc := ⟨.hbm, 134, rfl⟩
abbrev main_cst_12 : Ref sig .tc := ⟨.hbm, 135, rfl⟩
abbrev main_v46 : Ref sig .tc := ⟨.hbm, 136, rfl⟩
abbrev main_v47 : Ref sig .tc := ⟨.hbm, 137, rfl⟩
abbrev main_v48 : Ref sig .tc := ⟨.hbm, 138, rfl⟩
abbrev main_v49 : Ref sig .tc := ⟨.hbm, 139, rfl⟩
abbrev main_v50 : Ref sig .tc := ⟨.hbm, 140, rfl⟩
abbrev main_v51 : Ref sig .tc := ⟨.hbm, 141, rfl⟩
abbrev main_v52 : Ref sig .tc := ⟨.hbm, 142, rfl⟩
abbrev main_v53 : Ref sig .tc := ⟨.hbm, 143, rfl⟩
abbrev main_v54 : Ref sig .tc := ⟨.hbm, 144, rfl⟩
abbrev main_v55 : Ref sig .tc := ⟨.hbm, 145, rfl⟩
abbrev main_v56 : Ref sig .tc := ⟨.hbm, 146, rfl⟩
abbrev main_cst_13 : Ref sig .tc := ⟨.hbm, 147, rfl⟩
abbrev main_v57 : Ref sig .tc := ⟨.hbm, 148, rfl⟩
abbrev main_v58 : Ref sig .tc := ⟨.hbm, 149, rfl⟩
abbrev main_cst_14 : Ref sig .tc := ⟨.hbm, 150, rfl⟩
abbrev main_v59 : Ref sig .tc := ⟨.hbm, 151, rfl⟩
abbrev main_v60 : Ref sig .tc := ⟨.hbm, 152, rfl⟩
abbrev main_v61 : Ref sig .tc := ⟨.hbm, 153, rfl⟩
abbrev main_v62 : Ref sig .tc := ⟨.hbm, 154, rfl⟩
abbrev main_v63 : Ref sig .tc := ⟨.hbm, 155, rfl⟩
abbrev main_v64 : Ref sig .tc := ⟨.hbm, 156, rfl⟩
abbrev main_v65 : Ref sig .tc := ⟨.hbm, 157, rfl⟩
abbrev main_cst_15 : Ref sig .tc := ⟨.hbm, 158, rfl⟩
abbrev main_v66 : Ref sig .tc := ⟨.hbm, 159, rfl⟩
abbrev main_v67 : Ref sig .tc := ⟨.hbm, 160, rfl⟩
abbrev main_cst_16 : Ref sig .tc := ⟨.hbm, 161, rfl⟩
abbrev main_cst_17 : Ref sig .tc := ⟨.hbm, 162, rfl⟩
abbrev main_v68 : Ref sig .tc := ⟨.hbm, 163, rfl⟩
abbrev main_v69 : Ref sig .tc := ⟨.hbm, 164, rfl⟩
abbrev main_v70 : Ref sig .tc := ⟨.hbm, 165, rfl⟩
abbrev main_v71 : Ref sig .tc := ⟨.hbm, 166, rfl⟩
abbrev main_v72 : Ref sig .tc := ⟨.hbm, 167, rfl⟩
abbrev main_v73 : Ref sig .tc := ⟨.hbm, 168, rfl⟩
abbrev main_v74 : Ref sig .tc := ⟨.hbm, 169, rfl⟩
abbrev main_v75 : Ref sig .tc := ⟨.hbm, 170, rfl⟩
abbrev main_v76 : Ref sig .tc := ⟨.hbm, 171, rfl⟩
abbrev main_v77 : Ref sig .tc := ⟨.hbm, 172, rfl⟩
abbrev main_cst_18 : Ref sig .tc := ⟨.hbm, 173, rfl⟩
abbrev main_v78 : Ref sig .tc := ⟨.hbm, 174, rfl⟩
abbrev main_v79 : Ref sig .tc := ⟨.hbm, 175, rfl⟩
abbrev main_cst_19 : Ref sig .tc := ⟨.hbm, 176, rfl⟩
abbrev main_v80 : Ref sig .tc := ⟨.hbm, 177, rfl⟩
abbrev main_v81 : Ref sig .tc := ⟨.hbm, 178, rfl⟩
abbrev main_cst_20 : Ref sig .tc := ⟨.hbm, 179, rfl⟩
abbrev main_v82 : Ref sig .tc := ⟨.hbm, 180, rfl⟩
abbrev main_cst_21 : Ref sig .tc := ⟨.hbm, 181, rfl⟩
abbrev main_v83 : Ref sig .tc := ⟨.hbm, 182, rfl⟩
abbrev main_v84 : Ref sig .tc := ⟨.hbm, 183, rfl⟩
abbrev main_call6_v0 : Ref sig .tc := ⟨.hbm, 184, rfl⟩
abbrev main_call6_v1_0 : Ref sig .tc := ⟨.hbm, 185, rfl⟩
abbrev main_v85 : Ref sig .tc := ⟨.hbm, 186, rfl⟩
abbrev main_call7_v0 : Ref sig .tc := ⟨.hbm, 187, rfl⟩
abbrev main_call7_v1_0 : Ref sig .tc := ⟨.hbm, 188, rfl⟩
abbrev main_v86 : Ref sig .tc := ⟨.hbm, 189, rfl⟩
abbrev main_call8_v0 : Ref sig .tc := ⟨.hbm, 190, rfl⟩
abbrev main_call8_v1 : Ref sig .tc := ⟨.hbm, 191, rfl⟩
abbrev main_call8_v2 : Ref sig .tc := ⟨.hbm, 192, rfl⟩
abbrev main_call8_v3 : Ref sig .tc := ⟨.hbm, 193, rfl⟩
abbrev main_call8_v4 : Ref sig .tc := ⟨.hbm, 194, rfl⟩
abbrev main_call8_v5 : Ref sig .tc := ⟨.hbm, 195, rfl⟩
abbrev main_call8_v6 : Ref sig .tc := ⟨.hbm, 196, rfl⟩
abbrev main_call8_v7 : Ref sig .tc := ⟨.hbm, 197, rfl⟩
abbrev main_call8_c : Ref sig .tc := ⟨.hbm, 198, rfl⟩
abbrev main_call8_v8 : Ref sig .tc := ⟨.hbm, 199, rfl⟩
abbrev main_call8_v9 : Ref sig .tc := ⟨.hbm, 200, rfl⟩
abbrev main_call8_v10 : Ref sig .tc := ⟨.hbm, 201, rfl⟩
abbrev main_call8_c_0 : Ref sig .tc := ⟨.hbm, 202, rfl⟩
abbrev main_call8_v11 : Ref sig .tc := ⟨.hbm, 203, rfl⟩
abbrev main_call8_v12 : Ref sig .tc := ⟨.hbm, 204, rfl⟩
abbrev main_v87 : Ref sig .tc := ⟨.hbm, 205, rfl⟩
abbrev main_c_22 : Ref sig .tc := ⟨.hbm, 206, rfl⟩
abbrev main_v88 : Ref sig .tc := ⟨.hbm, 207, rfl⟩
abbrev main_v89 : Ref sig .tc := ⟨.hbm, 208, rfl⟩
abbrev main_v90 : Ref sig .tc := ⟨.hbm, 209, rfl⟩
abbrev main_v91 : Ref sig .tc := ⟨.hbm, 210, rfl⟩
abbrev main_v92 : Ref sig .tc := ⟨.hbm, 211, rfl⟩

abbrev nD : Nat := 1
abbrev τ : Topo := Topo.v7x

variable {F : FTy → Type} [FloatOps F]

abbrev main_while0_count : Scf.Loop 32 := ⟨0#32, 10#32, 1#32⟩
-- ==== Proof.KernelIdealRun.lean ====
/-
  The kernel body of `KernelIdeal`, run once over symbolic staging buffers: from the six inputs and the three results held
  whole it returns with the inputs as they were and the results at contents that are terms over the inputs alone.
-/
module

public import proofs.«01_k».proof.Proof.Gen.KernelIdeal.Skeleton
public import proofs.«01_k».proof.Proof.Gen.KernelIdeal.Frame
public import Idealize.ShloMosaic.Lib.Tactic

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The type of the contents of memref `M`'s buffer on core `c`. -/
abbrev Bf (c : Dev nD) {sp : Space} {S : Shape} {e : EltTy} (M : Memref sig .tc sp S e) : Type := Buf (Elt F) (M.view.loc (c : Thread nD τ))

/-- Memref `M`'s buffer on core `c`, held whole at `f`. -/
abbrev pt (c : Dev nD) {sp : Space} {S : Shape} {e : EltTy} (M : Memref sig .tc sp S e) (f : Bf (F := F) c M) : sProp 𝕄 :=
  M.view.loc (c : Thread nD τ) ↦{fullShare} f

/-- One Lloyd trip as a function of the carried pair: the new centers and the labels, from the old centers. -/
def trip (v0 : Vec F S4x2048x64 .f32) (v2 : Vec F S64x32 .f32) (v4 : Vec F S1x32 .f32) (v10 : Vec F S32x128 .f32)
    (v12 : Vec F S1x128 .f32) (acc : FVec F S5x128 .f32 × IVec S2048x1 32) : FVec F S5x128 .f32 × IVec S2048x1 32 :=
  (k0_pay10 v0 v2 v4 v10 v12 (k0_pay4 (k0_pay6 v0 v2 v4 v10 v12) (iota .tc S1x5 32 [1] iota_S1x5_d1_w32) acc.1),
    k0_pay3 (k0_pay6 v0 v2 v4 v10 v12) acc.1)

/-- The Lloyd loop issues no effect: it returns the fold of `trip` over its ten trips. -/
theorem loop_pure (arg0 : Memref sig .tc .smem S1 .i32) (harg0 : arg0.IsWhole) (arg1 : Memref sig .tc .vmem S4x2048x64 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S4x2048x1 .f32) (harg6 : arg6.IsWhole) (arg7 : Memref sig .tc .vmem S4x2048x1 .i32) (harg7 : arg7.IsWhole) (arg8 : Memref sig .tc .vmem S4x2048x1 .f32) (harg8 : arg8.IsWhole)
    (v0 : Vec F S4x2048x64 .f32) (v2 : Vec F S64x32 .f32) (v4 : Vec F S1x32 .f32) (v10 : Vec F S32x128 .f32) (v12 : Vec F S1x128 .f32)
    (init : FVec F S5x128 .f32 × IVec S2048x1 32) :
    Scf.Loop.for k0_t1_loop k0_t1_ok init (k0_t1_body arg0 harg0 arg1 harg1 arg2 harg2 arg3 harg3 arg4 harg4 arg5 harg5 arg6 harg6 arg7 harg7 arg8 harg8 v0 v2 v4 v10 v12 (iota .tc S1x5 32 [1] iota_S1x5_d1_w32))
      = .ret (Scf.fold (n := k0_t1_loop.trips) (fun _ acc => trip v0 v2 v4 v10 v12 acc) init) :=
  Scf.for_pure _ _ _ _ _ _ _ fun k acc => by
    unfold k0_t1_body; rw [k0_part1_eq_skeleton]; rfl

set_option maxHeartbeats 4000000 in
/-- What the body leaves in the three results' buffers, with the proof that the run leaves it: soft ranks, hard
    ranks, scores, each a term over the inputs' contents `f0 … f5`. -/
noncomputable def kernelRun (c : Dev nD)
    (M0 : Memref sig .tc .smem S1 .i32) (h0 : M0.IsWhole) (M1 : Memref sig .tc .vmem S4x2048x64 .f32) (h1 : M1.IsWhole)
    (M2 : Memref sig .tc .vmem S64x32 .f32) (h2 : M2.IsWhole) (M3 : Memref sig .tc .vmem S1x32 .f32) (h3 : M3.IsWhole)
    (M4 : Memref sig .tc .vmem S32x128 .f32) (h4 : M4.IsWhole) (M5 : Memref sig .tc .vmem S1x128 .f32) (h5 : M5.IsWhole)
    (M6 : Memref sig .tc .vmem S4x2048x1 .f32) (h6 : M6.IsWhole) (M7 : Memref sig .tc .vmem S4x2048x1 .i32) (h7 : M7.IsWhole)
    (M8 : Memref sig .tc .vmem S4x2048x1 .f32) (h8 : M8.IsWhole)
    (f0 : Bf (F := F) c M0) (f1 : Bf (F := F) c M1) (f2 : Bf (F := F) c M2) (f3 : Bf (F := F) c M3) (f4 : Bf (F := F) c M4)
    (f5 : Bf (F := F) c M5) :
    { W : Bf (F := F) c M6 × Bf (F := F) c M7 × Bf (F := F) c M8 //
      ∀ (f6 : Bf (F := F) c M6) (f7 : Bf (F := F) c M7) (f8 : Bf (F := F) c M8) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7
          ∗ pt c M8 f8
          ∗ (iprop(pt c M0 f0 ∗ pt c M1 f1 ∗ pt c M2 f2 ∗ pt c M3 f3 ∗ pt c M4 f4 ∗ pt c M5 f5
                ∗ pt c M6 W.1 ∗ pt c M7 W.2.1 ∗ pt c M8 W.2.2) -∗ Q ⟨⟩))
        ⊢ wp frame (wpE (defs₀ (F := F)) Variants.none c none) E
            (cc0__body M0 h0 M1 h1 M2 h2 M3 h3 M4 h4 M5 h5 M6 h6 M7 h7 M8 h8) Q } := by
  refine ⟨⟨?_, ?_, ?_⟩, fun f6 f7 f8 E Q => ?run⟩
  case run =>
    iintro ⟨H0, H1, H2, H3, H4, H5, H6, H7, H8, Hk⟩
    sl_exec_parts!
    unfold kernelRun.sl.v26
    rw [loop_pure]
    sl_exec_parts!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Cert.Proof.KernelIdeal

end
-- ==== Proof.KernelIdealLaunch.lean ====
/-
  The pipeline of `KernelIdeal` around the body's run: its proof data, the body obligation and the run of @main, from which
  the frame claim follows and, for the value claim, what each result array ends at.
-/
module

public import proofs.«01_k».proof.Proof.KernelIdealRun
public import proofs.«01_k».proof.Proof.Gen.KernelIdeal

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run from the input staging buffers at the arrays' blocks. -/
abbrev K (c : Dev nD) :=
  kernelRun (F := F) c (stage0_0 0) (hstage0_0 0) (stage0_1 0) (hstage0_1 0) (stage0_2 0) (hstage0_2 0) (stage0_3 0) (hstage0_3 0) (stage0_4 0) (hstage0_4 0) (stage0_5 0) (hstage0_5 0) (stage0_6 0) (hstage0_6 0) (stage0_7 0) (hstage0_7 0) (stage0_8 0) (hstage0_8 0)
    (iblk m c 0 t0_0) (iblk m c 1 t0_0) (iblk m c 2 t0_0) (iblk m c 3 t0_0) (iblk m c 4 t0_0) (iblk m c 5 t0_0)

/-- The proof data on core `c`: the arrays as the region finds them; after the body the inputs as fetched and the
    results at what the run leaves; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (K m c).1.1
    | ⟨7, _⟩ => (K m c).1.2.1
    | ⟨8, _⟩ => (K m c).1.2.2
  Φ _ := Pipeline.ΦA spec0 c
  q _ := fullShare
  owed _ := 0

set_option maxHeartbeats 2000000 in
/-- The body obligation: the staging buffers taken apart, the body's run applied, its post reassembled. -/
theorem body_obligation (c : Dev nD) : BodyObligation (dats m 0 c) (defs₀ (F := F)) Variants.none () Set.univ := fun t => by
  obtain rfl := fin_N0 t
  rw [bigSep_W0, bigSep_W0]
  simp only [owns_whole_eq]
  rw [show (dats m 0 c).Φ t0_0.castSucc = Pipeline.ΦA spec0 c from rfl, show (dats m 0 c).Φ t0_0.succ = Pipeline.ΦA spec0 c from rfl,
    show (dats m 0 c).owesAt () t0_0.succ = (dats m 0 c).owesAt () t0_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩,
    ⟨%d5, %f5, %hf5, H5⟩, ⟨%d6, %f6, -, H6⟩, ⟨%d7, %f7, -, H7⟩, ⟨%d8, %f8, -, H8⟩⟩
  rw [before0_0_of m (dats m 0 c) rfl (fun _ => rfl)] at hf0
  rw [before0_1_of m (dats m 0 c) rfl (fun _ => rfl)] at hf1
  rw [before0_2_of m (dats m 0 c) rfl (fun _ => rfl)] at hf2
  rw [before0_3_of m (dats m 0 c) rfl (fun _ => rfl)] at hf3
  rw [before0_4_of m (dats m 0 c) rfl (fun _ => rfl)] at hf4
  rw [before0_5_of m (dats m 0 c) rfl (fun _ => rfl)] at hf5
  subst hf0 hf1 hf2 hf3 hf4 hf5
  iapply ((K m c).2 f6 f7 f8 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Howes]; · iexact Howes
  isplitl [H0]; · iexists _; isplitr; swap; (· iexact H0); ipureintro; dsimp only [dats]
  isplitl [H1]; · iexists _; isplitr; swap; (· iexact H1); ipureintro; dsimp only [dats]
  isplitl [H2]; · iexists _; isplitr; swap; (· iexact H2); ipureintro; dsimp only [dats]
  isplitl [H3]; · iexists _; isplitr; swap; (· iexact H3); ipureintro; dsimp only [dats]
  isplitl [H4]; · iexists _; isplitr; swap; (· iexact H4); ipureintro; dsimp only [dats]
  isplitl [H5]; · iexists _; isplitr; swap; (· iexact H5); ipureintro; dsimp only [dats]
  isplitl [H6]; · iexists _; isplitr; swap; (· iexact H6); ipureintro; dsimp only [dats]
  isplitl [H7]; · iexists _; isplitr; swap; (· iexact H7); ipureintro; dsimp only [dats]
  iexists _; isplitr; swap; (· iexact H8); ipureintro; dsimp only [dats]

theorem share_eq (c : Dev nD) (w : Fin cfg0.W) : (dats m 0 c).share w = fullShare := by
  unfold Dat.share; split <;> rfl

/-- The post of the run: the arrays at the library's contents, the rest as at the region's entry, every counter zero. -/
def QF : PUnit × MemSt nD τ sig (Elt F) → Prop := fun r =>
  Pipeline.FramePost cfgs (dats m) 0 (V m) r ∧ r.2.sem = fun _ => 0

-- the launch theorem's implicit arguments are found by unifying its conclusion with this one
set_option backward.isDefEq.respectTransparency.types false in
/-- Every weakly fair execution of @main terminates, nothing faulting, in a state of the post `QF`. -/
theorem run_main : θ_run defs (onTc (τ := τ) (main (F := F))) (s₀ m ρ) (QF m) :=
  Pipeline.θ_run_frame (Q' := QF m) cfgs (dats m) (0 : Fin 1) launch0 defs₀ Variants.none m ρ main
    (fun c => (body_obligation m c).loose) (share_eq m) (fun _ _ => rfl) (V m) (hmain m Variants.none)
    (fun _ _ => rfl) (fun _ _ => rfl) (hQ' := fun _ h => h)

end Cert.Proof.KernelIdeal

end
-- ==== Proof.RefRun.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

/-! The reference's @main as a chain of stretches of host operations around one counted host loop, and its run:
every execution ends with every buffer at the fold of the operations over the launch memory. -/

set_option maxRecDepth 2012

noncomputable section

namespace Cert.Proof.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- 4 host operations, in order. -/
abbrev main_part0_ops0 : List (HloOp τ sig (Elt F)) :=
  [ StableHlo.binary main_arg0 main_arg1 main_v0 ((fun l r => Host.dotGeneral dot_S4x2048x64_S64x32_S4x2048x32_2_0_01_1_n_n none l r) : (⟨S4x2048x64, .f32⟩ : BufTy).Contents (Elt F) → (⟨S64x32, .f32⟩ : BufTy).Contents (Elt F) → (⟨S4x2048x32, .f32⟩ : BufTy).Contents (Elt F)),
    StableHlo.unary main_arg2 main_v1 (broadcastInDim S1x1x32 ![2] bcast_S32_S1x1x32_2 : (⟨S32, .f32⟩ : BufTy).Contents (Elt F) → (⟨S1x1x32, .f32⟩ : BufTy).Contents (Elt F)),
    StableHlo.unary main_v1 main_v2 (broadcastInDim S4x2048x32 ![0, 1, 2] bcast_S1x1x32_S4x2048x32_0_1_2 : (⟨S1x1x32, .f32⟩ : BufTy).Contents (Elt F) → (⟨S4x2048x32, .f32⟩ : BufTy).Contents (Elt F)),
    StableHlo.binary main_v0 main_v2 main_v3 (addf : (⟨S4x2048x32, .f32⟩ : BufTy).Contents (Elt F) → (⟨S4x2048x32, .f32⟩ : BufTy).Contents (Elt F) → (⟨S4x2048x32, .f32⟩ : BufTy).Contents (Elt F)) ]
theorem main_part0_ops0_sub : (main_part0_ops0 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
theorem main_part0_ops0_fresh : (main_part0_ops0 : List (HloOp τ sig (Elt F))).Forall fun op => op.fresh = ∅ :=
  StableHlo.forall_fresh_of_map rfl
/-- The references written. -/
abbrev main_part0_ops0_W : List (Ref sig .tc) := [main_v0, main_v1, main_v2, main_v3]
theorem main_part0_ops0_writes : (main_part0_ops0 : List (HloOp τ sig (Elt F))).Forall fun op => op.writes ⊆ (main_part0_ops0_W.map (Proc.devRef (τ := τ) .tc)).toFinset :=
  StableHlo.forall_writes_sub_of_map rfl
/-- 3 host operations, in order. -/
abbrev main_part0_ops1 : List (HloOp τ sig (Elt F)) :=
  [ StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S4x2048x32, .f32⟩) (broadcastInDim S4x2048x32 ![] bcast_S_S4x2048x32),
    StableHlo.TRef.binary (.of main_v3 : StableHlo.TRef sig ⟨S4x2048x32, .f32⟩) (.of main_call0_v0 : StableHlo.TRef sig ⟨S4x2048x32, .f32⟩) (.of main_v4 : StableHlo.TRef sig ⟨S4x2048x32, .f32⟩) maximumf ]
theorem main_part0_ops1_sub : (main_part0_ops1 : List (HloOp τ sig (Elt F))).Forall fun op => op.bufs ⊆ StableHlo.tcRefs τ sig :=
  ⟨StableHlo.nullary_bufs_sub .., StableHlo.unary_bufs_sub .., StableHlo.binary_bufs_sub ..⟩
theorem main_part0_ops1_fresh : (main_part0_ops1 : List (HloOp τ sig (Elt F))).Forall fun op => op.fresh = ∅ :=
  StableHlo.forall_fresh_of_map rfl
/-- The references written. -/
abbrev main_part0_ops1_W : List (Ref sig .tc) := [main_call0_cst, main_call0_v0, main_v4]
theorem main_part0_ops1_writes : (main_part0_ops1 : List (HloOp τ sig (Elt F))).Forall fun op => op.writes ⊆ (main_part0_ops1_W.map (Proc.devRef (τ := τ) .tc)).toFinset :=
  StableHlo.forall_writes_sub_of_map rfl
/-- 4 host operations, in order. -/
abbrev main_part0_ops2 : List (HloOp τ sig (Elt F)) :=
  [ StableHlo.binary main_v4 main_arg3 main_v5 ((fun l r => Host.dotGeneral dot_S4x2048x32_S32x128_S4x2048x128_2_0_01_1_n_n none l r) : (⟨S4x2048x32, .f32⟩ : BufTy).Contents (Elt F) → (⟨S32x128, .f32⟩ : BufTy).Contents (Elt F) → (⟨S4x2048x128, .f32⟩ : BufTy).Contents (Elt F)),
    StableHlo.unary main_arg4 main_v6 (broadcastInDim S1x1x128 ![2] bcast_S128_S1x1x128_2 : (⟨S128, .f32⟩ : BufTy).Contents (Elt F) → (⟨S1x1x128, .f32⟩ : BufTy).Contents (Elt F)),
    StableHlo.unary main_v6 main_v7 (broadcastInDim S4x2048x128 ![0, 1, 2] bcast_S1x1x128_S4x2048x128_0_1_2 : (⟨S1x1x128, .f32⟩ : BufTy).Contents (Elt F) → (⟨S4x2048x128, .f32⟩ : BufTy).Contents (Elt F)),
    StableHlo.binary main_v5 main_v7 main_v8 (addf : (⟨S4x2048x128, .f32⟩ : BufTy).Contents (Elt F) → (⟨S4x2048x128, .f32⟩ : BufTy).Contents (Elt F) → (⟨S4x2048x128, .f32⟩ : BufTy).Contents (Elt F)) ]
theorem main_part0_ops2_sub : (main_part0_ops2 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
theorem main_part0_ops2_fresh : (main_part0_ops2 : List (HloOp τ sig (Elt F))).Forall fun op => op.fresh = ∅ :=
  StableHlo.forall_fresh_of_map rfl
/-- The references written. -/
abbrev main_part0_ops2_W : List (Ref sig .tc) := [main_v5, main_v6, main_v7, main_v8]
theorem main_part0_ops2_writes : (main_part0_ops2 : List (HloOp τ sig (Elt F))).Forall fun op => op.writes ⊆ (main_part0_ops2_W.map (Proc.devRef (τ := τ) .tc)).toFinset :=
  StableHlo.forall_writes_sub_of_map rfl
/-- 3 host operations, in order. -/
abbrev main_part0_ops3 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S4x2048x128, .f32⟩) (broadcastInDim S4x2048x128 ![] bcast_S_S4x2048x128),
    StableHlo.TRef.binary (.of main_v8 : StableHlo.TRef sig ⟨S4x2048x128, .f32⟩) (.of main_call1_v0 : StableHlo.TRef sig ⟨S4x2048x128, .f32⟩) (.of main_v9 : StableHlo.TRef sig ⟨S4x2048x128, .f32⟩) maximumf ]
theorem main_part0_ops3_sub : (main_part0_ops3 : List (HloOp τ sig (Elt F))).Forall fun op => op.bufs ⊆ StableHlo.tcRefs τ sig :=
  ⟨StableHlo.nullary_bufs_sub .., StableHlo.unary_bufs_sub .., StableHlo.binary_bufs_sub ..⟩
theorem main_part0_ops3_fresh : (main_part0_ops3 : List (HloOp τ sig (Elt F))).Forall fun op => op.fresh = ∅ :=
  StableHlo.forall_fresh_of_map rfl
/-- The references written. -/
abbrev main_part0_ops3_W : List (Ref sig .tc) := [main_call1_cst, main_call1_v0, main_v9]
theorem main_part0_ops3_writes : (main_part0_ops3 : List (HloOp τ sig (Elt F))).Forall fun op => op.writes ⊆ (main_part0_ops3_W.map (Proc.devRef (τ := τ) .tc)).toFinset :=
  StableHlo.forall_writes_sub_of_map rfl
/-- 4 host operations, in order. -/
abbrev main_part0_ops4 : List (HloOp τ sig (Elt F)) :=
  [ StableHlo.unary main_v9 main_v10 ((extractStridedSlice S1x2048x128 ![0, 0, 0] · slices_S4x2048x128_S1x2048x128_0_0_0) : (⟨S4x2048x128, .f32⟩ : BufTy).Contents (Elt F) → (⟨S1x2048x128, .f32⟩ : BufTy).Contents (Elt F)),
    StableHlo.reshape main_v10 main_v11 (rfl : (.f32 : EltTy) = .f32) shapeCasts_S1x2048x128_S2048x128,
    StableHlo.nullary main_c (constantI S_ 32 0#32),
    StableHlo.nullary main_c_0 (constantI S_ 32 2047#32) ]
theorem main_part0_ops4_sub : (main_part0_ops4 : List (HloOp τ sig (Elt F))).Forall fun op => op.bufs ⊆ StableHlo.tcRefs τ sig :=
  ⟨StableHlo.unary_bufs_sub .., StableHlo.reshape_bufs_sub .., StableHlo.nullary_bufs_sub .., StableHlo.nullary_bufs_sub ..⟩
theorem main_part0_ops4_fresh : (main_part0_ops4 : List (HloOp τ sig (Elt F))).Forall fun op => op.fresh = ∅ :=
  StableHlo.forall_fresh_of_map rfl
/-- The references written. -/
abbrev main_part0_ops4_W : List (Ref sig .tc) := [main_v10, main_v11, main_c, main_c_0]
theorem main_part0_ops4_writes : (main_part0_ops4 : List (HloOp τ sig (Elt F))).Forall fun op => op.writes ⊆ (main_part0_ops4_W.map (Proc.devRef (τ := τ) .tc)).toFinset :=
  StableHlo.forall_writes_sub_of_map rfl
/-- 21 host operations, in order. -/
abbrev main_part0_ops5 : List (HloOp τ sig (Elt F)) :=
  [ StableHlo.TRef.unary (.of main_c : StableHlo.TRef sig ⟨S_, .i32⟩) (.of main_call2_v0 : StableHlo.TRef sig ⟨S_, .f32⟩) (sitofp .f32),
    StableHlo.TRef.unary (.of main_c_0 : StableHlo.TRef sig ⟨S_, .i32⟩) (.of main_call2_v1 : StableHlo.TRef sig ⟨S_, .f32⟩) (sitofp .f32),
    StableHlo.TRef.binary (.of main_call2_v1 : StableHlo.TRef sig ⟨S_, .f32⟩) (.of main_call2_v0 : StableHlo.TRef sig ⟨S_, .f32⟩) (.of main_call2_v2 : StableHlo.TRef sig ⟨S_, .f32⟩) subf,
    StableHlo.TRef.nullary (.of main_call2_cst : StableHlo.TRef sig ⟨S_, .f32⟩) (constant S_ .f32 0x40800000#32),
    StableHlo.TRef.binary (.of main_call2_v2 : StableHlo.TRef sig ⟨S_, .f32⟩) (.of main_call2_cst : StableHlo.TRef sig ⟨S_, .f32⟩) (.of main_call2_v3 : StableHlo.TRef sig ⟨S_, .f32⟩) Host.divf,
    StableHlo.TRef.nullary (.of main_call2_v4 : StableHlo.TRef sig ⟨S4, .f32⟩) (sitofp .f32 (iotaInDim S4 32 0)),
    StableHlo.TRef.nullary (.of main_call2_cst_0 : StableHlo.TRef sig ⟨S_, .f32⟩) (constant S_ .f32 0x40800000#32),
    StableHlo.TRef.unary (.of main_call2_cst_0 : StableHlo.TRef sig ⟨S_, .f32⟩) (.of main_call2_v5 : StableHlo.TRef sig ⟨S4, .f32⟩) (broadcastInDim S4 ![] bcast_S_S4),
    StableHlo.TRef.binary (.of main_call2_v4 : StableHlo.TRef sig ⟨S4, .f32⟩) (.of main_call2_v5 : StableHlo.TRef sig ⟨S4, .f32⟩) (.of main_call2_v6 : StableHlo.TRef sig ⟨S4, .f32⟩) Host.divf,
    StableHlo.TRef.reshape (.of main_call2_v0 : StableHlo.TRef sig ⟨S_, .f32⟩) (.of main_call2_v7 : StableHlo.TRef sig ⟨S1, .f32⟩) (rfl : (.f32 : EltTy) = .f32) shapeCasts_S_S1,
    StableHlo.TRef.nullary (.of main_call2_cst_1 : StableHlo.TRef sig ⟨S_, .f32⟩) (constant S_ .f32 0x3F800000#32),
    StableHlo.TRef.unary (.of main_call2_cst_1 : StableHlo.TRef sig ⟨S_, .f32⟩) (.of main_call2_v8 : StableHlo.TRef sig ⟨S4, .f32⟩) (broadcastInDim S4 ![] bcast_S_S4),
    StableHlo.TRef.binary (.of main_call2_v8 : StableHlo.TRef sig ⟨S4, .f32⟩) (.of main_call2_v6 : StableHlo.TRef sig ⟨S4, .f32⟩) (.of main_call2_v9 : StableHlo.TRef sig ⟨S4, .f32⟩) subf,
    StableHlo.TRef.unary (.of main_call2_v7 : StableHlo.TRef sig ⟨S1, .f32⟩) (.of main_call2_v10 : StableHlo.TRef sig ⟨S4, .f32⟩) (broadcastInDim S4 ![0] bcast_S1_S4_0),
    StableHlo.TRef.binary (.of main_call2_v10 : StableHlo.TRef sig ⟨S4, .f32⟩) (.of main_call2_v9 : StableHlo.TRef sig ⟨S4, .f32⟩) (.of main_call2_v11 : StableHlo.TRef sig ⟨S4, .f32⟩) mulf,
    StableHlo.TRef.reshape (.of main_call2_v1 : StableHlo.TRef sig ⟨S_, .f32⟩) (.of main_call2_v12 : StableHlo.TRef sig ⟨S1, .f32⟩) (rfl : (.f32 : EltTy) = .f32) shapeCasts_S_S1,
    StableHlo.TRef.unary (.of main_call2_v12 : StableHlo.TRef sig ⟨S1, .f32⟩) (.of main_call2_v13 : StableHlo.TRef sig ⟨S4, .f32⟩) (broadcastInDim S4 ![0] bcast_S1_S4_0),
    StableHlo.TRef.binary (.of main_call2_v13 : StableHlo.TRef sig ⟨S4, .f32⟩) (.of main_call2_v6 : StableHlo.TRef sig ⟨S4, .f32⟩) (.of main_call2_v14 : StableHlo.TRef sig ⟨S4, .f32⟩) mulf,
    StableHlo.TRef.binary (.of main_call2_v11 : StableHlo.TRef sig ⟨S4, .f32⟩) (.of main_call2_v14 : StableHlo.TRef sig ⟨S4, .f32⟩) (.of main_call2_v15 : StableHlo.TRef sig ⟨S4, .f32⟩) addf,
    StableHlo.TRef.unary (.of main_call2_v1 : StableHlo.TRef sig ⟨S_, .f32⟩) (.of main_call2_v16 : StableHlo.TRef sig ⟨S1, .f32⟩) (broadcastInDim S1 ![] bcast_S_S1),
    StableHlo.TRef.binary (.of main_call2_v15 : StableHlo.TRef sig ⟨S4, .f32⟩) (.of main_call2_v16 : StableHlo.TRef sig ⟨S1, .f32⟩) (.of main_v12 : StableHlo.TRef sig ⟨S5, .f32⟩) (fun a b => concatenate S5 0 [⟨S4, a⟩, ⟨S1, b⟩] concatenates_S4_S1_S5_d0) ]
theorem main_part0_ops5_sub : (main_part0_ops5 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.binary_bufs_sub .., StableHlo.nullary_bufs_sub .., StableHlo.nullary_bufs_sub .., StableHlo.unary_bufs_sub .., StableHlo.binary_bufs_sub .., StableHlo.reshape_bufs_sub .., StableHlo.nullary_bufs_sub .., StableHlo.unary_bufs_sub .., StableHlo.binary_bufs_sub .., StableHlo.unary_bufs_sub .., StableHlo.binary_bufs_sub .., StableHlo.reshape_bufs_sub .., StableHlo.unary_bufs_sub .., StableHlo.binary_bufs_sub .., StableHlo.binary_bufs_sub .., StableHlo.unary_bufs_sub .., StableHlo.binary_bufs_sub ..⟩
theorem main_part0_ops5_fresh : (main_part0_ops5 : List (HloOp τ sig (Elt F))).Forall fun op => op.fresh = ∅ :=
  StableHlo.forall_fresh_of_map rfl
/-- The references written. -/
abbrev main_part0_ops5_W : List (Ref sig .tc) := [main_call2_v0, main_call2_v1, main_call2_v2, main_call2_cst, main_call2_v3, main_call2_v4, main_call2_cst_0, main_call2_v5, main_call2_v6, main_call2_v7, main_call2_cst_1, main_call2_v8, main_call2_v9, main_call2_v10, main_call2_v11, main_call2_v12, main_call2_v13, main_call2_v14, main_call2_v15, main_call2_v16, main_v12]
theorem main_part0_ops5_writes : (main_part0_ops5 : List (HloOp τ sig (Elt F))).Forall fun op => op.writes ⊆ (main_part0_ops5_W.map (Proc.devRef (τ := τ) .tc)).toFinset :=
  StableHlo.forall_writes_sub_of_map rfl
/-- 19 host operations, in order. -/
abbrev main_part0_ops6 : List (HloOp τ sig (Elt F)) :=
  [ StableHlo.unary main_v12 main_v13 (fptosi 32 : (⟨S5, .f32⟩ : BufTy).Contents (Elt F) → (⟨S5, .i32⟩ : BufTy).Contents (Elt F)),
    StableHlo.nullary main_c_1 (constantI S_ 32 0#32),
    StableHlo.unary main_c_1 main_v14 (broadcastInDim S5 ![] bcast_S_S5 : (⟨S_, .i32⟩ : BufTy).Contents (Elt F) → (⟨S5, .i32⟩ : BufTy).Contents (Elt F)),
    StableHlo.binary main_v13 main_v14 main_v15 (cmpi .slt : (⟨S5, .i32⟩ : BufTy).Contents (Elt F) → (⟨S5, .i32⟩ : BufTy).Contents (Elt F) → (⟨S5, .i1⟩ : BufTy).Contents (Elt F)),
    StableHlo.nullary main_c_2 (constantI S_ 32 2048#32),
    StableHlo.unary main_c_2 main_v16 (broadcastInDim S5 ![] bcast_S_S5 : (⟨S_, .i32⟩ : BufTy).Contents (Elt F) → (⟨S5, .i32⟩ : BufTy).Contents (Elt F)),
    StableHlo.binary main_v13 main_v16 main_v17 (addi : (⟨S5, .i32⟩ : BufTy).Contents (Elt F) → (⟨S5, .i32⟩ : BufTy).Contents (Elt F) → (⟨S5, .i32⟩ : BufTy).Contents (Elt F)),
    StableHlo.ternary main_v15 main_v17 main_v13 main_v18 (select : (⟨S5, .i1⟩ : BufTy).Contents (Elt F) → (⟨S5, .i32⟩ : BufTy).Contents (Elt F) → (⟨S5, .i32⟩ : BufTy).Contents (Elt F) → (⟨S5, .i32⟩ : BufTy).Contents (Elt F)),
    StableHlo.unary main_v18 main_v19 (broadcastInDim S5x1 ![0] bcast_S5_S5x1_0 : (⟨S5, .i32⟩ : BufTy).Contents (Elt F) → (⟨S5x1, .i32⟩ : BufTy).Contents (Elt F)),
    StableHlo.binary main_v11 main_v19 main_v20 ((fun x i => Host.gather gather_S2048x128_S5x1_S5x128_1_0_n_n_0_1_1128 x i) : (⟨S2048x128, .f32⟩ : BufTy).Contents (Elt F) → (⟨S5x1, .i32⟩ : BufTy).Contents (Elt F) → (⟨S5x128, .f32⟩ : BufTy).Contents (Elt F)),
    StableHlo.nullary main_c_3 (constantI S_ 32 0#32),
    StableHlo.unary main_c_3 main_v21 (broadcastInDim S2048 ![] bcast_S_S2048 : (⟨S_, .i32⟩ : BufTy).Contents (Elt F) → (⟨S2048, .i32⟩ : BufTy).Contents (Elt F)),
    StableHlo.nullary main_c_4 (constantI S_ 32 0#32),
    StableHlo.nullary main_c_5 (constantI S_ 32 0#32),
    StableHlo.unary main_v11 main_v22_0 id,
    StableHlo.unary main_c_5 main_v22_1 id,
    StableHlo.unary main_c_4 main_v22_2 id,
    StableHlo.unary main_v20 main_v22_3 id,
    StableHlo.unary main_v21 main_v22_4 id ]
theorem main_part0_ops6_sub : (main_part0_ops6 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub ..⟩
theorem main_part0_ops6_fresh : (main_part0_ops6 : List (HloOp τ sig (Elt F))).Forall fun op => op.fresh = ∅ :=
  StableHlo.forall_fresh_of_map rfl
/-- The references written. -/
abbrev main_part0_ops6_W : List (Ref sig .tc) := [main_v13, main_c_1, main_v14, main_v15, main_c_2, main_v16, main_v17, main_v18, main_v19, main_v20, main_c_3, main_v21, main_c_4, main_c_5, main_v22_0, main_v22_1, main_v22_2, main_v22_3, main_v22_4]
theorem main_part0_ops6_writes : (main_part0_ops6 : List (HloOp τ sig (Elt F))).Forall fun op => op.writes ⊆ (main_part0_ops6_W.map (Proc.devRef (τ := τ) .tc)).toFinset :=
  StableHlo.forall_writes_sub_of_map rfl
/-- 6 host operations, in order. -/
abbrev main_part0_ops7 : List (HloOp τ sig (Elt F)) :=
  [ StableHlo.TRef.unary (.of main_v22_4 : StableHlo.TRef sig ⟨S2048, .i32⟩) (.of main_call5_v0 : StableHlo.TRef sig ⟨S2048x1, .i32⟩) (broadcastInDim S2048x1 ![0] bcast_S2048_S2048x1_0),
    StableHlo.TRef.nullary (.of main_call5_v1 : StableHlo.TRef sig ⟨S1x5, .i32⟩) (iotaInDim S1x5 32 1),
    StableHlo.TRef.unary (.of main_call5_v0 : StableHlo.TRef sig ⟨S2048x1, .i32⟩) (.of main_call5_v2 : StableHlo.TRef sig ⟨S2048x5, .i32⟩) (broadcastInDim S2048x5 ![0, 1] bcast_S2048x1_S2048x5_0_1),
    StableHlo.TRef.unary (.of main_call5_v1 : StableHlo.TRef sig ⟨S1x5, .i32⟩) (.of main_call5_v3 : StableHlo.TRef sig ⟨S2048x5, .i32⟩) (broadcastInDim S2048x5 ![0, 1] bcast_S1x5_S2048x5_0_1),
    StableHlo.TRef.binary (.of main_call5_v2 : StableHlo.TRef sig ⟨S2048x5, .i32⟩) (.of main_call5_v3 : StableHlo.TRef sig ⟨S2048x5, .i32⟩) (.of main_call5_v4 : StableHlo.TRef sig ⟨S2048x5, .i1⟩) (cmpi .eq),
    StableHlo.TRef.unary (.of main_call5_v4 : StableHlo.TRef sig ⟨S2048x5, .i1⟩) (.of main_v23 : StableHlo.TRef sig ⟨S2048x5, .f32⟩) (uitofp .f32) ]
theorem main_part0_ops7_sub : (main_part0_ops7 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.binary_bufs_sub .., StableHlo.unary_bufs_sub ..⟩
theorem main_part0_ops7_fresh : (main_part0_ops7 : List (HloOp τ sig (Elt F))).Forall fun op => op.fresh = ∅ :=
  StableHlo.forall_fresh_of_map rfl
/-- The references written. -/
abbrev main_part0_ops7_W : List (Ref sig .tc) := [main_call5_v0, main_call5_v1, main_call5_v2, main_call5_v3, main_call5_v4, main_v23]
theorem main_part0_ops7_writes : (main_part0_ops7 : List (HloOp τ sig (Elt F))).Forall fun op => op.writes ⊆ (main_part0_ops7_W.map (Proc.devRef (τ := τ) .tc)).toFinset :=
  StableHlo.forall_writes_sub_of_map rfl
/-- 24 host operations, in order. -/
abbrev main_part0_ops8 : List (HloOp τ sig (Elt F)) :=
  [ StableHlo.nullary main_cst (constant S_ .f32 0x00000000#32),
    StableHlo.binary main_v23 main_cst main_v24 ((fun x v => Host.reduceAdd x v reducesTo_S2048x5_S5_d0 h_S_) : (⟨S2048x5, .f32⟩ : BufTy).Contents (Elt F) → (⟨S_, .f32⟩ : BufTy).Contents (Elt F) → (⟨S5, .f32⟩ : BufTy).Contents (Elt F)),
    StableHlo.binary main_v9 main_v23 main_v25 ((fun l r => Host.dotGeneral dot_S4x2048x128_S2048x5_S4x128x5_1_0_02_1_n_n none l r) : (⟨S4x2048x128, .f32⟩ : BufTy).Contents (Elt F) → (⟨S2048x5, .f32⟩ : BufTy).Contents (Elt F) → (⟨S4x128x5, .f32⟩ : BufTy).Contents (Elt F)),
    StableHlo.unary main_v25 main_v26 ((transpose S4x5x128 [0, 2, 1] · transposes_S4x128x5_S4x5x128_0_2_1) : (⟨S4x128x5, .f32⟩ : BufTy).Contents (Elt F) → (⟨S4x5x128, .f32⟩ : BufTy).Contents (Elt F)),
    StableHlo.nullary main_cst_6 (constant S_ .f32 0x3F800000#32),
    StableHlo.unary main_cst_6 main_v27 (broadcastInDim S5 ![] bcast_S_S5 : (⟨S_, .f32⟩ : BufTy).Contents (Elt F) → (⟨S5, .f32⟩ : BufTy).Contents (Elt F)),
    StableHlo.binary main_v24 main_v27 main_v28 (maximumf : (⟨S5, .f32⟩ : BufTy).Contents (Elt F) → (⟨S5, .f32⟩ : BufTy).Contents (Elt F) → (⟨S5, .f32⟩ : BufTy).Contents (Elt F)),
    StableHlo.unary main_v28 main_v29 (broadcastInDim S1x5x1 ![1] bcast_S5_S1x5x1_1 : (⟨S5, .f32⟩ : BufTy).Contents (Elt F) → (⟨S1x5x1, .f32⟩ : BufTy).Contents (Elt F)),
    StableHlo.unary main_v29 main_v30 (broadcastInDim S4x5x128 ![0, 1, 2] bcast_S1x5x1_S4x5x128_0_1_2 : (⟨S1x5x1, .f32⟩ : BufTy).Contents (Elt F) → (⟨S4x5x128, .f32⟩ : BufTy).Contents (Elt F)),
    StableHlo.binary main_v26 main_v30 main_v31 (Host.divf : (⟨S4x5x128, .f32⟩ : BufTy).Contents (Elt F) → (⟨S4x5x128, .f32⟩ : BufTy).Contents (Elt F) → (⟨S4x5x128, .f32⟩ : BufTy).Contents (Elt F)),
    StableHlo.nullary main_c_7 (constantI S_ 32 0#32),
    StableHlo.unary main_c_7 main_v32 (broadcastInDim S2048 ![] bcast_S_S2048 : (⟨S_, .i32⟩ : BufTy).Contents (Elt F) → (⟨S2048, .i32⟩ : BufTy).Contents (Elt F)),
    StableHlo.binary main_v22_4 main_v32 main_v33 (cmpi .slt : (⟨S2048, .i32⟩ : BufTy).Contents (Elt F) → (⟨S2048, .i32⟩ : BufTy).Contents (Elt F) → (⟨S2048, .i1⟩ : BufTy).Contents (Elt F)),
    StableHlo.nullary main_c_8 (constantI S_ 32 5#32),
    StableHlo.unary main_c_8 main_v34 (broadcastInDim S2048 ![] bcast_S_S2048 : (⟨S_, .i32⟩ : BufTy).Contents (Elt F) → (⟨S2048, .i32⟩ : BufTy).Contents (Elt F)),
    StableHlo.binary main_v22_4 main_v34 main_v35 (addi : (⟨S2048, .i32⟩ : BufTy).Contents (Elt F) → (⟨S2048, .i32⟩ : BufTy).Contents (Elt F) → (⟨S2048, .i32⟩ : BufTy).Contents (Elt F)),
    StableHlo.ternary main_v33 main_v35 main_v22_4 main_v36 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v36 main_v37 (broadcastInDim S2048x1 ![0] bcast_S2048_S2048x1_0 : (⟨S2048, .i32⟩ : BufTy).Contents (Elt F) → (⟨S2048x1, .i32⟩ : BufTy).Contents (Elt F)),
    StableHlo.binary main_v31 main_v37 main_v38 ((fun x i => Host.gather gather_S4x5x128_S2048x1_S4x2048x128_02_1_n_n_1_1_41128 x i) : (⟨S4x5x128, .f32⟩ : BufTy).Contents (Elt F) → (⟨S2048x1, .i32⟩ : BufTy).Contents (Elt F) → (⟨S4x2048x128, .f32⟩ : BufTy).Contents (Elt F)),
    StableHlo.binary main_v9 main_v38 main_v39 (subf : (⟨S4x2048x128, .f32⟩ : BufTy).Contents (Elt F) → (⟨S4x2048x128, .f32⟩ : BufTy).Contents (Elt F) → (⟨S4x2048x128, .f32⟩ : BufTy).Contents (Elt F)),
    StableHlo.binary main_v39 main_v39 main_v40 (mulf : (⟨S4x2048x128, .f32⟩ : BufTy).Contents (Elt F) → (⟨S4x2048x128, .f32⟩ : BufTy).Contents (Elt F) → (⟨S4x2048x128, .f32⟩ : BufTy).Contents (Elt F)),
    StableHlo.nullary main_cst_9 (constant S_ .f32 0x00000000#32),
    StableHlo.binary main_v40 main_cst_9 main_v41 ((fun x v => Host.reduceAdd x v reducesTo_S4x2048x128_S4x2048_d2 h_S_) : (⟨S4x2048x128, .f32⟩ : BufTy).Contents (Elt F) → (⟨S_, .f32⟩ : BufTy).Contents (Elt F) → (⟨S4x2048, .f32⟩ : BufTy).Contents (Elt F)),
    StableHlo.nullary main_cst_10 (constant S_ .f32 0x43000000#32) ]
theorem main_part0_ops8_sub : (main_part0_ops8 : List (HloOp τ sig (Elt F))).Forall fun op => op.bufs ⊆ StableHlo.tcRefs τ sig :=
  ⟨StableHlo.nullary_bufs_sub .., StableHlo.binary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.nullary_bufs_sub .., StableHlo.binary_bufs_sub .., StableHlo.nullary_bufs_sub ..⟩
theorem main_part0_ops8_fresh : (main_part0_ops8 : List (HloOp τ sig (Elt F))).Forall fun op => op.fresh = ∅ :=
  StableHlo.forall_fresh_of_map rfl
/-- The references written. -/
abbrev main_part0_ops8_W : List (Ref sig .tc) := [main_cst, main_v24, main_v25, main_v26, main_cst_6, main_v27, main_v28, main_v29, main_v30, main_v31, main_c_7, main_v32, main_v33, main_c_8, main_v34, main_v35, main_v36, main_v37, main_v38, main_v39, main_v40, main_cst_9, main_v41, main_cst_10]
theorem main_part0_ops8_writes : (main_part0_ops8 : List (HloOp τ sig (Elt F))).Forall fun op => op.writes ⊆ (main_part0_ops8_W.map (Proc.devRef (τ := τ) .tc)).toFinset :=
  StableHlo.forall_writes_sub_of_map rfl
/-- 13 host operations, in order. -/
abbrev main_part1_ops0_a : List (HloOp τ sig (Elt F)) :=
  [ StableHlo.unary main_cst_10 main_v42 (broadcastInDim S4x2048 ![] bcast_S_S4x2048 : (⟨S_, .f32⟩ : BufTy).Contents (Elt F) → (⟨S4x2048, .f32⟩ : BufTy).Contents (Elt F)),
    StableHlo.binary main_v41 main_v42 main_v43 (Host.divf : (⟨S4x2048, .f32⟩ : BufTy).Contents (Elt F) → (⟨S4x2048, .f32⟩ : BufTy).Contents (Elt F) → (⟨S4x2048, .f32⟩ : BufTy).Contents (Elt F)),
    StableHlo.nullary main_cst_11 (constant S_ .f32 0x7F800000#32),
    StableHlo.binary main_v43 main_cst_11 main_v44 ((fun x v => Host.reduce FloatOps.minimumf x v reducesTo_S4x2048_S4_d1 h_S_) : (⟨S4x2048, .f32⟩ : BufTy).Contents (Elt F) → (⟨S_, .f32⟩ : BufTy).Contents (Elt F) → (⟨S4, .f32⟩ : BufTy).Contents (Elt F)),
    StableHlo.unary main_v44 main_v45 (broadcastInDim S4x1 ![0] bcast_S4_S4x1_0 : (⟨S4, .f32⟩ : BufTy).Contents (Elt F) → (⟨S4x1, .f32⟩ : BufTy).Contents (Elt F)),
    StableHlo.nullary main_cst_12 (constant S_ .f32 0xFF800000#32),
    StableHlo.binary main_v43 main_cst_12 main_v46 ((fun x v => Host.reduce FloatOps.maximumf x v reducesTo_S4x2048_S4_d1 h_S_) : (⟨S4x2048, .f32⟩ : BufTy).Contents (Elt F) → (⟨S_, .f32⟩ : BufTy).Contents (Elt F) → (⟨S4, .f32⟩ : BufTy).Contents (Elt F)),
    StableHlo.unary main_v46 main_v47 (broadcastInDim S4x1 ![0] bcast_S4_S4x1_0 : (⟨S4, .f32⟩ : BufTy).Contents (Elt F) → (⟨S4x1, .f32⟩ : BufTy).Contents (Elt F)),
    StableHlo.unary main_v45 main_v48 (broadcastInDim S4x2048 ![0, 1] bcast_S4x1_S4x2048_0_1 : (⟨S4x1, .f32⟩ : BufTy).Contents (Elt F) → (⟨S4x2048, .f32⟩ : BufTy).Contents (Elt F)),
    StableHlo.binary main_v43 main_v48 main_v49 (subf : (⟨S4x2048, .f32⟩ : BufTy).Contents (Elt F) → (⟨S4x2048, .f32⟩ : BufTy).Contents (Elt F) → (⟨S4x2048, .f32⟩ : BufTy).Contents (Elt F)),
    StableHlo.binary main_v47 main_v45 main_v50 (subf : (⟨S4x1, .f32⟩ : BufTy).Contents (Elt F) → (⟨S4x1, .f32⟩ : BufTy).Contents (Elt F) → (⟨S4x1, .f32⟩ : BufTy).Contents (Elt F)),
    StableHlo.unary main_v50 main_v51 (broadcastInDim S4x2048 ![0, 1] bcast_S4x1_S4x2048_0_1 : (⟨S4x1, .f32⟩ : BufTy).Contents (Elt F) → (⟨S4x2048, .f32⟩ : BufTy).Contents (Elt F)),
    StableHlo.binary main_v49 main_v51 main_v52 (Host.divf : (⟨S4x2048, .f32⟩ : BufTy).Contents (Elt F) → (⟨S4x2048, .f32⟩ : BufTy).Contents (Elt F) → (⟨S4x2048, .f32⟩ : BufTy).Contents (Elt F)) ]
theorem main_part1_ops0_a_sub : (main_part1_ops0_a : List (HloOp τ sig (Elt F))).Forall fun op => op.bufs ⊆ StableHlo.tcRefs τ sig :=
  ⟨StableHlo.unary_bufs_sub .., StableHlo.binary_bufs_sub .., StableHlo.nullary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub ..⟩
theorem main_part1_ops0_a_fresh : (main_part1_ops0_a : List (HloOp τ sig (Elt F))).Forall fun op => op.fresh = ∅ :=
  StableHlo.forall_fresh_of_map rfl
/-- The references written. -/
abbrev main_part1_ops0_a_W : List (Ref sig .tc) := [main_v42, main_v43, main_cst_11, main_v44, main_v45, main_cst_12, main_v46, main_v47, main_v48, main_v49, main_v50, main_v51, main_v52]
theorem main_part1_ops0_a_writes : (main_part1_ops0_a : List (HloOp τ sig (Elt F))).Forall fun op => op.writes ⊆ (main_part1_ops0_a_W.map (Proc.devRef (τ := τ) .tc)).toFinset :=
  StableHlo.forall_writes_sub_of_map rfl
/-- 4 host operations, in order. -/
abbrev main_part1_ops0_b : List (HloOp τ sig (Elt F)) :=
  [ StableHlo.unary main_v22_4 main_v53 (broadcastInDim S1x2048 ![1] bcast_S2048_S1x2048_1 : (⟨S2048, .i32⟩ : BufTy).Contents (Elt F) → (⟨S1x2048, .i32⟩ : BufTy).Contents (Elt F)),
    StableHlo.unary main_v53 main_v54 (sitofp .f32 : (⟨S1x2048, .i32⟩ : BufTy).Contents (Elt F) → (⟨S1x2048, .f32⟩ : BufTy).Contents (Elt F)),
    StableHlo.unary main_v54 main_v55 (broadcastInDim S4x2048 ![0, 1] bcast_S1x2048_S4x2048_0_1 : (⟨S1x2048, .f32⟩ : BufTy).Contents (Elt F) → (⟨S4x2048, .f32⟩ : BufTy).Contents (Elt F)),
    StableHlo.binary main_v52 main_v55 main_v56 (addf : (⟨S4x2048, .f32⟩ : BufTy).Contents (Elt F) → (⟨S4x2048, .f32⟩ : BufTy).Contents (Elt F) → (⟨S4x2048, .f32⟩ : BufTy).Contents (Elt F)) ]
theorem main_part1_ops0_b_sub : (main_part1_ops0_b : List (HloOp τ sig (Elt F))).Forall fun op => op.bufs ⊆ StableHlo.tcRefs τ sig :=
  ⟨StableHlo.unary_bufs_sub .., StableHlo.unary_bufs_sub .., StableHlo.unary_bufs_sub .., StableHlo.binary_bufs_sub ..⟩
theorem main_part1_ops0_b_fresh : (main_part1_ops0_b : List (HloOp τ sig (Elt F))).Forall fun op => op.fresh = ∅ :=
  StableHlo.forall_fresh_of_map rfl
/-- The references written. -/
abbrev main_part1_ops0_b_W : List (Ref sig .tc) := [main_v53, main_v54, main_v55, main_v56]
theorem main_part1_ops0_b_writes : (main_part1_ops0_b : List (HloOp τ sig (Elt F))).Forall fun op => op.writes ⊆ (main_part1_ops0_b_W.map (Proc.devRef (τ := τ) .tc)).toFinset :=
  StableHlo.forall_writes_sub_of_map rfl
/-- 14 host operations, in order. -/
abbrev main_part1_ops0_c : List (HloOp τ sig (Elt F)) :=
  [ StableHlo.nullary main_cst_13 (constant S_ .f32 0x7F800000#32),
    StableHlo.binary main_v56 main_cst_13 main_v57 ((fun x v => Host.reduce FloatOps.minimumf x v reducesTo_S4x2048_S4_d1 h_S_) : (⟨S4x2048, .f32⟩ : BufTy).Contents (Elt F) → (⟨S_, .f32⟩ : BufTy).Contents (Elt F) → (⟨S4, .f32⟩ : BufTy).Contents (Elt F)),
    StableHlo.unary main_v57 main_v58 (broadcastInDim S4x1 ![0] bcast_S4_S4x1_0 : (⟨S4, .f32⟩ : BufTy).Contents (Elt F) → (⟨S4x1, .f32⟩ : BufTy).Contents (Elt F)),
    StableHlo.nullary main_cst_14 (constant S_ .f32 0xFF800000#32),
    StableHlo.binary main_v56 main_cst_14 main_v59 ((fun x v => Host.reduce FloatOps.maximumf x v reducesTo_S4x2048_S4_d1 h_S_) : (⟨S4x2048, .f32⟩ : BufTy).Contents (Elt F) → (⟨S_, .f32⟩ : BufTy).Contents (Elt F) → (⟨S4, .f32⟩ : BufTy).Contents (Elt F)),
    StableHlo.unary main_v59 main_v60 (broadcastInDim S4x1 ![0] bcast_S4_S4x1_0 : (⟨S4, .f32⟩ : BufTy).Contents (Elt F) → (⟨S4x1, .f32⟩ : BufTy).Contents (Elt F)),
    StableHlo.unary main_v58 main_v61 (broadcastInDim S4x2048 ![0, 1] bcast_S4x1_S4x2048_0_1 : (⟨S4x1, .f32⟩ : BufTy).Contents (Elt F) → (⟨S4x2048, .f32⟩ : BufTy).Contents (Elt F)),
    StableHlo.binary main_v56 main_v61 main_v62 (subf : (⟨S4x2048, .f32⟩ : BufTy).Contents (Elt F) → (⟨S4x2048, .f32⟩ : BufTy).Contents (Elt F) → (⟨S4x2048, .f32⟩ : BufTy).Contents (Elt F)),
    StableHlo.binary main_v60 main_v58 main_v63 (subf : (⟨S4x1, .f32⟩ : BufTy).Contents (Elt F) → (⟨S4x1, .f32⟩ : BufTy).Contents (Elt F) → (⟨S4x1, .f32⟩ : BufTy).Contents (Elt F)),
    StableHlo.unary main_v63 main_v64 (broadcastInDim S4x2048 ![0, 1] bcast_S4x1_S4x2048_0_1 : (⟨S4x1, .f32⟩ : BufTy).Contents (Elt F) → (⟨S4x2048, .f32⟩ : BufTy).Contents (Elt F)),
    StableHlo.binary main_v62 main_v64 main_v65 (Host.divf : (⟨S4x2048, .f32⟩ : BufTy).Contents (Elt F) → (⟨S4x2048, .f32⟩ : BufTy).Contents (Elt F) → (⟨S4x2048, .f32⟩ : BufTy).Contents (Elt F)),
    StableHlo.nullary main_cst_15 (constant S_ .f32 0x40800000#32),
    StableHlo.unary main_cst_15 main_v66 (broadcastInDim S4x2048 ![] bcast_S_S4x2048 : (⟨S_, .f32⟩ : BufTy).Contents (Elt F) → (⟨S4x2048, .f32⟩ : BufTy).Contents (Elt F)),
    StableHlo.binary main_v65 main_v66 main_v67 (mulf : (⟨S4x2048, .f32⟩ : BufTy).Contents (Elt F) → (⟨S4x2048, .f32⟩ : BufTy).Contents (Elt F) → (⟨S4x2048, .f32⟩ : BufTy).Contents (Elt F)) ]
theorem main_part1_ops0_c_sub : (main_part1_ops0_c : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.nullary_bufs_sub .., StableHlo.unary_bufs_sub .., StableHlo.binary_bufs_sub ..⟩
theorem main_part1_ops0_c_fresh : (main_part1_ops0_c : List (HloOp τ sig (Elt F))).Forall fun op => op.fresh = ∅ :=
  StableHlo.forall_fresh_of_map rfl
/-- The references written. -/
abbrev main_part1_ops0_c_W : List (Ref sig .tc) := [main_cst_13, main_v57, main_v58, main_cst_14, main_v59, main_v60, main_v61, main_v62, main_v63, main_v64, main_v65, main_cst_15, main_v66, main_v67]
theorem main_part1_ops0_c_writes : (main_part1_ops0_c : List (HloOp τ sig (Elt F))).Forall fun op => op.writes ⊆ (main_part1_ops0_c_W.map (Proc.devRef (τ := τ) .tc)).toFinset :=
  StableHlo.forall_writes_sub_of_map rfl
/-- 18 host operations, in order. -/
abbrev main_part1_ops0_d : List (HloOp τ sig (Elt F)) :=
  [ StableHlo.nullary main_cst_16 (constant S_ .f32 0x3F800000#32),
    StableHlo.nullary main_cst_17 (constant S_ .f32 0x447A0000#32),
    StableHlo.binary main_cst_16 main_cst_17 main_v68 (Host.divf : (⟨S_, .f32⟩ : BufTy).Contents (Elt F) → (⟨S_, .f32⟩ : BufTy).Contents (Elt F) → (⟨S_, .f32⟩ : BufTy).Contents (Elt F)),
    StableHlo.unary main_v67 main_v69 (broadcastInDim S4x2048x1 ![0, 1] bcast_S4x2048_S4x2048x1_0_1 : (⟨S4x2048, .f32⟩ : BufTy).Contents (Elt F) → (⟨S4x2048x1, .f32⟩ : BufTy).Contents (Elt F)),
    StableHlo.unary main_v67 main_v70 (broadcastInDim S4x1x2048 ![0, 2] bcast_S4x2048_S4x1x2048_0_2 : (⟨S4x2048, .f32⟩ : BufTy).Contents (Elt F) → (⟨S4x1x2048, .f32⟩ : BufTy).Contents (Elt F)),
    StableHlo.unary main_v69 main_v71 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    StableHlo.unary main_v70 main_v72 (broadcastInDim S4x2048x2048 ![0, 1, 2] bcast_S4x1x2048_S4x2048x2048_0_1_2 : (⟨S4x1x2048, .f32⟩ : BufTy).Contents (Elt F) → (⟨S4x2048x2048, .f32⟩ : BufTy).Contents (Elt F)),
    StableHlo.binary main_v71 main_v72 main_v73 (subf : (⟨S4x2048x2048, .f32⟩ : BufTy).Contents (Elt F) → (⟨S4x2048x2048, .f32⟩ : BufTy).Contents (Elt F) → (⟨S4x2048x2048, .f32⟩ : BufTy).Contents (Elt F)),
    StableHlo.unary main_v68 main_v74 (broadcastInDim S4x2048x2048 ![] bcast_S_S4x2048x2048 : (⟨S_, .f32⟩ : BufTy).Contents (Elt F) → (⟨S4x2048x2048, .f32⟩ : BufTy).Contents (Elt F)),
    StableHlo.binary main_v73 main_v74 main_v75 (Host.divf : (⟨S4x2048x2048, .f32⟩ : BufTy).Contents (Elt F) → (⟨S4x2048x2048, .f32⟩ : BufTy).Contents (Elt F) → (⟨S4x2048x2048, .f32⟩ : BufTy).Contents (Elt F)),
    StableHlo.unary main_v75 main_v76 (Host.negf : (⟨S4x2048x2048, .f32⟩ : BufTy).Contents (Elt F) → (⟨S4x2048x2048, .f32⟩ : BufTy).Contents (Elt F)),
    StableHlo.unary main_v76 main_v77 (Host.exp : (⟨S4x2048x2048, .f32⟩ : BufTy).Contents (Elt F) → (⟨S4x2048x2048, .f32⟩ : BufTy).Contents (Elt F)),
    StableHlo.nullary main_cst_18 (constant S_ .f32 0x3F800000#32),
    StableHlo.unary main_cst_18 main_v78 (broadcastInDim S4x2048x2048 ![] bcast_S_S4x2048x2048 : (⟨S_, .f32⟩ : BufTy).Contents (Elt F) → (⟨S4x2048x2048, .f32⟩ : BufTy).Contents (Elt F)),
    StableHlo.binary main_v78 main_v77 main_v79 (addf : (⟨S4x2048x2048, .f32⟩ : BufTy).Contents (Elt F) → (⟨S4x2048x2048, .f32⟩ : BufTy).Contents (Elt F) → (⟨S4x2048x2048, .f32⟩ : BufTy).Contents (Elt F)),
    StableHlo.nullary main_cst_19 (constant S_ .f32 0x3F800000#32),
    StableHlo.unary main_cst_19 main_v80 (broadcastInDim S4x2048x2048 ![] bcast_S_S4x2048x2048 : (⟨S_, .f32⟩ : BufTy).Contents (Elt F) → (⟨S4x2048x2048, .f32⟩ : BufTy).Contents (Elt F)),
    StableHlo.binary main_v80 main_v79 main_v81 (Host.divf : (⟨S4x2048x2048, .f32⟩ : BufTy).Contents (Elt F) → (⟨S4x2048x2048, .f32⟩ : BufTy).Contents (Elt F) → (⟨S4x2048x2048, .f32⟩ : BufTy).Contents (Elt F)) ]
theorem main_part1_ops0_d_sub : (main_part1_ops0_d : List (HloOp τ sig (Elt F))).Forall fun op => op.bufs ⊆ StableHlo.tcRefs τ sig :=
  ⟨StableHlo.nullary_bufs_sub .., StableHlo.nullary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩
theorem main_part1_ops0_d_fresh : (main_part1_ops0_d : List (HloOp τ sig (Elt F))).Forall fun op => op.fresh = ∅ :=
  StableHlo.forall_fresh_of_map rfl
/-- The references written. -/
abbrev main_part1_ops0_d_W : List (Ref sig .tc) := [main_cst_16, main_cst_17, main_v68, main_v69, main_v70, main_v71, main_v72, main_v73, main_v74, main_v75, main_v76, main_v77, main_cst_18, main_v78, main_v79, main_cst_19, main_v80, main_v81]
theorem main_part1_ops0_d_writes : (main_part1_ops0_d : List (HloOp τ sig (Elt F))).Forall fun op => op.writes ⊆ (main_part1_ops0_d_W.map (Proc.devRef (τ := τ) .tc)).toFinset :=
  StableHlo.forall_writes_sub_of_map rfl
/-- 5 host operations, in order. -/
abbrev main_part1_ops0_e : List (HloOp τ sig (Elt F)) :=
  [ StableHlo.nullary main_cst_20 (constant S_ .f32 0x00000000#32),
    StableHlo.binary main_v81 main_cst_20 main_v82 ((fun x v => Host.reduceAdd x v reducesTo_S4x2048x2048_S4x2048_d2 h_S_) : (⟨S4x2048x2048, .f32⟩ : BufTy).Contents (Elt F) → (⟨S_, .f32⟩ : BufTy).Contents (Elt F) → (⟨S4x2048, .f32⟩ : BufTy).Contents (Elt F)),
    StableHlo.nullary main_cst_21 (constant S_ .f32 0x3F000000#32),
    StableHlo.unary main_cst_21 main_v83 (broadcastInDim S4x2048 ![] bcast_S_S4x2048 : (⟨S_, .f32⟩ : BufTy).Contents (Elt F) → (⟨S4x2048, .f32⟩ : BufTy).Contents (Elt F)),
    StableHlo.binary main_v82 main_v83 main_v84 (addf : (⟨S4x2048, .f32⟩ : BufTy).Contents (Elt F) → (⟨S4x2048, .f32⟩ : BufTy).Contents (Elt F) → (⟨S4x2048, .f32⟩ : BufTy).Contents (Elt F)) ]
theorem main_part1_ops0_e_sub : (main_part1_ops0_e : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub ..⟩
theorem main_part1_ops0_e_fresh : (main_part1_ops0_e : List (HloOp τ sig (Elt F))).Forall fun op => op.fresh = ∅ :=
  StableHlo.forall_fresh_of_map rfl
/-- The references written. -/
abbrev main_part1_ops0_e_W : List (Ref sig .tc) := [main_cst_20, main_v82, main_cst_21, main_v83, main_v84]
theorem main_part1_ops0_e_writes : (main_part1_ops0_e : List (HloOp τ sig (Elt F))).Forall fun op => op.writes ⊆ (main_part1_ops0_e_W.map (Proc.devRef (τ := τ) .tc)).toFinset :=
  StableHlo.forall_writes_sub_of_map rfl
abbrev main_part1_ops0 : List (HloOp τ sig (Elt F)) := main_part1_ops0_a ++ (main_part1_ops0_b ++ (main_part1_ops0_c ++ (main_part1_ops0_d ++ main_part1_ops0_e)))
theorem main_part1_ops0_sub : (main_part1_ops0 : List (HloOp τ sig (Elt F))).Forall fun op => op.bufs ⊆ StableHlo.tcRefs τ sig :=
  List.forall_append.2 ⟨main_part1_ops0_a_sub, List.forall_append.2 ⟨main_part1_ops0_b_sub, List.forall_append.2 ⟨main_part1_ops0_c_sub, List.forall_append.2 ⟨main_part1_ops0_d_sub, main_part1_ops0_e_sub⟩⟩⟩⟩
theorem main_part1_ops0_fresh : (main_part1_ops0 : List (HloOp τ sig (Elt F))).Forall fun op => op.fresh = ∅ :=
  List.forall_append.2 ⟨main_part1_ops0_a_fresh, List.forall_append.2 ⟨main_part1_ops0_b_fresh, List.forall_append.2 ⟨main_part1_ops0_c_fresh, List.forall_append.2 ⟨main_part1_ops0_d_fresh, main_part1_ops0_e_fresh⟩⟩⟩⟩
/-- 3 host operations, in order. -/
abbrev main_part1_ops1 : List (HloOp τ sig (Elt F)) :=
  [ StableHlo.TRef.nullary (.of main_call6_v0 : StableHlo.TRef sig ⟨S4x2048, .i32⟩) (iotaInDim S4x2048 32 1),
    StableHlo.TRef.binary (.of main_v56 : StableHlo.TRef sig ⟨S4x2048, .f32⟩) (.of main_call6_v0 : StableHlo.TRef sig ⟨S4x2048, .i32⟩) (.of main_call6_v1_0 : StableHlo.TRef sig ⟨S4x2048, .f32⟩) (fun x y => (Host.sort2 S4x2048 1 comparator_f32_i32_d1 x y).1),
    StableHlo.TRef.binary (.of main_v56 : StableHlo.TRef sig ⟨S4x2048, .f32⟩) (.of main_call6_v0 : StableHlo.TRef sig ⟨S4x2048, .i32⟩) (.of main_v85 : StableHlo.TRef sig ⟨S4x2048, .i32⟩) (fun x y => (Host.sort2 S4x2048 1 comparator_f32_i32_d1 x y).2) ]
theorem main_part1_ops1_sub : (main_part1_ops1 : List (HloOp τ sig (Elt F))).Forall fun op => op.bufs ⊆ StableHlo.tcRefs τ sig :=
  ⟨StableHlo.nullary_bufs_sub .., StableHlo.binary_bufs_sub .., StableHlo.binary_bufs_sub ..⟩
theorem main_part1_ops1_fresh : (main_part1_ops1 : List (HloOp τ sig (Elt F))).Forall fun op => op.fresh = ∅ :=
  StableHlo.forall_fresh_of_map rfl
/-- The references written. -/
abbrev main_part1_ops1_W : List (Ref sig .tc) := [main_call6_v0, main_call6_v1_0, main_v85]
theorem main_part1_ops1_writes : (main_part1_ops1 : List (HloOp τ sig (Elt F))).Forall fun op => op.writes ⊆ (main_part1_ops1_W.map (Proc.devRef (τ := τ) .tc)).toFinset :=
  StableHlo.forall_writes_sub_of_map rfl
/-- 3 host operations, in order. -/
abbrev main_part1_ops2 : List (HloOp τ sig (Elt F)) :=
  [ StableHlo.TRef.nullary (.of main_call7_v0 : StableHlo.TRef sig ⟨S4x2048, .i32⟩) (iotaInDim S4x2048 32 1),
    StableHlo.TRef.binary (.of main_v85 : StableHlo.TRef sig ⟨S4x2048, .i32⟩) (.of main_call7_v0 : StableHlo.TRef sig ⟨S4x2048, .i32⟩) (.of main_call7_v1_0 : StableHlo.TRef sig ⟨S4x2048, .i32⟩) (fun x y => (Host.sort2 S4x2048 1 comparator_i32_i32_d1 x y).1),
    StableHlo.TRef.binary (.of main_v85 : StableHlo.TRef sig ⟨S4x2048, .i32⟩) (.of main_call7_v0 : StableHlo.TRef sig ⟨S4x2048, .i32⟩) (.of main_v86 : StableHlo.TRef sig ⟨S4x2048, .i32⟩) (fun x y => (Host.sort2 S4x2048 1 comparator_i32_i32_d1 x y).2) ]
theorem main_part1_ops2_sub : (main_part1_ops2 : List (HloOp τ sig (Elt F))).Forall fun op => op.bufs ⊆ StableHlo.tcRefs τ sig :=
  ⟨StableHlo.nullary_bufs_sub .., StableHlo.binary_bufs_sub .., StableHlo.binary_bufs_sub ..⟩
theorem main_part1_ops2_fresh : (main_part1_ops2 : List (HloOp τ sig (Elt F))).Forall fun op => op.fresh = ∅ :=
  StableHlo.forall_fresh_of_map rfl
/-- The references written. -/
abbrev main_part1_ops2_W : List (Ref sig .tc) := [main_call7_v0, main_call7_v1_0, main_v86]
theorem main_part1_ops2_writes : (main_part1_ops2 : List (HloOp τ sig (Elt F))).Forall fun op => op.writes ⊆ (main_part1_ops2_W.map (Proc.devRef (τ := τ) .tc)).toFinset :=
  StableHlo.forall_writes_sub_of_map rfl
/-- 16 host operations, in order. -/
abbrev main_part1_ops3 : List (HloOp τ sig (Elt F)) :=
  [ StableHlo.TRef.unary (.of main_arg5 : StableHlo.TRef sig ⟨S_, .i32⟩) (.of main_call8_v0 : StableHlo.TRef sig ⟨S4x2048, .i32⟩) (broadcastInDim S4x2048 ![] bcast_S_S4x2048),
    StableHlo.TRef.binary (.of main_v86 : StableHlo.TRef sig ⟨S4x2048, .i32⟩) (.of main_call8_v0 : StableHlo.TRef sig ⟨S4x2048, .i32⟩) (.of main_call8_v1 : StableHlo.TRef sig ⟨S4x2048, .i32⟩) Host.divsi,
    StableHlo.TRef.unary (.of main_v86 : StableHlo.TRef sig ⟨S4x2048, .i32⟩) (.of main_call8_v2 : StableHlo.TRef sig ⟨S4x2048, .i32⟩) signi,
    StableHlo.TRef.unary (.of main_arg5 : StableHlo.TRef sig ⟨S_, .i32⟩) (.of main_call8_v3 : StableHlo.TRef sig ⟨S_, .i32⟩) signi,
    StableHlo.TRef.unary (.of main_call8_v3 : StableHlo.TRef sig ⟨S_, .i32⟩) (.of main_call8_v4 : StableHlo.TRef sig ⟨S4x2048, .i32⟩) (broadcastInDim S4x2048 ![] bcast_S_S4x2048),
    StableHlo.TRef.binary (.of main_call8_v2 : StableHlo.TRef sig ⟨S4x2048, .i32⟩) (.of main_call8_v4 : StableHlo.TRef sig ⟨S4x2048, .i32⟩) (.of main_call8_v5 : StableHlo.TRef sig ⟨S4x2048, .i1⟩) (cmpi .ne),
    StableHlo.TRef.unary (.of main_arg5 : StableHlo.TRef sig ⟨S_, .i32⟩) (.of main_call8_v6 : StableHlo.TRef sig ⟨S4x2048, .i32⟩) (broadcastInDim S4x2048 ![] bcast_S_S4x2048),
    StableHlo.TRef.binary (.of main_v86 : StableHlo.TRef sig ⟨S4x2048, .i32⟩) (.of main_call8_v6 : StableHlo.TRef sig ⟨S4x2048, .i32⟩) (.of main_call8_v7 : StableHlo.TRef sig ⟨S4x2048, .i32⟩) Host.remsi,
    StableHlo.TRef.nullary (.of main_call8_c : StableHlo.TRef sig ⟨S_, .i32⟩) (constantI S_ 32 0#32),
    StableHlo.TRef.unary (.of main_call8_c : StableHlo.TRef sig ⟨S_, .i32⟩) (.of main_call8_v8 : StableHlo.TRef sig ⟨S4x2048, .i32⟩) (broadcastInDim S4x2048 ![] bcast_S_S4x2048),
    StableHlo.TRef.binary (.of main_call8_v7 : StableHlo.TRef sig ⟨S4x2048, .i32⟩) (.of main_call8_v8 : StableHlo.TRef sig ⟨S4x2048, .i32⟩) (.of main_call8_v9 : StableHlo.TRef sig ⟨S4x2048, .i1⟩) (cmpi .ne),
    StableHlo.TRef.binary (.of main_call8_v5 : StableHlo.TRef sig ⟨S4x2048, .i1⟩) (.of main_call8_v9 : StableHlo.TRef sig ⟨S4x2048, .i1⟩) (.of main_call8_v10 : StableHlo.TRef sig ⟨S4x2048, .i1⟩) andi,
    StableHlo.TRef.nullary (.of main_call8_c_0 : StableHlo.TRef sig ⟨S_, .i32⟩) (constantI S_ 32 1#32),
    StableHlo.TRef.unary (.of main_call8_c_0 : StableHlo.TRef sig ⟨S_, .i32⟩) (.of main_call8_v11 : StableHlo.TRef sig ⟨S4x2048, .i32⟩) (broadcastInDim S4x2048 ![] bcast_S_S4x2048),
    StableHlo.TRef.binary (.of main_call8_v1 : StableHlo.TRef sig ⟨S4x2048, .i32⟩) (.of main_call8_v11 : StableHlo.TRef sig ⟨S4x2048, .i32⟩) (.of main_call8_v12 : StableHlo.TRef sig ⟨S4x2048, .i32⟩) subi,
    StableHlo.TRef.ternary (.of main_call8_v10 : StableHlo.TRef sig ⟨S4x2048, .i1⟩) (.of main_call8_v12 : StableHlo.TRef sig ⟨S4x2048, .i32⟩) (.of main_call8_v1 : StableHlo.TRef sig ⟨S4x2048, .i32⟩) (.of main_v87 : StableHlo.TRef sig ⟨S4x2048, .i32⟩) select ]
theorem main_part1_ops3_sub : (main_part1_ops3 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem main_part1_ops3_fresh : (main_part1_ops3 : List (HloOp τ sig (Elt F))).Forall fun op => op.fresh = ∅ :=
  StableHlo.forall_fresh_of_map rfl
/-- The references written. -/
abbrev main_part1_ops3_W : List (Ref sig .tc) := [main_call8_v0, main_call8_v1, main_call8_v2, main_call8_v3, main_call8_v4, main_call8_v5, main_call8_v6, main_call8_v7, main_call8_c, main_call8_v8, main_call8_v9, main_call8_v10, main_call8_c_0, main_call8_v11, main_call8_v12, main_v87]
theorem main_part1_ops3_writes : (main_part1_ops3 : List (HloOp τ sig (Elt F))).Forall fun op => op.writes ⊆ (main_part1_ops3_W.map (Proc.devRef (τ := τ) .tc)).toFinset :=
  StableHlo.forall_writes_sub_of_map rfl
/-- 3 host operations, in order. -/
abbrev main_part1_ops4 : List (HloOp τ sig (Elt F)) :=
  [ StableHlo.nullary main_c_22 (constantI S_ 32 1#32),
    StableHlo.unary main_c_22 main_v88 (broadcastInDim S4x2048 ![] bcast_S_S4x2048 : (⟨S_, .i32⟩ : BufTy).Contents (Elt F) → (⟨S4x2048, .i32⟩ : BufTy).Contents (Elt F)),
    StableHlo.binary main_v87 main_v88 main_v89 (addi : (⟨S4x2048, .i32⟩ : BufTy).Contents (Elt F) → (⟨S4x2048, .i32⟩ : BufTy).Contents (Elt F) → (⟨S4x2048, .i32⟩ : BufTy).Contents (Elt F)) ]
theorem main_part1_ops4_sub : (main_part1_ops4 : List (HloOp τ sig (Elt F))).Forall fun op => op.bufs ⊆ StableHlo.tcRefs τ sig :=
  ⟨StableHlo.nullary_bufs_sub .., StableHlo.unary_bufs_sub .., StableHlo.binary_bufs_sub ..⟩
theorem main_part1_ops4_fresh : (main_part1_ops4 : List (HloOp τ sig (Elt F))).Forall fun op => op.fresh = ∅ :=
  StableHlo.forall_fresh_of_map rfl
/-- The references written. -/
abbrev main_part1_ops4_W : List (Ref sig .tc) := [main_c_22, main_v88, main_v89]
theorem main_part1_ops4_writes : (main_part1_ops4 : List (HloOp τ sig (Elt F))).Forall fun op => op.writes ⊆ (main_part1_ops4_W.map (Proc.devRef (τ := τ) .tc)).toFinset :=
  StableHlo.forall_writes_sub_of_map rfl
/-- 3 host operations, in order. -/
abbrev main_part2_ops0 : List (HloOp τ sig (Elt F)) :=
  [ StableHlo.reshape main_v84 main_v90 (rfl : (.f32 : EltTy) = .f32) shapeCasts_S4x2048_S4x2048x1,
    StableHlo.reshape main_v89 main_v91 (rfl : (.i32 : EltTy) = .i32) shapeCasts_S4x2048_S4x2048x1,
    StableHlo.reshape main_v56 main_v92 (rfl : (.f32 : EltTy) = .f32) shapeCasts_S4x2048_S4x2048x1 ]
theorem main_part2_ops0_sub : (main_part2_ops0 : List (HloOp τ sig (Elt F))).Forall fun op => op.bufs ⊆ StableHlo.tcRefs τ sig :=
  ⟨StableHlo.reshape_bufs_sub .., StableHlo.reshape_bufs_sub .., StableHlo.reshape_bufs_sub ..⟩
theorem main_part2_ops0_fresh : (main_part2_ops0 : List (HloOp τ sig (Elt F))).Forall fun op => op.fresh = ∅ :=
  StableHlo.forall_fresh_of_map rfl
/-- The references written. -/
abbrev main_part2_ops0_W : List (Ref sig .tc) := [main_v90, main_v91, main_v92]
theorem main_part2_ops0_writes : (main_part2_ops0 : List (HloOp τ sig (Elt F))).Forall fun op => op.writes ⊆ (main_part2_ops0_W.map (Proc.devRef (τ := τ) .tc)).toFinset :=
  StableHlo.forall_writes_sub_of_map rfl
/-- 10 host operations, in order. -/
abbrev while0Ops0 : List (HloOp τ sig (Elt F)) :=
  [ StableHlo.nullary main_while0b_c_27 (constantI S_ 32 1#32),
    StableHlo.binary main_v22_2 main_while0b_c_27 main_while0b_v93 (addi : (⟨S_, .i32⟩ : BufTy).Contents (Elt F) → (⟨S_, .i32⟩ : BufTy).Contents (Elt F) → (⟨S_, .i32⟩ : BufTy).Contents (Elt F)),
    StableHlo.unary main_v22_0 main_while0b_v94 (broadcastInDim S2048x1x128 ![0, 2] bcast_S2048x128_S2048x1x128_0_2 : (⟨S2048x128, .f32⟩ : BufTy).Contents (Elt F) → (⟨S2048x1x128, .f32⟩ : BufTy).Contents (Elt F)),
    StableHlo.unary main_v22_3 main_while0b_v95 (broadcastInDim S1x5x128 ![1, 2] bcast_S5x128_S1x5x128_1_2 : (⟨S5x128, .f32⟩ : BufTy).Contents (Elt F) → (⟨S1x5x128, .f32⟩ : BufTy).Contents (Elt F)),
    StableHlo.unary main_while0b_v94 main_while0b_v96 (broadcastInDim S2048x5x128 ![0, 1, 2] bcast_S2048x1x128_S2048x5x128_0_1_2 : (⟨S2048x1x128, .f32⟩ : BufTy).Contents (Elt F) → (⟨S2048x5x128, .f32⟩ : BufTy).Contents (Elt F)),
    StableHlo.unary main_while0b_v95 main_while0b_v97 (broadcastInDim S2048x5x128 ![0, 1, 2] bcast_S1x5x128_S2048x5x128_0_1_2 : (⟨S1x5x128, .f32⟩ : BufTy).Contents (Elt F) → (⟨S2048x5x128, .f32⟩ : BufTy).Contents (Elt F)),
    StableHlo.binary main_while0b_v96 main_while0b_v97 main_while0b_v98 (subf : (⟨S2048x5x128, .f32⟩ : BufTy).Contents (Elt F) → (⟨S2048x5x128, .f32⟩ : BufTy).Contents (Elt F) → (⟨S2048x5x128, .f32⟩ : BufTy).Contents (Elt F)),
    StableHlo.binary main_while0b_v98 main_while0b_v98 main_while0b_v99 (mulf : (⟨S2048x5x128, .f32⟩ : BufTy).Contents (Elt F) → (⟨S2048x5x128, .f32⟩ : BufTy).Contents (Elt F) → (⟨S2048x5x128, .f32⟩ : BufTy).Contents (Elt F)),
    StableHlo.nullary main_while0b_cst_28 (constant S_ .f32 0x00000000#32),
    StableHlo.binary main_while0b_v99 main_while0b_cst_28 main_while0b_v100 ((fun x v => Host.reduceAdd x v reducesTo_S2048x5x128_S2048x5_d2 h_S_) : (⟨S2048x5x128, .f32⟩ : BufTy).Contents (Elt F) → (⟨S_, .f32⟩ : BufTy).Contents (Elt F) → (⟨S2048x5, .f32⟩ : BufTy).Contents (Elt F)) ]
theorem while0Ops0_sub : (while0Ops0 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub ..⟩
theorem while0Ops0_fresh : (while0Ops0 : List (HloOp τ sig (Elt F))).Forall fun op => op.fresh = ∅ :=
  StableHlo.forall_fresh_of_map rfl
/-- The references written. -/
abbrev while0Ops0_W : List (Ref sig .tc) := [main_while0b_c_27, main_while0b_v93, main_while0b_v94, main_while0b_v95, main_while0b_v96, main_while0b_v97, main_while0b_v98, main_while0b_v99, main_while0b_cst_28, main_while0b_v100]
theorem while0Ops0_writes : (while0Ops0 : List (HloOp τ sig (Elt F))).Forall fun op => op.writes ⊆ (while0Ops0_W.map (Proc.devRef (τ := τ) .tc)).toFinset :=
  StableHlo.forall_writes_sub_of_map rfl
/-- 5 host operations, in order. -/
abbrev while0Ops1 : List (HloOp τ sig (Elt F)) :=
  [ StableHlo.TRef.nullary (.of main_while0b_call3_v0 : StableHlo.TRef sig ⟨S2048x5, .i32⟩) (iotaInDim S2048x5 32 1),
    StableHlo.TRef.nullary (.of main_while0b_call3_cst : StableHlo.TRef sig ⟨S_, .f32⟩) (constant S_ .f32 0x7F800000#32),
    StableHlo.TRef.nullary (.of main_while0b_call3_c : StableHlo.TRef sig ⟨S_, .i32⟩) (constantI S_ 32 0#32),
    StableHlo.TRef.quaternary (.of main_while0b_v100 : StableHlo.TRef sig ⟨S2048x5, .f32⟩) (.of main_while0b_call3_v0 : StableHlo.TRef sig ⟨S2048x5, .i32⟩) (.of main_while0b_call3_cst : StableHlo.TRef sig ⟨S_, .f32⟩) (.of main_while0b_call3_c : StableHlo.TRef sig ⟨S_, .i32⟩) (.of main_while0b_call3_v1_0 : StableHlo.TRef sig ⟨S2048, .f32⟩) (fun x y u v j => (Host.argReduce reducer_argmin_f32_i32 x y u v reducesTo_S2048x5_S2048_d1 h_S_ j).1),
    StableHlo.TRef.quaternary (.of main_while0b_v100 : StableHlo.TRef sig ⟨S2048x5, .f32⟩) (.of main_while0b_call3_v0 : StableHlo.TRef sig ⟨S2048x5, .i32⟩) (.of main_while0b_call3_cst : StableHlo.TRef sig ⟨S_, .f32⟩) (.of main_while0b_call3_c : StableHlo.TRef sig ⟨S_, .i32⟩) (.of main_while0b_v101 : StableHlo.TRef sig ⟨S2048, .i32⟩) (fun x y u v j => (Host.argReduce reducer_argmin_f32_i32 x y u v reducesTo_S2048x5_S2048_d1 h_S_ j).2) ]
theorem while0Ops1_sub : (while0Ops1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
theorem while0Ops1_fresh : (while0Ops1 : List (HloOp τ sig (Elt F))).Forall fun op => op.fresh = ∅ :=
  StableHlo.forall_fresh_of_map rfl
/-- The references written. -/
abbrev while0Ops1_W : List (Ref sig .tc) := [main_while0b_call3_v0, main_while0b_call3_cst, main_while0b_call3_c, main_while0b_call3_v1_0, main_while0b_v101]
theorem while0Ops1_writes : (while0Ops1 : List (HloOp τ sig (Elt F))).Forall fun op => op.writes ⊆ (while0Ops1_W.map (Proc.devRef (τ := τ) .tc)).toFinset :=
  StableHlo.forall_writes_sub_of_map rfl
/-- 6 host operations, in order. -/
abbrev while0Ops2 : List (HloOp τ sig (Elt F)) :=
  [ StableHlo.TRef.unary (.of main_while0b_v101 : StableHlo.TRef sig ⟨S2048, .i32⟩) (.of main_while0b_call4_v0 : StableHlo.TRef sig ⟨S2048x1, .i32⟩) (broadcastInDim S2048x1 ![0] bcast_S2048_S2048x1_0),
    StableHlo.TRef.nullary (.of main_while0b_call4_v1 : StableHlo.TRef sig ⟨S1x5, .i32⟩) (iotaInDim S1x5 32 1),
    StableHlo.TRef.unary (.of main_while0b_call4_v0 : StableHlo.TRef sig ⟨S2048x1, .i32⟩) (.of main_while0b_call4_v2 : StableHlo.TRef sig ⟨S2048x5, .i32⟩) (broadcastInDim S2048x5 ![0, 1] bcast_S2048x1_S2048x5_0_1),
    StableHlo.TRef.unary (.of main_while0b_call4_v1 : StableHlo.TRef sig ⟨S1x5, .i32⟩) (.of main_while0b_call4_v3 : StableHlo.TRef sig ⟨S2048x5, .i32⟩) (broadcastInDim S2048x5 ![0, 1] bcast_S1x5_S2048x5_0_1),
    StableHlo.TRef.binary (.of main_while0b_call4_v2 : StableHlo.TRef sig ⟨S2048x5, .i32⟩) (.of main_while0b_call4_v3 : StableHlo.TRef sig ⟨S2048x5, .i32⟩) (.of main_while0b_call4_v4 : StableHlo.TRef sig ⟨S2048x5, .i1⟩) (cmpi .eq),
    StableHlo.TRef.unary (.of main_while0b_call4_v4 : StableHlo.TRef sig ⟨S2048x5, .i1⟩) (.of main_while0b_v102 : StableHlo.TRef sig ⟨S2048x5, .f32⟩) (uitofp .f32) ]
theorem while0Ops2_sub : (while0Ops2 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.binary_bufs_sub .., StableHlo.unary_bufs_sub ..⟩
theorem while0Ops2_fresh : (while0Ops2 : List (HloOp τ sig (Elt F))).Forall fun op => op.fresh = ∅ :=
  StableHlo.forall_fresh_of_map rfl
/-- The references written. -/
abbrev while0Ops2_W : List (Ref sig .tc) := [main_while0b_call4_v0, main_while0b_call4_v1, main_while0b_call4_v2, main_while0b_call4_v3, main_while0b_call4_v4, main_while0b_v102]
theorem while0Ops2_writes : (while0Ops2 : List (HloOp τ sig (Elt F))).Forall fun op => op.writes ⊆ (while0Ops2_W.map (Proc.devRef (τ := τ) .tc)).toFinset :=
  StableHlo.forall_writes_sub_of_map rfl
/-- 10 host operations, in order. -/
abbrev while0Ops3 : List (HloOp τ sig (Elt F)) :=
  [ StableHlo.nullary main_while0b_cst_29 (constant S_ .f32 0x00000000#32),
    StableHlo.binary main_while0b_v102 main_while0b_cst_29 main_while0b_v103 ((fun x v => Host.reduceAdd x v reducesTo_S2048x5_S5_d0 h_S_) : (⟨S2048x5, .f32⟩ : BufTy).Contents (Elt F) → (⟨S_, .f32⟩ : BufTy).Contents (Elt F) → (⟨S5, .f32⟩ : BufTy).Contents (Elt F)),
    StableHlo.unary main_while0b_v102 main_while0b_v104 ((transpose S5x2048 [1, 0] · transposes_S2048x5_S5x2048_1_0) : (⟨S2048x5, .f32⟩ : BufTy).Contents (Elt F) → (⟨S5x2048, .f32⟩ : BufTy).Contents (Elt F)),
    StableHlo.binary main_while0b_v104 main_v22_0 main_while0b_v105 ((fun l r => Host.dotGeneral dot_S5x2048_S2048x128_S5x128_1_0_0_1_n_n none l r) : (⟨S5x2048, .f32⟩ : BufTy).Contents (Elt F) → (⟨S2048x128, .f32⟩ : BufTy).Contents (Elt F) → (⟨S5x128, .f32⟩ : BufTy).Contents (Elt F)),
    StableHlo.nullary main_while0b_cst_30 (constant S_ .f32 0x3F800000#32),
    StableHlo.unary main_while0b_cst_30 main_while0b_v106 (broadcastInDim S5 ![] bcast_S_S5 : (⟨S_, .f32⟩ : BufTy).Contents (Elt F) → (⟨S5, .f32⟩ : BufTy).Contents (Elt F)),
    StableHlo.binary main_while0b_v103 main_while0b_v106 main_while0b_v107 (maximumf : (⟨S5, .f32⟩ : BufTy).Contents (Elt F) → (⟨S5, .f32⟩ : BufTy).Contents (Elt F) → (⟨S5, .f32⟩ : BufTy).Contents (Elt F)),
    StableHlo.unary main_while0b_v107 main_while0b_v108 (broadcastInDim S5x1 ![0] bcast_S5_S5x1_0 : (⟨S5, .f32⟩ : BufTy).Contents (Elt F) → (⟨S5x1, .f32⟩ : BufTy).Contents (Elt F)),
    StableHlo.unary main_while0b_v108 main_while0b_v109 (broadcastInDim S5x128 ![0, 1] bcast_S5x1_S5x128_0_1 : (⟨S5x1, .f32⟩ : BufTy).Contents (Elt F) → (⟨S5x128, .f32⟩ : BufTy).Contents (Elt F)),
    StableHlo.binary main_while0b_v105 main_while0b_v109 main_while0b_v110 (Host.divf : (⟨S5x128, .f32⟩ : BufTy).Contents (Elt F) → (⟨S5x128, .f32⟩ : BufTy).Contents (Elt F) → (⟨S5x128, .f32⟩ : BufTy).Contents (Elt F)) ]
theorem while0Ops3_sub : (while0Ops3 : List (HloOp τ sig (Elt F))).Forall fun op => op.bufs ⊆ StableHlo.tcRefs τ sig :=
  ⟨StableHlo.nullary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub ..⟩
theorem while0Ops3_fresh : (while0Ops3 : List (HloOp τ sig (Elt F))).Forall fun op => op.fresh = ∅ :=
  StableHlo.forall_fresh_of_map rfl
/-- The references written. -/
abbrev while0Ops3_W : List (Ref sig .tc) := [main_while0b_cst_29, main_while0b_v103, main_while0b_v104, main_while0b_v105, main_while0b_cst_30, main_while0b_v106, main_while0b_v107, main_while0b_v108, main_while0b_v109, main_while0b_v110]
theorem while0Ops3_writes : (while0Ops3 : List (HloOp τ sig (Elt F))).Forall fun op => op.writes ⊆ (while0Ops3_W.map (Proc.devRef (τ := τ) .tc)).toFinset :=
  StableHlo.forall_writes_sub_of_map rfl
/-- 6 host operations, in order. -/
abbrev while0Ops4 : List (HloOp τ sig (Elt F)) :=
  [ StableHlo.nullary main_while0b_c_31 (constantI S_ 32 1#32),
    StableHlo.binary main_v22_1 main_while0b_c_31 main_while0b_v111 (addi : (⟨S_, .i32⟩ : BufTy).Contents (Elt F) → (⟨S_, .i32⟩ : BufTy).Contents (Elt F) → (⟨S_, .i32⟩ : BufTy).Contents (Elt F)),
    StableHlo.unary main_while0b_v111 main_v22_1 id,
    StableHlo.unary main_while0b_v93 main_v22_2 id,
    StableHlo.unary main_while0b_v110 main_v22_3 id,
    StableHlo.unary main_while0b_v101 main_v22_4 id ]
theorem while0Ops4_sub : (while0Ops4 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
theorem while0Ops4_fresh : (while0Ops4 : List (HloOp τ sig (Elt F))).Forall fun op => op.fresh = ∅ :=
  StableHlo.forall_fresh_of_map rfl
/-- The references written. -/
abbrev while0Ops4_W : List (Ref sig .tc) := [main_while0b_c_31, main_while0b_v111, main_v22_1, main_v22_2, main_v22_3, main_v22_4]
theorem while0Ops4_writes : (while0Ops4 : List (HloOp τ sig (Elt F))).Forall fun op => op.writes ⊆ (while0Ops4_W.map (Proc.devRef (τ := τ) .tc)).toFinset :=
  StableHlo.forall_writes_sub_of_map rfl
theorem main_part0_chain (c : Dev nD) : main_part0 (F := F) c = (Pipeline.chainK
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    HostLoop.enter 0,
    StableHlo.seq main_part0_ops7 ]
  (StableHlo.seq main_part0_ops8) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons, Pipeline.chainK_cons]
  chain_rfl

theorem main_part1_chain (c : Dev nD) : main_part1 (F := F) c = (Pipeline.chainK
  [ StableHlo.seq main_part1_ops0,
    StableHlo.seq main_part1_ops1,
    StableHlo.seq main_part1_ops2,
    StableHlo.seq main_part1_ops3 ]
  (StableHlo.seq main_part1_ops4) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, Pipeline.chainK_cons, Pipeline.chainK_cons]
  chain_rfl

theorem main_part2_chain (c : Dev nD) : main_part2 (F := F) c = (Pipeline.chain
  [ StableHlo.seq main_part2_ops0 ] : Prog (TpuEff nD τ sig (Elt F) (HostLoop.Sig (Pipeline.Sig Λ₀ (Fin 0) fun p => (pcfgs (F := F) p).Adm) 1) .tc) PUnit) := by
  rewrite [StableHlo.chain_seq_cons]
  chain_rfl

theorem main_chain_windows (c : Dev nD) : main (F := F) c = (Pipeline.chain
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    HostLoop.enter 0,
    StableHlo.seq main_part0_ops7,
    StableHlo.seq main_part0_ops8,
    StableHlo.seq main_part1_ops0,
    StableHlo.seq main_part1_ops1,
    StableHlo.seq main_part1_ops2,
    StableHlo.seq main_part1_ops3,
    StableHlo.seq main_part1_ops4,
    StableHlo.seq main_part2_ops0 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

theorem while0_body_chain : main_while0_body (F := F) = (Pipeline.chain
  [ StableHlo.seq while0Ops0,
    StableHlo.seq while0Ops1,
    StableHlo.seq while0Ops2,
    StableHlo.seq (while0Ops3 ++ while0Ops4) ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, Pipeline.chain_cons, StableHlo.chain_seq_cons]
  chain_rfl

/-- The condition region's two operations: the bound, and the trip counter compared with it. -/
abbrev condOps : List (HloOp τ sig (Elt F)) :=
  [ StableHlo.nullary main_while0c_c_27 (constantI S_ 32 10#32),
    StableHlo.binary main_v22_1 main_while0c_c_27 main_while0c_v93 (cmpi .slt) ]
abbrev condOps_W : List (Ref sig .tc) := [main_while0c_c_27, main_while0c_v93]
theorem condOps_writes : (condOps : List (HloOp τ sig (Elt F))).Forall fun op => op.writes ⊆ (condOps_W.map (Proc.devRef (τ := τ) .tc)).toFinset :=
  StableHlo.forall_writes_sub_of_map rfl

/-- The loop body's last stretch. -/
abbrev bodyLast : List (HloOp τ sig (Elt F)) := while0Ops3 ++ while0Ops4
theorem bodyLast_sub : (bodyLast : List (HloOp τ sig (Elt F))).Forall fun op => op.bufs ⊆ StableHlo.tcRefs τ sig :=
  List.forall_append.2 ⟨while0Ops3_sub, while0Ops4_sub⟩
theorem bodyLast_fresh : (bodyLast : List (HloOp τ sig (Elt F))).Forall fun op => op.fresh = ∅ :=
  List.forall_append.2 ⟨while0Ops3_fresh, while0Ops4_fresh⟩

/-- @main's stretches before the loop, the loop body's, and @main's after the loop. -/
abbrev preI : List (List (HloOp τ sig (Elt F))) := [main_part0_ops0, main_part0_ops1, main_part0_ops2, main_part0_ops3, main_part0_ops4, main_part0_ops5, main_part0_ops6]
abbrev bodyI : List (List (HloOp τ sig (Elt F))) := [while0Ops0, while0Ops1, while0Ops2, bodyLast]
abbrev postI : List (List (HloOp τ sig (Elt F))) := [main_part0_ops7, main_part0_ops8, main_part1_ops0, main_part1_ops1, main_part1_ops2, main_part1_ops3, main_part1_ops4, main_part2_ops0]

theorem hpre : Plain (preI (F := F)) := .cons main_part0_ops0_sub (hf := List.forall_iff_forall_mem.mp main_part0_ops0_fresh) (.cons main_part0_ops1_sub (hf := List.forall_iff_forall_mem.mp main_part0_ops1_fresh) (.cons main_part0_ops2_sub (hf := List.forall_iff_forall_mem.mp main_part0_ops2_fresh) (.cons main_part0_ops3_sub (hf := List.forall_iff_forall_mem.mp main_part0_ops3_fresh) (.cons main_part0_ops4_sub (hf := List.forall_iff_forall_mem.mp main_part0_ops4_fresh) (.cons main_part0_ops5_sub (hf := List.forall_iff_forall_mem.mp main_part0_ops5_fresh) (.cons main_part0_ops6_sub (hf := List.forall_iff_forall_mem.mp main_part0_ops6_fresh) (.nil)))))))
theorem hbodyI : Plain (bodyI (F := F)) := .cons while0Ops0_sub (hf := List.forall_iff_forall_mem.mp while0Ops0_fresh) (.cons while0Ops1_sub (hf := List.forall_iff_forall_mem.mp while0Ops1_fresh) (.cons while0Ops2_sub (hf := List.forall_iff_forall_mem.mp while0Ops2_fresh) (.cons bodyLast_sub (hf := List.forall_iff_forall_mem.mp bodyLast_fresh) (.nil))))
theorem hpost : Plain (postI (F := F)) := .cons main_part0_ops7_sub (hf := List.forall_iff_forall_mem.mp main_part0_ops7_fresh) (.cons main_part0_ops8_sub (hf := List.forall_iff_forall_mem.mp main_part0_ops8_fresh) (.cons main_part1_ops0_sub (hf := List.forall_iff_forall_mem.mp main_part1_ops0_fresh) (.cons main_part1_ops1_sub (hf := List.forall_iff_forall_mem.mp main_part1_ops1_fresh) (.cons main_part1_ops2_sub (hf := List.forall_iff_forall_mem.mp main_part1_ops2_fresh) (.cons main_part1_ops3_sub (hf := List.forall_iff_forall_mem.mp main_part1_ops3_fresh) (.cons main_part1_ops4_sub (hf := List.forall_iff_forall_mem.mp main_part1_ops4_fresh) (.cons main_part2_ops0_sub (hf := List.forall_iff_forall_mem.mp main_part2_ops0_fresh) (.nil))))))))

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

theorem ctr_condOps (V : Valuation τ sig (Elt F)) : after condOps V (Proc.devRef .tc main_v22_1) = V (Proc.devRef .tc main_v22_1) :=
  after_of_writes_sub condOps V condOps_writes (by decide +kernel)
theorem ctr_while0Ops0 (V : Valuation τ sig (Elt F)) : after while0Ops0 V (Proc.devRef .tc main_v22_1) = V (Proc.devRef .tc main_v22_1) :=
  after_of_writes_sub while0Ops0 V while0Ops0_writes (by decide +kernel)
theorem ctr_while0Ops1 (V : Valuation τ sig (Elt F)) : after while0Ops1 V (Proc.devRef .tc main_v22_1) = V (Proc.devRef .tc main_v22_1) :=
  after_of_writes_sub while0Ops1 V while0Ops1_writes (by decide +kernel)
theorem ctr_while0Ops2 (V : Valuation τ sig (Elt F)) : after while0Ops2 V (Proc.devRef .tc main_v22_1) = V (Proc.devRef .tc main_v22_1) :=
  after_of_writes_sub while0Ops2 V while0Ops2_writes (by decide +kernel)
theorem ctr_while0Ops3 (V : Valuation τ sig (Elt F)) : after while0Ops3 V (Proc.devRef .tc main_v22_1) = V (Proc.devRef .tc main_v22_1) :=
  after_of_writes_sub while0Ops3 V while0Ops3_writes (by decide +kernel)

set_option maxRecDepth 100000 in
/-- The body's last operations leave the counter one step on. -/
theorem ctr_while0Ops4 (Y : Valuation τ sig (Elt F)) :
    after while0Ops4 Y (Proc.devRef .tc main_v22_1) = addi (Y (Proc.devRef .tc main_v22_1)) (constantI S_ 32 1#32) := by
  after_results
  rfl

/-- The counter is the loop's lower bound at the loop's entry. -/
theorem ctr_entry (c : Dev nD) : entryContents preI m c (Proc.devRef .tc main_v22_1) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v22_1) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil, bodyLast, after_append]
    rw [ctr_while0Ops4, ctr_while0Ops3, ctr_while0Ops2, ctr_while0Ops1, ctr_while0Ops0, ctr_condOps, atK_ctr c k, Scf.iv_succ]
    rfl

set_option backward.isDefEq.respectTransparency.types false in
/-- The condition's specification at the fold. -/
theorem cond_spec : CondSpec (pcfgs (F := F)) defs₀ loops (main_while0_cond (F := F)) condOps bodyI (entryContents preI m) 10 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v22_1 HostLoop.idx0)
        (HloOp.result _ (atK m k c) main_while0c_c_27 HostLoop.idx0) = 1#1) (k < 10)
    rw [nullary_result_ne _ _ _ _ (by decide), nullary_result, hctr]
    exact Scf.cmpi_slt_iv_ub_iff (lb := 0#32) (ub := 10#32) (st := 1#32) (by decide) (show k ≤ Scf.trips 0#32 10#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 10 m c (Proc.devRef .tc b)) :=
  run_loop (pcfgs (F := F)) defs₀ loops main 0 main_while0_cond main_while0_body rfl preI bodyI postI condOps hpre hbodyI hpost
    (fun c => by rw [main_chain_windows]; rfl) (by rw [while0_body_chain]; rfl) 10 m ρ (cond_spec m)

end Cert.Proof.Ref

end
-- ==== Proof.RefRead.lean ====
/-
  Reading the reference's buffers off its run: a buffer no stretch writes keeps what it held, so the arguments end
  unchanged, and the reference's frame claim follows.
-/
module

public import proofs.«01_k».proof.Proof.RefRun

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The buffers written before the loop, by one trip of it, and after it, stretch by stretch. -/
abbrev preW : List (List (Ref sig .tc)) := [main_part0_ops0_W, main_part0_ops1_W, main_part0_ops2_W, main_part0_ops3_W, main_part0_ops4_W, main_part0_ops5_W, main_part0_ops6_W]
abbrev bodyW : List (List (Ref sig .tc)) := [condOps_W, while0Ops0_W, while0Ops1_W, while0Ops2_W, while0Ops3_W, while0Ops4_W]
abbrev postW : List (List (Ref sig .tc)) := [condOps_W, main_part0_ops7_W, main_part0_ops8_W, main_part1_ops0_a_W, main_part1_ops0_b_W, main_part1_ops0_c_W, main_part1_ops0_d_W, main_part1_ops0_e_W, main_part1_ops1_W, main_part1_ops2_W, main_part1_ops3_W, main_part1_ops4_W, main_part2_ops0_W]

variable (m : (ℓ : Loc nD τ sig) → Buf (Elt F) ℓ) (ρ : Dev nD → PrngReg) (c : Dev nD) {b : Ref sig .tc}

/-- A buffer that no stretch before the loop writes enters the loop as launched. -/
theorem pre_keep (h : ∀ W ∈ preW, b ∉ W) : entryContents preI m c (Proc.devRef .tc b) = m ((c.tc : Thread nD τ).loc b) := by
  simp only [entryContents, afterL_cons, afterL_nil]
  rw [after_of_writes_sub main_part0_ops6 _ main_part0_ops6_writes (h _ (by simp)),
    after_of_writes_sub main_part0_ops5 _ main_part0_ops5_writes (h _ (by simp)),
    after_of_writes_sub main_part0_ops4 _ main_part0_ops4_writes (h _ (by simp)),
    after_of_writes_sub main_part0_ops3 _ main_part0_ops3_writes (h _ (by simp)),
    after_of_writes_sub main_part0_ops2 _ main_part0_ops2_writes (h _ (by simp)),
    after_of_writes_sub main_part0_ops1 _ main_part0_ops1_writes (h _ (by simp)),
    after_of_writes_sub main_part0_ops0 _ main_part0_ops0_writes (h _ (by simp))]

/-- A buffer that no stretch of the loop writes is at every trip as it entered. -/
theorem trip_keep (h : ∀ W ∈ bodyW, b ∉ W) : ∀ k, atK m k c (Proc.devRef .tc b) = entryContents preI m c (Proc.devRef .tc b)
  | 0 => rfl
  | k + 1 => by
    rw [show atK m (k + 1) c = afterL bodyI (after condOps (atK m k c)) from rfl]
    simp only [afterL_cons, afterL_nil, bodyLast, after_append]
    rw [after_of_writes_sub while0Ops4 _ while0Ops4_writes (h _ (by simp)),
      after_of_writes_sub while0Ops3 _ while0Ops3_writes (h _ (by simp)),
      after_of_writes_sub while0Ops2 _ while0Ops2_writes (h _ (by simp)),
      after_of_writes_sub while0Ops1 _ while0Ops1_writes (h _ (by simp)),
      after_of_writes_sub while0Ops0 _ while0Ops0_writes (h _ (by simp)),
      after_of_writes_sub condOps _ condOps_writes (h _ (by simp))]
    exact trip_keep h k

/-- A buffer that no stretch after the loop writes ends as at the loop's end. -/
theorem post_keep (h : ∀ W ∈ postW, b ∉ W) :
    finalContents condOps preI bodyI postI 10 m c (Proc.devRef .tc b) = atK m 10 c (Proc.devRef .tc b) := by
  simp only [finalContents, afterL_cons, afterL_nil, main_part1_ops0, after_append]
  rw [after_of_writes_sub main_part2_ops0 _ main_part2_ops0_writes (h _ (by simp)),
    after_of_writes_sub main_part1_ops4 _ main_part1_ops4_writes (h _ (by simp)),
    after_of_writes_sub main_part1_ops3 _ main_part1_ops3_writes (h _ (by simp)),
    after_of_writes_sub main_part1_ops2 _ main_part1_ops2_writes (h _ (by simp)),
    after_of_writes_sub main_part1_ops1 _ main_part1_ops1_writes (h _ (by simp)),
    after_of_writes_sub main_part1_ops0_e _ main_part1_ops0_e_writes (h _ (by simp)),
    after_of_writes_sub main_part1_ops0_d _ main_part1_ops0_d_writes (h _ (by simp)),
    after_of_writes_sub main_part1_ops0_c _ main_part1_ops0_c_writes (h _ (by simp)),
    after_of_writes_sub main_part1_ops0_b _ main_part1_ops0_b_writes (h _ (by simp)),
    after_of_writes_sub main_part1_ops0_a _ main_part1_ops0_a_writes (h _ (by simp)),
    after_of_writes_sub main_part0_ops8 _ main_part0_ops8_writes (h _ (by simp)),
    after_of_writes_sub main_part0_ops7 _ main_part0_ops7_writes (h _ (by simp)),
    after_of_writes_sub condOps _ condOps_writes (h _ (by simp))]

/-- A buffer that nothing writes ends as launched. -/
theorem final_keep (h : ∀ W ∈ preW ++ bodyW ++ postW, b ∉ W) :
    finalContents condOps preI bodyI postI 10 m c (Proc.devRef .tc b) = m ((c.tc : Thread nD τ).loc b) := by
  rw [post_keep m c fun W hW => h W (by simp only [List.mem_append]; exact .inr hW),
    trip_keep m c fun W hW => h W (by simp only [List.mem_append]; exact .inl (.inr hW)),
    pre_keep m c fun W hW => h W (by simp only [List.mem_append]; exact .inl (.inl hW))]

/-- The reference's run: its results end at the fold's contents of their buffers, its arguments end unchanged, every
    semaphore counter is zero. -/
theorem run_main : θ_run (defs (F := F)) (onTc (τ := τ) (main (F := F))) ⟨m, fun _ => 0, ρ⟩ (fun r =>
    (∀ c : Dev nD,
      (r.2.mem ((c.tc : Thread nD τ).loc main_v90) = finalContents condOps preI bodyI postI 10 m c (Proc.devRef .tc main_v90)
      ∧ r.2.mem ((c.tc : Thread nD τ).loc main_v91) = finalContents condOps preI bodyI postI 10 m c (Proc.devRef .tc main_v91)
      ∧ r.2.mem ((c.tc : Thread nD τ).loc main_v92) = finalContents condOps preI bodyI postI 10 m c (Proc.devRef .tc main_v92))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0) :=
  (θ_run defs _ _).mono (fun r h => ⟨fun c => ⟨⟨h c _ rfl, h c _ rfl, h c _ rfl⟩,
    (h c _ rfl).trans (final_keep m c (by decide +kernel)),
    (h c _ rfl).trans (final_keep m c (by decide +kernel)),
    (h c _ rfl).trans (final_keep m c (by decide +kernel)),
    (h c _ rfl).trans (final_keep m c (by decide +kernel)),
    (h c _ rfl).trans (final_keep m c (by decide +kernel)),
    (h c _ rfl).trans (final_keep m c (by decide +kernel)),
    (h c _ rfl).trans (final_keep m c (by decide +kernel))⟩,
    sem_eq_zero_of_no_sems rfl _⟩) (run_fold m ρ)

end Cert.Proof.Ref

end
-- ==== Proof.KernelChunk.lean ====
/-
  What the body leaves in its three results, said once for a batch and a block of 256 rows: the payloads the run names,
  each batch's and each block's cut in its own places, are these functions at the batch's scores and scaled scores.
-/
module

public import proofs.«01_k».proof.Proof.KernelIdealRun

@[expose] public section

noncomputable section

namespace Cert.Proof.KernelIdeal

open Cert.KernelIdeal Cert.KernelIdeal.Gen
open Idealize.ShloMosaic
open Idealize.ShloMosaic.TcCoe

variable {F : FTy → Type} [FloatOps F]

/-- An `a` by `b` matrix. -/
abbrev Mx (a b : ℕ) : Shape := ⟨2, ![a, b]⟩

/-- How many columns lie from block `p` on. -/
abbrev Wd (p : ℕ) : ℕ := 2048 - 256 * p

/-- 256 rows from row 256·p on are rows of the column. -/
theorem slices_blk {p : ℕ} (h : p < 8) : (Mx 2048 1).Slices ![256 * p, 0] (Mx 256 1) :=
  ⟨rfl, fun a => by fin_cases a <;> simp <;> omega⟩
/-- The columns from 256·p on are columns of the row. -/
theorem slices_tail {p : ℕ} (h : p < 8) : (Mx 1 2048).Slices ![0, 256 * p] (Mx 1 (Wd p)) :=
  ⟨rfl, fun a => by fin_cases a <;> simp [Wd] <;> omega⟩
/-- 256 columns from column 256·d on of those from block `q` on. -/
theorem slices_cols {m p q : ℕ} (h : p < 8) (hq : q ≤ p) : (Mx m (Wd q)).Slices ![0, 256 * (p - q)] (Mx m 256) :=
  ⟨rfl, fun a => by fin_cases a <;> simp [Wd] <;> omega⟩
/-- All but the first 256 of the columns from block `p` on. -/
theorem slices_rest {p : ℕ} (h : p < 7) : (Mx 256 (Wd p)).Slices ![0, 256] (Mx 256 (Wd (p + 1))) :=
  ⟨rfl, fun a => by fin_cases a <;> simp [Wd] <;> omega⟩
/-- The first 256 of the columns from block `p` on. -/
theorem slices_first {m p : ℕ} (h : p < 8) : (Mx m (Wd p)).Slices ![0, 0] (Mx m 256) :=
  ⟨rfl, fun a => by fin_cases a <;> simp [Wd] <;> omega⟩
/-- A column broadcasts along the rows. -/
theorem broadcasts_col (m n : ℕ) : (Mx m 1).Broadcasts (Mx m n) :=
  ⟨le_rfl, fun a => by fin_cases a <;> simp⟩
/-- A row broadcasts down the columns. -/
theorem broadcasts_row (m n : ℕ) : (Mx 1 n).Broadcasts (Mx m n) :=
  ⟨le_rfl, fun a => by fin_cases a <;> simp⟩

/-- Block `p` of a column. -/
def blk {α : Type} (p : ℕ) (h : p < 8) (x : (Mx 2048 1).Idx → α) : (Mx 256 1).Idx → α :=
  extractStridedSlice (Mx 256 1) ![256 * p, 0] x (slices_blk h)

/-- A row's columns from block `p` on. -/
def tail {α : Type} (x : (Mx 1 2048).Idx → α) : (p : ℕ) → (h : p < 8) → (Mx 1 (Wd p)).Idx → α
  | 0, _ => x
  | p + 1, h => extractStridedSlice (Mx 1 (Wd (p + 1))) ![0, 256 * (p + 1)] x (slices_tail h)

/-- The float constant `b` everywhere. -/
abbrev cst (s : Shape) (b : BitVec 32) : FVec F s .f32 := broadcast s (Scalar.ofBits .f32 b : F .f32)

/-- A column of scores as a row. -/
def rowOf (s : FVec F (Mx 2048 1) .f32) : FVec F (Mx 1 2048) .f32 :=
  transpose S1x2048 [1, 0] s transposes_S2048x1_p1_0_S1x2048
/-- The scaled scores as a row, times 500. -/
def rowT (t : FVec F (Mx 2048 1) .f32) : FVec F (Mx 1 2048) .f32 := mulf (rowOf t) (cst _ 0x43FA0000#32)

/-- Block `p`'s halved and shifted hyperbolic tangents against the columns from it on. -/
def sigB (t : FVec F (Mx 2048 1) .f32) (p : ℕ) (h : p < 8) : FVec F (Mx 256 (Wd p)) .f32 :=
  addf (mulf (tanh (subf (broadcastTo (Mx 256 (Wd p)) (mulf (blk p h t) (cst _ 0x43FA0000#32)) (broadcasts_col _ _))
    (broadcastTo (Mx 256 (Wd p)) (tail (rowT t) p h) (broadcasts_row _ _)))) (cst _ 0x3F000000#32)) (cst _ 0x3F000000#32)

/-- Block `p`'s indicators of a smaller score in the columns from it on. -/
def ltB (s : FVec F (Mx 2048 1) .f32) (p : ℕ) (h : p < 8) : FVec F (Mx 256 (Wd p)) .f32 :=
  sitofp .f32 (extui 32 (cmpf .olt (broadcastTo (Mx 256 (Wd p)) (tail (rowOf s) p h) (broadcasts_row _ _))
    (broadcastTo (Mx 256 (Wd p)) (blk p h s) (broadcasts_col _ _))) natLt_1_32)

/-- The row sums of a 256-row matrix, by a product with ones. -/
def rowSum (n : ℕ) (x : FVec F (Mx 256 n) .f32) : FVec F (Mx 256 1) .f32 :=
  matmul (DotDims.plain 256 n 1) none x (cst (Mx n 1) 0x3F800000#32) (constant (Mx 256 1) .f32 0x00000000#32)
/-- The column sums of a 256-row matrix, by a product with ones. -/
def colSum (n : ℕ) (x : FVec F (Mx 256 n) .f32) : FVec F (Mx 1 n) .f32 :=
  matmul (DotDims.plain 1 256 n) none (cst (Mx 1 256) 0x3F800000#32) x (constant (Mx 1 n) .f32 0x00000000#32)

/-- The first 256 of a row's columns from block `p` on. -/
def head (s : FVec F (Mx 2048 1) .f32) : (p : ℕ) → (h : p < 8) → FVec F (Mx 1 256) .f32
  | 7, h => tail (rowOf s) 7 h
  | p, h => extractStridedSlice (Mx 1 256) ![0, 0] (tail (rowOf s) p h) (slices_first h)
/-- The first 256 of the indicators' columns. -/
def headLt (s : FVec F (Mx 2048 1) .f32) : (p : ℕ) → (h : p < 8) → FVec F (Mx 256 256) .f32
  | 7, h => ltB s 7 h
  | p, h => extractStridedSlice (Mx 256 256) ![0, 0] (ltB s p h) (slices_first h)
/-- Block `p` against itself: of two equal scores the earlier row's counts as the smaller. -/
def diag (s : FVec F (Mx 2048 1) .f32) (p : ℕ) (h : p < 8) : FVec F (Mx 256 1) .f32 :=
  rowSum 256 (select (cmpf .oeq (broadcastTo (Mx 256 256) (head s p h) (broadcasts_row _ _))
    (broadcastTo (Mx 256 256) (blk p h s) (broadcasts_col _ _))) k0_pay18 (headLt s p h))
/-- How many rows from block `p` on come before each of block `p`'s. -/
def rowCnt (s : FVec F (Mx 2048 1) .f32) : (p : ℕ) → (h : p < 8) → FVec F (Mx 256 1) .f32
  | 7, h => diag s 7 h
  | p, h => if h7 : p < 7 then addf (diag s p h) (rowSum (Wd (p + 1))
      (extractStridedSlice (Mx 256 (Wd (p + 1))) ![0, 256] (ltB s p h) (slices_rest h7))) else diag s p h

/-- The column sums `x` of blocks 0 to `q`, at block `p`'s columns, added up in order. -/
def colAcc (x : (q : ℕ) → q < 8 → FVec F (Mx 1 (Wd q)) .f32) (p : ℕ) (h : p < 8) : (q : ℕ) → q < p → FVec F (Mx 1 256) .f32
  | 0, hq => extractStridedSlice (Mx 1 256) ![0, 256 * (p - 0)] (x 0 (by omega)) (slices_cols h (by omega))
  | q + 1, hq => addf (colAcc x p h q (by omega))
      (extractStridedSlice (Mx 1 256) ![0, 256 * (p - (q + 1))] (x (q + 1) (by omega)) (slices_cols h (by omega)))

/-- The bits of 256·p + 1/2. -/
def halfBits : ℕ → BitVec 32
  | 0 => 0x3F000000#32 | 1 => 0x43804000#32 | 2 => 0x44002000#32 | 3 => 0x44402000#32
  | 4 => 0x44801000#32 | 5 => 0x44A01000#32 | 6 => 0x44C01000#32 | _ => 0x44E01000#32
/-- The bits of 256·p. -/
def baseBits : ℕ → BitVec 32
  | 0 => 0x00000000#32 | 1 => 0x43800000#32 | 2 => 0x44000000#32 | 3 => 0x44400000#32
  | 4 => 0x44800000#32 | 5 => 0x44A00000#32 | 6 => 0x44C00000#32 | _ => 0x44E00000#32

/-- What earlier blocks take off: nothing at block 0. -/
def less (x : (q : ℕ) → q < 8 → FVec F (Mx 1 (Wd q)) .f32) (y : FVec F (Mx 256 1) .f32) : (p : ℕ) → (h : p < 8) → FVec F (Mx 256 1) .f32
  | 0, _ => y
  | p + 1, h => subf y (transpose S256x1 [1, 0] (colAcc x (p + 1) h p (by omega)) transposes_S1x256_p1_0_S256x1)

/-- Block `p`'s soft ranks. -/
def softP (t : FVec F (Mx 2048 1) .f32) (p : ℕ) (h : p < 8) : FVec F S1x256x1 .f32 :=
  shapeCast S1x256x1 (less (fun q hq => colSum _ (sigB t q hq)) (addf (rowSum _ (sigB t p h)) (cst _ (halfBits p))) p h)
    shapeCasts_S256x1_S1x256x1
/-- Block `p`'s hard ranks before the division. -/
def hardP (s : FVec F (Mx 2048 1) .f32) (p : ℕ) (h : p < 8) : FVec F (Mx 256 1) .f32 :=
  less (fun q hq => colSum _ (ltB s q hq)) (addf (rowCnt s p h) (cst _ (baseBits p))) p h
/-- Block `p`'s hard ranks. -/
def rankP (n : F .f32) (s : FVec F (Mx 2048 1) .f32) (p : ℕ) (h : p < 8) : IVec S1x256x1 32 :=
  shapeCast S1x256x1 (fptosi 32 (addf (floor (divf (hardP s p h) (broadcast (Mx 256 1) n))) (cst _ 0x3F800000#32)))
    shapeCasts_S256x1_S1x256x1

/-- The least entry of a column. -/
def colMin (x : FVec F (Mx 2048 1) .f32) : F .f32 :=
  extractAt ![0, 0, 0] (shapeCast S1x1x1 (multiReduction .minimumf [1, 2] S1 (shapeCast S1x2048x1 x shapeCasts_S2048x1_S1x2048x1)
    0x7F800000#32 reduces_S1x2048x1_S1 (.inl rfl) rfl) shapeCasts_S1_S1x1x1) inpos_S1x1x1_p0_0_0
/-- The greatest entry of a column. -/
def colMax (x : FVec F (Mx 2048 1) .f32) : F .f32 :=
  extractAt ![0, 0, 0] (shapeCast S1x1x1 (multiReduction .maximumf [1, 2] S1 (shapeCast S1x2048x1 x shapeCasts_S2048x1_S1x2048x1)
    0xFF800000#32 reduces_S1x2048x1_S1 (.inl rfl) rfl) shapeCasts_S1_S1x1x1) inpos_S1x1x1_p0_0_0
/-- A column less its least entry, over the span. -/
def normK (x : FVec F (Mx 2048 1) .f32) : FVec F (Mx 2048 1) .f32 :=
  divf (subf x (broadcast (Mx 2048 1) (colMin x))) (broadcast (Mx 2048 1) (Scalar.subf (colMax x) (colMin x)))
/-- The scaled scores. -/
def scaK (s : FVec F (Mx 2048 1) .f32) : FVec F (Mx 2048 1) .f32 := mulf (normK s) (cst _ 0x40800000#32)

/-- A batch's rows of the hidden layer are rows of the whole. -/
theorem slices_batch {b : ℕ} (h : b < 4) : S8192x128.Slices ![2048 * b, 0] S2048x128 :=
  ⟨rfl, fun a => by fin_cases a <;> simp <;> omega⟩
/-- Batch `b`'s rows of the hidden layer. -/
def hbK (h : FVec F S8192x128 .f32) (b : ℕ) (hb : b < 4) : FVec F S2048x128 .f32 :=
  extractStridedSlice S2048x128 ![2048 * b, 0] h (slices_batch hb)
/-- Batch `b`'s centers. -/
def cenK (h : FVec F S8192x128 .f32) (lab : IVec S2048x1 32) (b : ℕ) (hb : b < 4) : FVec F S5x128 .f32 :=
  mulf (matmul dot_S2048x5_S2048x128_S5x128_0_0_1_1_n_n none (k0_pay11 (F := F) lab) (hbK h b hb) (constant S5x128 .f32 0x00000000#32))
    (broadcastTo S5x128 (k0_pay13 (k0_pay12 (F := F) lab)) broadcasts_S5x1_S5x128)
/-- Batch `b`'s mean squared distances to the centers. -/
def distK (h : FVec F S8192x128 .f32) (lab : IVec S2048x1 32) (b : ℕ) (hb : b < 4) : FVec F (Mx 2048 1) .f32 :=
  divf (shapeCast S2048x1 (multiReduction .add [1] S2048 (mulf
      (subf (hbK h b hb) (matmul dot_S2048x5_S5x128_S2048x128_1_0_0_1_n_n (some .fp32) (k0_pay11 (F := F) lab) (cenK h lab b hb) (constant S2048x128 .f32 0x00000000#32)))
      (subf (hbK h b hb) (matmul dot_S2048x5_S5x128_S2048x128_1_0_0_1_n_n (some .fp32) (k0_pay11 (F := F) lab) (cenK h lab b hb) (constant S2048x128 .f32 0x00000000#32))))
      0x00000000#32 reduces_S2048x128_S2048 (.inl rfl) rfl) shapeCasts_S2048_S2048x1) (cst _ 0x43000000#32)
/-- Batch `b`'s scores. -/
def scoK (h : FVec F S8192x128 .f32) (lab : IVec S2048x1 32) (b : ℕ) (hb : b < 4) : FVec F (Mx 2048 1) .f32 :=
  addf (normK (distK h lab b hb)) (sitofp .f32 lab)

/-- Block `p` of batch `b` lies in the result. -/
theorem inb_blk {b p : ℕ} (hb : b < 4) (h : p < 8) :
    ∀ a, (![b, 256 * p, 0] : Fin 3 → ℕ) a + S1x256x1.size a ≤ S4x2048x1.size a :=
  fun a => by fin_cases a <;> simp <;> omega
/-- Batch `b` lies in the result. -/
theorem inb_batch {b : ℕ} (hb : b < 4) :
    ∀ a, (![b, 0, 0] : Fin 3 → ℕ) a + S1x2048x1.size a ≤ S4x2048x1.size a :=
  fun a => by fin_cases a <;> simp <;> omega

/-- The piece of the soft ranks that block `p` of batch `b` writes. -/
def softW (h : FVec F S8192x128 .f32) (lab : IVec S2048x1 32) (b : ℕ) (hb : b < 4) (p : ℕ) (hp : p < 8) :
    View.Piece (Elt F) S4x2048x1 .f32 :=
  ⟨Rect.unit ![b, 256 * p, 0] S1x256x1.size (inb_blk hb hp), softP (scaK (scoK h lab b hb)) p hp⟩
/-- The piece of the hard ranks that block `p` of batch `b` writes. -/
def rankW (n : F .f32) (h : FVec F S8192x128 .f32) (lab : IVec S2048x1 32) (b : ℕ) (hb : b < 4) (p : ℕ) (hp : p < 8) :
    View.Piece (Elt F) S4x2048x1 .i32 :=
  ⟨Rect.unit ![b, 256 * p, 0] S1x256x1.size (inb_blk hb hp), rankP n (scoK h lab b hb) p hp⟩
/-- The piece of the scores that batch `b` writes. -/
def scoW (h : FVec F S8192x128 .f32) (lab : IVec S2048x1 32) (b : ℕ) (hb : b < 4) : View.Piece (Elt F) S4x2048x1 .f32 :=
  ⟨Rect.unit ![b, 0, 0] S1x2048x1.size (inb_batch hb), shapeCast S1x2048x1 (scoK h lab b hb) shapeCasts_S2048x1_S1x2048x1⟩

/-- The eight values of a family, the last first. -/
def eight {α : Type} (f : (p : ℕ) → p < 8 → α) : List α :=
  [f 7 (by omega), f 6 (by omega), f 5 (by omega), f 4 (by omega), f 3 (by omega), f 2 (by omega), f 1 (by omega), f 0 (by omega)]
/-- A list's members are the family's values. -/
theorem mem_eight {α : Type} (f : (p : ℕ) → p < 8 → α) (x : α) : x ∈ eight f ↔ ∃ p h, x = f p h := by
  constructor
  · intro h; simp only [eight, List.mem_cons, List.not_mem_nil, or_false] at h
    rcases h with h | h | h | h | h | h | h | h <;> exact ⟨_, _, h⟩
  · rintro ⟨p, h, rfl⟩; simp only [eight, List.mem_cons]
    have : p = 0 ∨ p = 1 ∨ p = 2 ∨ p = 3 ∨ p = 4 ∨ p = 5 ∨ p = 6 ∨ p = 7 := by omega
    rcases this with rfl | rfl | rfl | rfl | rfl | rfl | rfl | rfl <;> simp

/-- The four batches' lists, the last first. -/
def four {α : Type} (f : (b : ℕ) → b < 4 → List α) : List α :=
  f 3 (by omega) ++ (f 2 (by omega) ++ (f 1 (by omega) ++ f 0 (by omega)))
/-- A member of the four lists is a member of one of them. -/
theorem mem_four {α : Type} (f : (b : ℕ) → b < 4 → List α) (x : α) : x ∈ four f ↔ ∃ b h, x ∈ f b h := by
  constructor
  · intro h; simp only [four, List.mem_append] at h
    rcases h with h | h | h | h <;> exact ⟨_, _, h⟩
  · rintro ⟨b, h, hx⟩; simp only [four, List.mem_append]
    have : b = 0 ∨ b = 1 ∨ b = 2 ∨ b = 3 := by omega
    rcases this with rfl | rfl | rfl | rfl <;> simp [hx]

section
variable (c : Dev nD)
    (M0 : Memref sig .tc .smem S1 .i32) (M1 : Memref sig .tc .vmem S4x2048x64 .f32)
    (M2 : Memref sig .tc .vmem S64x32 .f32) (M3 : Memref sig .tc .vmem S1x32 .f32)
    (M4 : Memref sig .tc .vmem S32x128 .f32) (M5 : Memref sig .tc .vmem S1x128 .f32)
    (f0 : Bf (F := F) c M0) (f1 : Bf (F := F) c M1) (f2 : Bf (F := F) c M2) (f3 : Bf (F := F) c M3) (f4 : Bf (F := F) c M4) (f5 : Bf (F := F) c M5)

/-- The hidden layer the run computes. -/
abbrev hK := kernelRun.sl.r c M1 M2 M3 M4 M5 f1 f2 f3 f4 f5
/-- The labels the run's loop returns. -/
abbrev labK := kernelRun.sl.r_1 c M1 M2 M3 M4 M5 f1 f2 f3 f4 f5

/-- The soft ranks' pieces are the blocks'. -/
theorem soft_pieces : kernelRun.sl.H6_32 c M1 M2 M3 M4 M5 f1 f2 f3 f4 f5 = four fun b hb => eight
    (softW (hK c M1 M2 M3 M4 M5 f1 f2 f3 f4 f5) (labK c M1 M2 M3 M4 M5 f1 f2 f3 f4 f5) b hb) := rfl
/-- The hard ranks' pieces are the blocks'. -/
theorem rank_pieces : kernelRun.sl.H7_32 c M0 M1 M2 M3 M4 M5 f0 f1 f2 f3 f4 f5 = four fun b hb => eight
    (rankW (kernelRun.sl.r_7 c M0 f0) (hK c M1 M2 M3 M4 M5 f1 f2 f3 f4 f5) (labK c M1 M2 M3 M4 M5 f1 f2 f3 f4 f5) b hb) := rfl
/-- The scores' pieces are the batches'. -/
theorem sco_pieces : kernelRun.sl.H8_4 c M1 M2 M3 M4 M5 f1 f2 f3 f4 f5 = four fun b hb => [scoW (hK c M1 M2 M3 M4 M5 f1 f2 f3 f4 f5) (labK c M1 M2 M3 M4 M5 f1 f2 f3 f4 f5) b hb] := rfl
end

end Cert.Proof.KernelIdeal

end
-- ==== Proof.Arrays.lean ====
/-
  The three result arrays after the kernel's run, from what each batch and each block writes; and the arrays the body loads.
-/
module

public import proofs.«01_k».proof.Proof.KernelIdealLaunch
public import proofs.«01_k».proof.Proof.KernelChunk
public import Idealize.ShloMosaic.Lib.Claim
public import Idealize.ShloMosaic.Lib.Pipeline.ValueKit
public import Idealize.ShloMosaic.Lib.Pipeline.ValueKit.Point
public import Idealize.ShloMosaic.Lib.Writes
public import Idealize.ShloMosaic.Lib.Pointwise
public import Idealize.ShloMosaic.Lib.Pointwise.IndexVar

@[expose] public section

noncomputable section

namespace Cert.Proof.KernelIdeal

open Cert.KernelIdeal Cert.KernelIdeal.Gen
open Idealize.ShloMosaic
open Idealize.ShloMosaic.TcCoe

variable {F : FTy → Type} [FloatOps F]

/-- An index of the results is its batch and its row. -/
theorem idx_eta (y : S4x2048x1.Idx) : y = ix3 (n0 := 4) (n1 := 2048) (n2 := 1) (y 0) (y 1) 0 := by
  funext a
  match a with
  | ⟨0, _⟩ => rfl
  | ⟨1, _⟩ => rfl
  | ⟨2, _⟩ => exact Subsingleton.elim (α := Fin 1) _ _
/-- An index of a block is its row. -/
theorem blk_eta (x : S1x256x1.Idx) : x = ix3 (n0 := 1) (n1 := 256) (n2 := 1) 0 (x 1) 0 := by
  funext a
  match a with
  | ⟨0, _⟩ => exact Subsingleton.elim (α := Fin 1) _ _
  | ⟨1, _⟩ => rfl
  | ⟨2, _⟩ => exact Subsingleton.elim (α := Fin 1) _ _
/-- An index of a batch is its row. -/
theorem batch_eta (x : S1x2048x1.Idx) : x = ix3 (n0 := 1) (n1 := 2048) (n2 := 1) 0 (x 1) 0 := by
  funext a
  match a with
  | ⟨0, _⟩ => exact Subsingleton.elim (α := Fin 1) _ _
  | ⟨1, _⟩ => rfl
  | ⟨2, _⟩ => exact Subsingleton.elim (α := Fin 1) _ _

/-- Where a block's row lies in the results. -/
theorem emb_blk {b p : ℕ} (hb : b < 4) (hp : p < 8) (i : Fin 256) (hi : 256 * p + i.val < 2048) :
    (Rect.unit (s := S4x2048x1) ![b, 256 * p, 0] S1x256x1.size (inb_blk hb hp)).emb (ix3 (n0 := 1) (n1 := 256) (n2 := 1) 0 i 0)
      = ix3 (n0 := 4) (n1 := 2048) (n2 := 1) ⟨b, hb⟩ ⟨256 * p + i.val, hi⟩ 0 := by
  funext a
  apply Fin.ext
  rw [ValueKit.rect_emb_unit_val]
  match a with
  | ⟨0, _⟩ => rfl
  | ⟨1, _⟩ => rfl
  | ⟨2, _⟩ => rfl
/-- Where a batch's row lies in the results. -/
theorem emb_batch {b : ℕ} (hb : b < 4) (i : Fin 2048) :
    (Rect.unit (s := S4x2048x1) ![b, 0, 0] S1x2048x1.size (inb_batch hb)).emb (ix3 (n0 := 1) (n1 := 2048) (n2 := 1) 0 i 0)
      = ix3 (n0 := 4) (n1 := 2048) (n2 := 1) ⟨b, hb⟩ i 0 := by
  funext a
  apply Fin.ext
  rw [ValueKit.rect_emb_unit_val]
  match a with
  | ⟨0, _⟩ => rfl
  | ⟨1, _⟩ => exact Nat.zero_add _
  | ⟨2, _⟩ => rfl

/-- Every place of the results lies in a block. -/
theorem cover_blk {e : EltTy} (w : (b : ℕ) → b < 4 → (p : ℕ) → p < 8 → S1x256x1.Idx → Elt F e) (y : S4x2048x1.Idx) :
    ∃ q ∈ four fun b hb => eight fun p hp => (⟨Rect.unit ![b, 256 * p, 0] S1x256x1.size (inb_blk hb hp), w b hb p hp⟩ : View.Piece (Elt F) S4x2048x1 e), y ∈ q.1.set := by
  have h0 : (y 0).val < 4 := (y 0).isLt
  have h1 : (y 1).val < 2048 := (y 1).isLt
  have h2 : (y 2).val < 1 := (y 2).isLt
  have hp : (y 1).val / 256 < 8 := by omega
  refine ⟨_, (mem_four _ _).2 ⟨(y 0).val, h0, (mem_eight _ _).2 ⟨(y 1).val / 256, hp, rfl⟩⟩, ?_⟩
  rw [Rect.mem_set_unit]
  intro a
  match a with
  | ⟨0, _⟩ => exact ⟨le_rfl, Nat.lt_succ_self _⟩
  | ⟨1, _⟩ => exact ⟨show 256 * ((y 1).val / 256) ≤ (y 1).val by omega, show (y 1).val < 256 * ((y 1).val / 256) + 256 by omega⟩
  | ⟨2, _⟩ => exact ⟨Nat.zero_le _, show (y 2).val < 0 + 1 by omega⟩
/-- Every place of the results lies in a batch. -/
theorem cover_batch {e : EltTy} (w : (b : ℕ) → b < 4 → S1x2048x1.Idx → Elt F e) (y : S4x2048x1.Idx) :
    ∃ q ∈ four fun b hb => [(⟨Rect.unit ![b, 0, 0] S1x2048x1.size (inb_batch hb), w b hb⟩ : View.Piece (Elt F) S4x2048x1 e)], y ∈ q.1.set := by
  have h0 : (y 0).val < 4 := (y 0).isLt
  have h1 : (y 1).val < 2048 := (y 1).isLt
  have h2 : (y 2).val < 1 := (y 2).isLt
  refine ⟨_, (mem_four _ _).2 ⟨(y 0).val, h0, List.mem_singleton_self _⟩, ?_⟩
  rw [Rect.mem_set_unit]
  intro a
  match a with
  | ⟨0, _⟩ => exact ⟨le_rfl, Nat.lt_succ_self _⟩
  | ⟨1, _⟩ => exact ⟨Nat.zero_le _, show (y 1).val < 0 + 2048 by omega⟩
  | ⟨2, _⟩ => exact ⟨Nat.zero_le _, show (y 2).val < 0 + 1 by omega⟩

variable (m : (ℓ : Loc nD τ sig) → Buf (Elt F) ℓ) (c : Dev nD)

/-- The hidden layer of the run on core `c`. -/
abbrev hid := hK c (stage0_1 0) (stage0_2 0) (stage0_3 0) (stage0_4 0) (stage0_5 0) (iblk m c 1 t0_0) (iblk m c 2 t0_0) (iblk m c 3 t0_0) (iblk m c 4 t0_0) (iblk m c 5 t0_0)
/-- The labels of the run on core `c`. -/
abbrev lab := labK c (stage0_1 0) (stage0_2 0) (stage0_3 0) (stage0_4 0) (stage0_5 0) (iblk m c 1 t0_0) (iblk m c 2 t0_0) (iblk m c 3 t0_0) (iblk m c 4 t0_0) (iblk m c 5 t0_0)
/-- The block size of the run on core `c`, as a float. -/
abbrev bsz := kernelRun.sl.r_7 c (stage0_0 0) (iblk m c 0 t0_0)

/-- What the blocks' pieces leave, read back, is any array they all agree with. -/
theorem read_blks {e : EltTy} (M : Memref sig .tc .vmem S4x2048x1 e) (f : M.view.ty.Contents (Elt F))
    (w : (b : ℕ) → b < 4 → (p : ℕ) → p < 8 → S1x256x1.Idx → Elt F e) (v : S4x2048x1.Idx → Elt F e)
    (h : ∀ b (hb : b < 4) p (hp : p < 8) (i : Fin 256) (hi : 256 * p + i.val < 2048),
      w b hb p hp (ix3 (n0 := 1) (n1 := 256) (n2 := 1) 0 i 0) = v (ix3 (n0 := 4) (n1 := 2048) (n2 := 1) ⟨b, hb⟩ ⟨256 * p + i.val, hi⟩ 0)) :
    M.view.read (Elt F) (M.view.writes (Elt F) f (four fun b hb => eight fun p hp =>
      (⟨Rect.unit ![b, 256 * p, 0] S1x256x1.size (inb_blk hb hp), w b hb p hp⟩ : View.Piece (Elt F) S4x2048x1 e))) = v := by
  funext j
  refine View.read_writes_apply_of_pieces _ _ v _ (fun q hq x => ?_) j (cover_blk w j)
  obtain ⟨b, hb, hq⟩ := (mem_four _ _).1 hq
  obtain ⟨p, hp, rfl⟩ := (mem_eight _ _).1 hq
  have e := blk_eta x
  rw [e]
  have hi : 256 * p + (x 1).val < 2048 := by have : (x 1).val < 256 := (x 1).isLt; omega
  exact (h b hb p hp (x 1) hi).trans (congrArg v (emb_blk hb hp (x 1) hi).symm)
/-- What the batches' pieces leave, read back, is any array they all agree with. -/
theorem read_batches {e : EltTy} (M : Memref sig .tc .vmem S4x2048x1 e) (f : M.view.ty.Contents (Elt F))
    (w : (b : ℕ) → b < 4 → S1x2048x1.Idx → Elt F e) (v : S4x2048x1.Idx → Elt F e)
    (h : ∀ b (hb : b < 4) (i : Fin 2048),
      w b hb (ix3 (n0 := 1) (n1 := 2048) (n2 := 1) 0 i 0) = v (ix3 (n0 := 4) (n1 := 2048) (n2 := 1) ⟨b, hb⟩ i 0)) :
    M.view.read (Elt F) (M.view.writes (Elt F) f (four fun b hb =>
      [(⟨Rect.unit ![b, 0, 0] S1x2048x1.size (inb_batch hb), w b hb⟩ : View.Piece (Elt F) S4x2048x1 e)])) = v := by
  funext j
  refine View.read_writes_apply_of_pieces _ _ v _ (fun q hq x => ?_) j (cover_batch w j)
  obtain ⟨b, hb, hq⟩ := (mem_four _ _).1 hq
  obtain rfl := List.mem_singleton.1 hq
  have e := batch_eta x
  rw [e]
  exact (h b hb (x 1)).trans (congrArg v (emb_batch hb (x 1)).symm)

section
variable (M0 : Memref sig .tc .smem S1 .i32) (h0 : M0.IsWhole) (M1 : Memref sig .tc .vmem S4x2048x64 .f32) (h1 : M1.IsWhole)
    (M2 : Memref sig .tc .vmem S64x32 .f32) (h2 : M2.IsWhole) (M3 : Memref sig .tc .vmem S1x32 .f32) (h3 : M3.IsWhole)
    (M4 : Memref sig .tc .vmem S32x128 .f32) (h4 : M4.IsWhole) (M5 : Memref sig .tc .vmem S1x128 .f32) (h5 : M5.IsWhole)
    (M6 : Memref sig .tc .vmem S4x2048x1 .f32) (h6 : M6.IsWhole) (M7 : Memref sig .tc .vmem S4x2048x1 .i32) (h7 : M7.IsWhole)
    (M8 : Memref sig .tc .vmem S4x2048x1 .f32) (h8 : M8.IsWhole)
    (f0 : Bf (F := F) c M0) (f1 : Bf (F := F) c M1) (f2 : Bf (F := F) c M2) (f3 : Bf (F := F) c M3) (f4 : Bf (F := F) c M4)
    (f5 : Bf (F := F) c M5)

/-- The soft ranks the run leaves, read back. -/
theorem out_soft (v : S4x2048x1.Idx → F .f32) (h : ∀ b (hb : b < 4) p (hp : p < 8) (i : Fin 256) (hi : 256 * p + i.val < 2048),
    softP (scaK (scoK (hK c M1 M2 M3 M4 M5 f1 f2 f3 f4 f5) (labK c M1 M2 M3 M4 M5 f1 f2 f3 f4 f5) b hb)) p hp (ix3 (n0 := 1) (n1 := 256) (n2 := 1) 0 i 0)
      = v (ix3 (n0 := 4) (n1 := 2048) (n2 := 1) ⟨b, hb⟩ ⟨256 * p + i.val, hi⟩ 0)) :
    M6.view.read (Elt F) (kernelRun c M0 h0 M1 h1 M2 h2 M3 h3 M4 h4 M5 h5 M6 h6 M7 h7 M8 h8 f0 f1 f2 f3 f4 f5).1.1 = v := by
  unfold kernelRun
  dsimp only
  exact (congrArg (fun L => M6.view.read (Elt F) (M6.view.writes (Elt F) M6.view.junk L)) (soft_pieces c M1 M2 M3 M4 M5 f1 f2 f3 f4 f5)).trans
    (read_blks M6 _ (fun b hb p hp => softP (scaK (scoK (hK c M1 M2 M3 M4 M5 f1 f2 f3 f4 f5) (labK c M1 M2 M3 M4 M5 f1 f2 f3 f4 f5) b hb)) p hp) v h)

/-- The hard ranks the run leaves, read back. -/
theorem out_rank (v : S4x2048x1.Idx → BitVec 32) (h : ∀ b (hb : b < 4) p (hp : p < 8) (i : Fin 256) (hi : 256 * p + i.val < 2048),
    rankP (kernelRun.sl.r_7 c M0 f0) (scoK (hK c M1 M2 M3 M4 M5 f1 f2 f3 f4 f5) (labK c M1 M2 M3 M4 M5 f1 f2 f3 f4 f5) b hb) p hp (ix3 (n0 := 1) (n1 := 256) (n2 := 1) 0 i 0)
      = v (ix3 (n0 := 4) (n1 := 2048) (n2 := 1) ⟨b, hb⟩ ⟨256 * p + i.val, hi⟩ 0)) :
    M7.view.read (Elt F) (kernelRun c M0 h0 M1 h1 M2 h2 M3 h3 M4 h4 M5 h5 M6 h6 M7 h7 M8 h8 f0 f1 f2 f3 f4 f5).1.2.1 = v := by
  unfold kernelRun
  dsimp only
  exact (congrArg (fun L => M7.view.read (Elt F) (M7.view.writes (Elt F) M7.view.junk L)) (rank_pieces c M0 M1 M2 M3 M4 M5 f0 f1 f2 f3 f4 f5)).trans
    (read_blks (F := F) M7 _ (fun b hb p hp => rankP (kernelRun.sl.r_7 c M0 f0) (scoK (hK c M1 M2 M3 M4 M5 f1 f2 f3 f4 f5) (labK c M1 M2 M3 M4 M5 f1 f2 f3 f4 f5) b hb) p hp) v h)

/-- The scores the run leaves, read back. -/
theorem out_sco (v : S4x2048x1.Idx → F .f32) (h : ∀ b (hb : b < 4) (i : Fin 2048),
    scoK (hK c M1 M2 M3 M4 M5 f1 f2 f3 f4 f5) (labK c M1 M2 M3 M4 M5 f1 f2 f3 f4 f5) b hb (ix2 i 0) = v (ix3 (n0 := 4) (n1 := 2048) (n2 := 1) ⟨b, hb⟩ i 0)) :
    M8.view.read (Elt F) (kernelRun c M0 h0 M1 h1 M2 h2 M3 h3 M4 h4 M5 h5 M6 h6 M7 h7 M8 h8 f0 f1 f2 f3 f4 f5).1.2.2 = v := by
  unfold kernelRun
  dsimp only
  refine (congrArg (fun L => M8.view.read (Elt F) (M8.view.writes (Elt F) M8.view.junk L)) (sco_pieces c M1 M2 M3 M4 M5 f1 f2 f3 f4 f5)).trans
    (read_batches M8 _ (fun b hb => shapeCast S1x2048x1 (scoK (hK c M1 M2 M3 M4 M5 f1 f2 f3 f4 f5) (labK c M1 M2 M3 M4 M5 f1 f2 f3 f4 f5) b hb) shapeCasts_S2048x1_S1x2048x1) v
    fun b hb i => Eq.trans ?_ (h b hb i))
  generalize scoK (hK c M1 M2 M3 M4 M5 f1 f2 f3 f4 f5) (labK c M1 M2 M3 M4 M5 f1 f2 f3 f4 f5) b hb = s
  pointwise
end

/-- No offset on any of one, two or three axes. -/
theorem off1 : (![0] : Fin 1 → ℕ) = fun _ => 0 := by funext a; fin_cases a; rfl
@[inherit_doc off1]
theorem off2 : (![0, 0] : Fin 2 → ℕ) = fun _ => 0 := by funext a; fin_cases a <;> rfl
@[inherit_doc off1]
theorem off3 : (![0, 0, 0] : Fin 3 → ℕ) = fun _ => 0 := by funext a; fin_cases a <;> rfl
/-- The load of the block size gives the whole buffer. -/
theorem ld0 (f) : View.readAt (Elt F) (stage0_0 0).view (Rect.unit ![0] S1.size inb_S1_S1_0).toLoadRect f = f :=
  Memref.readAt_unit_zero (Elt F) cc0_stg0_0 off1 inb_S1_S1_0 f
/-- The load of the table gives the whole buffer. -/
theorem ld1 (f) : View.readAt (Elt F) (stage0_1 0).view (Rect.unit ![0, 0, 0] S4x2048x64.size inb_S4x2048x64_S4x2048x64_0_0_0).toLoadRect f = f :=
  Memref.readAt_unit_zero (Elt F) cc0_stg1_0 off3 inb_S4x2048x64_S4x2048x64_0_0_0 f
/-- The load of the first weights gives the whole buffer. -/
theorem ld2 (f) : View.readAt (Elt F) (stage0_2 0).view (Rect.unit ![0, 0] S64x32.size inb_S64x32_S64x32_0_0).toLoadRect f = f :=
  Memref.readAt_unit_zero (Elt F) cc0_stg2_0 off2 inb_S64x32_S64x32_0_0 f
/-- The load of the first biases gives the whole buffer. -/
theorem ld3 (f) : View.readAt (Elt F) (stage0_3 0).view (Rect.unit ![0, 0] S1x32.size inb_S1x32_S1x32_0_0).toLoadRect f = f :=
  Memref.readAt_unit_zero (Elt F) cc0_stg3_0 off2 inb_S1x32_S1x32_0_0 f
/-- The load of the second weights gives the whole buffer. -/
theorem ld4 (f) : View.readAt (Elt F) (stage0_4 0).view (Rect.unit ![0, 0] S32x128.size inb_S32x128_S32x128_0_0).toLoadRect f = f :=
  Memref.readAt_unit_zero (Elt F) cc0_stg4_0 off2 inb_S32x128_S32x128_0_0 f
/-- The load of the second biases gives the whole buffer. -/
theorem ld5 (f) : View.readAt (Elt F) (stage0_5 0).view (Rect.unit ![0, 0] S1x128.size inb_S1x128_S1x128_0_0).toLoadRect f = f :=
  Memref.readAt_unit_zero (Elt F) cc0_stg5_0 off2 inb_S1x128_S1x128_0_0 f

/-- The hidden layer, from the fetched arrays. -/
theorem hid_eq : hid m c = k0_pay5 (iblk m c 1 t0_0) (iblk m c 2 t0_0) (iblk m c 3 t0_0) (iblk m c 4 t0_0) (iblk m c 5 t0_0) := by
  unfold hid hK kernelRun.sl.r
  rw [ld1, ld2, ld3, ld4, ld5]
/-- The labels, from the fetched arrays: what the ten trips leave. -/
theorem lab_eq : lab m c = (Scf.fold (n := k0_t1_loop.trips)
    (fun _ acc => trip (iblk m c 1 t0_0) (iblk m c 2 t0_0) (iblk m c 3 t0_0) (iblk m c 4 t0_0) (iblk m c 5 t0_0) acc)
    (k0_pay7 (iblk m c 1 t0_0) (iblk m c 2 t0_0) (iblk m c 3 t0_0) (iblk m c 4 t0_0) (iblk m c 5 t0_0), k0_pay9)).2 := by
  unfold lab labK kernelRun.sl.r_1
  rw [ld1, ld2, ld3, ld4, ld5]
  rfl
/-- The one place of a one-word array. -/
theorem first1 (h) : Shape.Idx.first (s := S1) h = ix1 (n0 := 1) 0 := by
  funext a
  match a with
  | ⟨0, _⟩ => exact Subsingleton.elim (α := Fin 1) _ _
/-- The block size is the fetched word, as a float. -/
theorem bsz_eq : bsz m c = Scalar.sitofp .f32 (iblk m c 0 t0_0 (ix1 (n0 := 1) 0)) := by
  unfold bsz kernelRun.sl.r_7 kernelRun.sl.r_4
  rw [ld0, first1, k0_pay15]

/-- Window 1's only block is the first. -/
theorem idx1 : ∀ a, win0_1.index t0_0 a = 0 := by decide +kernel
/-- Window 2's only block is the first. -/
theorem idx2 : ∀ a, win0_2.index t0_0 a = 0 := by decide +kernel
/-- Window 3's only block is the first. -/
theorem idx3 : ∀ a, win0_3.index t0_0 a = 0 := by decide +kernel
/-- Window 4's only block is the first. -/
theorem idx4 : ∀ a, win0_4.index t0_0 a = 0 := by decide +kernel
/-- Window 5's only block is the first. -/
theorem idx5 : ∀ a, win0_5.index t0_0 a = 0 := by decide +kernel
/-- The table fetched is the argument. -/
theorem blk1 : iblk m c 1 t0_0 = m ((c : Thread nD τ).loc main_arg0) := by
  funext y
  blk_ext! [iblk, V, idx1]
/-- The first weights fetched are the argument. -/
theorem blk2 : iblk m c 2 t0_0 = m ((c : Thread nD τ).loc main_arg1) := by
  funext y
  blk_ext! [iblk, V, idx2]
/-- The second weights fetched are the argument. -/
theorem blk4 : iblk m c 4 t0_0 = m ((c : Thread nD τ).loc main_arg3) := by
  funext y
  blk_ext! [iblk, V, idx4]
/-- The first biases fetched are the argument's, as a row. -/
theorem blk3 (k : Fin 32) : iblk m c 3 t0_0 (ix2 (n0 := 1) (n1 := 32) 0 k) = m ((c : Thread nD τ).loc main_arg2) (ix1 (n0 := 32) k) := by
  blk_ext! [iblk, V, idx3]
/-- The second biases fetched are the argument's, as a row. -/
theorem blk5 (k : Fin 128) : iblk m c 5 t0_0 (ix2 (n0 := 1) (n1 := 128) 0 k) = m ((c : Thread nD τ).loc main_arg4) (ix1 (n0 := 128) k) := by
  blk_ext! [iblk, V, idx5]
/-- The block size fetched is the argument. -/
theorem blk0 : iblk m c 0 t0_0 (ix1 (n0 := 1) 0) = m ((c : Thread nD τ).loc main_arg5) ix0 := by
  blk_ext! [iblk, V]

/-- The soft ranks' array, from every block's. -/
theorem arr_soft (v : S4x2048x1.Idx → F .f32) (h : ∀ b (hb : b < 4) p (hp : p < 8) (i : Fin 256) (hi : 256 * p + i.val < 2048),
    softP (scaK (scoK (hid m c) (lab m c) b hb)) p hp (ix3 (n0 := 1) (n1 := 256) (n2 := 1) 0 i 0) = v (ix3 (n0 := 4) (n1 := 2048) (n2 := 1) ⟨b, hb⟩ ⟨256 * p + i.val, hi⟩ 0)) :
    (dats m 0 c).arrAt 6 cfg0.N = v := by
  refine (dats m 0 c).arrAt_eq_of_after_last 6 t0_0 (by decide +kernel) _ fun j => ?_
  blk_simp
  exact congrFun (out_soft c (stage0_0 0) (hstage0_0 0) (stage0_1 0) (hstage0_1 0) (stage0_2 0) (hstage0_2 0) (stage0_3 0) (hstage0_3 0) (stage0_4 0) (hstage0_4 0) (stage0_5 0) (hstage0_5 0) (stage0_6 0) (hstage0_6 0) (stage0_7 0) (hstage0_7 0) (stage0_8 0) (hstage0_8 0) (iblk m c 0 t0_0) (iblk m c 1 t0_0) (iblk m c 2 t0_0) (iblk m c 3 t0_0) (iblk m c 4 t0_0) (iblk m c 5 t0_0) v h) j

/-- The hard ranks' array, from every block's. -/
theorem arr_rank (v : S4x2048x1.Idx → BitVec 32) (h : ∀ b (hb : b < 4) p (hp : p < 8) (i : Fin 256) (hi : 256 * p + i.val < 2048),
    rankP (bsz m c) (scoK (hid m c) (lab m c) b hb) p hp (ix3 (n0 := 1) (n1 := 256) (n2 := 1) 0 i 0) = v (ix3 (n0 := 4) (n1 := 2048) (n2 := 1) ⟨b, hb⟩ ⟨256 * p + i.val, hi⟩ 0)) :
    (dats m 0 c).arrAt 7 cfg0.N = v := by
  refine (dats m 0 c).arrAt_eq_of_after_last 7 t0_0 (by decide +kernel) _ fun j => ?_
  blk_simp
  exact congrFun (out_rank c (stage0_0 0) (hstage0_0 0) (stage0_1 0) (hstage0_1 0) (stage0_2 0) (hstage0_2 0) (stage0_3 0) (hstage0_3 0) (stage0_4 0) (hstage0_4 0) (stage0_5 0) (hstage0_5 0) (stage0_6 0) (hstage0_6 0) (stage0_7 0) (hstage0_7 0) (stage0_8 0) (hstage0_8 0) (iblk m c 0 t0_0) (iblk m c 1 t0_0) (iblk m c 2 t0_0) (iblk m c 3 t0_0) (iblk m c 4 t0_0) (iblk m c 5 t0_0) v h) j

/-- What the body leaves in the scores' buffer is the run's third result. -/
theorem after_sco : (dats m 0 c).after 8 t0_0 = (K m c).1.2.2 := by
  unfold dats
  dsimp only

/-- The scores' array, from every batch's. -/
theorem arr_sco (v : S4x2048x1.Idx → F .f32) (h : ∀ b (hb : b < 4) (i : Fin 2048),
    scoK (hid m c) (lab m c) b hb (ix2 i 0) = v (ix3 (n0 := 4) (n1 := 2048) (n2 := 1) ⟨b, hb⟩ i 0)) :
    (dats m 0 c).arrAt 8 cfg0.N = v := by
  refine (dats m 0 c).arrAt_eq_of_after_last 8 t0_0 (by decide +kernel) _ fun j => ?_
  blk_simp
  rw [after_sco]
  exact congrFun (out_sco c (stage0_0 0) (hstage0_0 0) (stage0_1 0) (hstage0_1 0) (stage0_2 0) (hstage0_2 0) (stage0_3 0) (hstage0_3 0) (stage0_4 0) (hstage0_4 0) (stage0_5 0) (hstage0_5 0) (stage0_6 0) (hstage0_6 0) (stage0_7 0) (hstage0_7 0) (stage0_8 0) (hstage0_8 0) (iblk m c 0 t0_0) (iblk m c 1 t0_0) (iblk m c 2 t0_0) (iblk m c 3 t0_0) (iblk m c 4 t0_0) (iblk m c 5 t0_0) v h) j

end Cert.Proof.KernelIdeal

end
-- ==== Proof.Plain.lean ====
/-
  The problem over the extended reals in plain terms: five labels, their means, the nearest center's label, the scores of
  2048 rows.
-/
module

public import Idealize.ShloMosaic.Lib.Pointwise
public import Idealize.ShloMosaic.Lib.Pointwise.IndexVar
public import Idealize.ShloMosaic.Lib.IdealHost

@[expose] public section

noncomputable section

namespace Cert.Proof.Plain

open Idealize.ShloMosaic

/-- A label's word. -/
abbrev wrd (j : Fin 5) : BitVec 32 := BitVec.ofNat 32 j.val

/-- Whether row `i` carries label `j`, as a number. -/
def one (l : Fin 2048 → Fin 5) (i : Fin 2048) (j : Fin 5) : EReal := if l i = j then 1 else 0
/-- How many rows carry label `j`, at least one. -/
def num (l : Fin 2048 → Fin 5) (j : Fin 5) : EReal := max (∑ i, one l i j) 1
/-- The mean of the rows that carry label `j`. -/
def ctr (x : Fin 2048 → Fin 128 → EReal) (l : Fin 2048 → Fin 5) (j : Fin 5) (d : Fin 128) : EReal :=
  Ideal.div (∑ i, one l i j * x i d) (num l j)
/-- A row's squared distance from a center. -/
def far (x : Fin 2048 → Fin 128 → EReal) (c : Fin 5 → Fin 128 → EReal) (i : Fin 2048) (j : Fin 5) : EReal :=
  ∑ d, (x i d - c j d) * (x i d - c j d)
/-- The one of two numbers whose value is smaller, the first when neither is. -/
def better (f : Fin 5 → EReal) (a b : Fin 5) : Fin 5 := if f b < f a then b else a
/-- The first of five numbers with the least value. -/
def pick (f : Fin 5 → EReal) : Fin 5 := better f (better f (better f (better f 0 1) 2) 3) 4
/-- The rows' nearest centers. -/
def near (x : Fin 2048 → Fin 128 → EReal) (c : Fin 5 → Fin 128 → EReal) (i : Fin 2048) : Fin 5 := pick (far x c i)
/-- The five starting rows. -/
def pos : Fin 5 → Fin 2048 := ![0, 511, 1023, 1535, 2047]
/-- The centers after `k` steps. -/
def ctrs (x : Fin 2048 → Fin 128 → EReal) : ℕ → Fin 5 → Fin 128 → EReal
  | 0 => fun j d => x (pos j) d
  | k + 1 => ctr x (near x (ctrs x k))
/-- The labels of step `k + 1`. -/
def lbls (x : Fin 2048 → Fin 128 → EReal) (k : ℕ) : Fin 2048 → Fin 5 := near x (ctrs x k)
/-- The least of 2048 numbers. -/
def lo (f : Fin 2048 → EReal) : EReal := Finset.univ.fold min (Ideal.ofBits .f32 0x7F800000#32) f
/-- The greatest of 2048 numbers. -/
def hi (f : Fin 2048 → EReal) : EReal := Finset.univ.fold max (Ideal.ofBits .f32 0xFF800000#32) f
/-- 2048 numbers less the least, over the span. -/
def span (f : Fin 2048 → EReal) (i : Fin 2048) : EReal := Ideal.div (f i - lo f) (hi f - lo f)
/-- The rows' mean squared distances from their labels' means. -/
def dst (x : Fin 2048 → Fin 128 → EReal) (l : Fin 2048 → Fin 5) (i : Fin 2048) : EReal :=
  Ideal.div (∑ d, (x i d - ctr x l (l i) d) * (x i d - ctr x l (l i) d)) (Ideal.ofBits .f32 0x43000000#32)
/-- The rows' scores. -/
def score (x : Fin 2048 → Fin 128 → EReal) (l : Fin 2048 → Fin 5) (i : Fin 2048) : EReal :=
  span (dst x l) i + (((l i).val : ℝ) : EReal)
/-- The rows' scaled scores. -/
def scaled (s : Fin 2048 → EReal) (i : Fin 2048) : EReal := span s i * Ideal.ofBits .f32 0x40800000#32

/-- Of the first five numbers `pick` chooses none is smaller, and those before it are greater. -/
theorem pick_spec (f : Fin 5 → EReal) (j : Fin 5) : f (pick f) < f j ∨ f (pick f) = f j ∧ pick f ≤ j := by
  have key : ∀ (a b : Fin 5) (P : Fin 5 → Prop), a < b → (∀ j, P j → j ≤ b) → P b →
      (∀ j, P j → j ≠ b → (f a < f j ∨ f a = f j ∧ a ≤ j)) →
      ∀ j, P j → (f (better f a b) < f j ∨ f (better f a b) = f j ∧ better f a b ≤ j) := by
    intro a b P hab hP hb h j hj
    unfold better
    by_cases hlt : f b < f a
    · rw [if_pos hlt]
      by_cases hjb : j = b
      · subst hjb; exact .inr ⟨rfl, le_rfl⟩
      · rcases h j hj hjb with h' | ⟨h', _⟩
        · exact .inl (hlt.trans h')
        · exact .inl (h' ▸ hlt)
    · rw [if_neg hlt]
      by_cases hjb : j = b
      · subst hjb
        rcases lt_or_eq_of_le (not_lt.1 hlt) with h' | h'
        · exact .inl h'
        · exact .inr ⟨h', hab.le⟩
      · exact h j hj hjb
  have le : ∀ a b : Fin 5, better f a b = a ∨ better f a b = b := fun a b => by unfold better; split_ifs <;> simp
  have h1 := key 0 1 (fun j => j ≤ 1) (by decide) (fun _ h => h) le_rfl (fun j h hn => by
    have : j = 0 := by omega
    subst this; exact .inr ⟨rfl, le_rfl⟩)
  have b1 : better f 0 1 < 2 := by rcases le 0 1 with h | h <;> rw [h] <;> decide
  have h2 := key _ 2 (fun j => j ≤ 2) b1 (fun _ h => h) le_rfl (fun j h hn => h1 j (by omega))
  have b2 : better f (better f 0 1) 2 < 3 := by rcases le (better f 0 1) 2 with h | h <;> rw [h] <;> omega
  have h3 := key _ 3 (fun j => j ≤ 3) b2 (fun _ h => h) le_rfl (fun j h hn => h2 j (by omega))
  have b3 : better f (better f (better f 0 1) 2) 3 < 4 := by rcases le (better f (better f 0 1) 2) 3 with h | h <;> rw [h] <;> omega
  exact key _ 4 (fun j => j ≤ 4) b3 (fun _ h => h) le_rfl (fun j h hn => h3 j (by omega)) j (by omega)

/-- A number that none undercuts and that comes before those it ties with is the one `pick` chooses. -/
theorem pick_eq (f : Fin 5 → EReal) (k : Fin 5) (h : ∀ j, f k < f j ∨ f k = f j ∧ k ≤ j) : pick f = k := by
  rcases h (pick f) with h1 | ⟨h1, h2⟩ <;> rcases pick_spec f k with h3 | ⟨h3, h4⟩
  · exact absurd h1 (lt_asymm h3)
  · exact absurd h1 (h3 ▸ lt_irrefl _)
  · exact absurd h3 (h1 ▸ lt_irrefl _)
  · exact le_antisymm h4 h2

/-- The pattern of 4. -/
theorem bits_four : Ideal.ofBits .f32 0x40800000#32 = ((4 : ℝ) : EReal) := by
  simp [Ideal.ofBits, Ideal.ieee, -EReal.coe_mul]; norm_num
/-- The pattern of 1/2. -/
theorem bits_half : Ideal.ofBits .f32 0x3F000000#32 = ((1 / 2 : ℝ) : EReal) := by
  simp [Ideal.ofBits, Ideal.ieee, -EReal.coe_mul]; norm_num
/-- The pattern of 128. -/
theorem bits_128 : Ideal.ofBits .f32 0x43000000#32 = ((128 : ℝ) : EReal) := by
  simp [Ideal.ofBits, Ideal.ieee, -EReal.coe_mul]; norm_num
/-- The pattern of 500. -/
theorem bits_500 : Ideal.ofBits .f32 0x43FA0000#32 = ((500 : ℝ) : EReal) := by
  simp [Ideal.ofBits, Ideal.ieee, -EReal.coe_mul]; norm_num
/-- The pattern of 1000. -/
theorem bits_1000 : Ideal.ofBits .f32 0x447A0000#32 = ((1000 : ℝ) : EReal) := by
  simp [Ideal.ofBits, Ideal.ieee, -EReal.coe_mul]; norm_num
/-- The pattern of plus infinity. -/
theorem bits_top : Ideal.ofBits .f32 0x7F800000#32 = ⊤ := by simp [Ideal.ofBits, Ideal.ieee]
/-- The pattern of minus infinity. -/
theorem bits_bot : Ideal.ofBits .f32 0xFF800000#32 = ⊥ := by simp [Ideal.ofBits, Ideal.ieee]

/-- A real between an integer and its successor, from 0 on, converts to that integer's word. -/
theorem to_word (r : ℝ) (n : ℕ) (h0 : (n : ℝ) ≤ r) (h1 : r < n + 1) (hn : n < 2 ^ 31) :
    Ideal.fptosi 32 (r : EReal) = BitVec.ofNat 32 n := by
  have hf : ⌊r⌋ = (n : ℤ) := by rw [Int.floor_eq_iff]; exact ⟨by exact_mod_cast h0, by exact_mod_cast h1⟩
  rw [Ideal.fptosi, Ideal.toIntClamped_coe, if_pos ((Nat.cast_nonneg n).trans h0), hf]
  have : max (-((2 ^ (32 - 1) : ℕ) : ℤ)) (min (((2 ^ (32 - 1) : ℕ) : ℤ) - 1) (n : ℤ)) = (n : ℤ) := by omega
  rw [this]
  simp

/-- A word's number as an extended real. -/
theorem of_word (w : BitVec 32) : (FloatOps.sitofp (F := Ideal) .f32 w : EReal) = ((w.toInt : ℝ) : EReal) := rfl

end Cert.Proof.Plain

end
-- ==== Proof.KerIdeal.lean ====
/-
  The kernel's functions over the extended reals, read at one index: each is the plain quantity of Plain.lean.
-/
module

public import proofs.«01_k».proof.Proof.KernelChunk
public import proofs.«01_k».proof.Proof.Plain

@[expose] public section

noncomputable section

namespace Cert.Proof.KernelIdeal

open Cert.KernelIdeal Cert.KernelIdeal.Gen
open Idealize.ShloMosaic
open Cert.Proof.Plain (wrd pick better one num ctr far near pos ctrs lbls lo hi span dst score scaled)

/-- The nearest center's label. -/
theorem pay3_ix (x : FVec Ideal S2048x128 .f32) (c : FVec Ideal S5x128 .f32) (i : Fin 2048) :
    k0_pay3 x c (ix2 i 0) = wrd (near (fun i d => x (ix2 i d)) (fun j d => c (ix2 j d)) i) := by
  have push : ∀ (f : Fin 5 → EReal) (a b : Fin 5), f (better f a b) = if f b < f a then f b else f a :=
    fun f a b => by unfold better; split_ifs <;> rfl
  have pushw : ∀ (f : Fin 5 → EReal) (a b : Fin 5), wrd (better f a b) = if f b < f a then wrd b else wrd a :=
    fun f a b => by unfold better; split_ifs <;> rfl
  unfold k0_pay3 near pick
  simp only [push, pushw]
  pointwise
  rfl

/-- A row of zeros and a one. -/
theorem pay11_ix (l : IVec S2048x1 32) (lab : Fin 2048 → Fin 5) (h : ∀ i, l (ix2 i 0) = wrd (lab i)) (i : Fin 2048) (j : Fin 5) :
    k0_pay11 (F := Ideal) l (ix2 i j) = one lab i j := by
  unfold k0_pay11 one
  pointwise
  rw [h]
  show (((((IntOp.cmpi .eq (wrd (lab i)) (wrd j)).setWidth 32).toInt : ℝ)) : EReal) = _
  have key : ∀ a c : Fin 5, ((IntOp.cmpi .eq (wrd a) (wrd c)).setWidth 32).toInt = if a = c then 1 else 0 := by decide
  rw [key]
  split_ifs <;> simp

/-- The starting centers are the rows at the five positions. -/
theorem pay7_ix (v0 : Vec Ideal S4x2048x64 .f32) (v2 : Vec Ideal S64x32 .f32) (v4 : Vec Ideal S1x32 .f32) (v10 : Vec Ideal S32x128 .f32) (v12 : Vec Ideal S1x128 .f32) (j : Fin 5) (d : Fin 128) :
    k0_pay7 v0 v2 v4 v10 v12 (ix2 j d) = k0_pay6 v0 v2 v4 v10 v12 (ix2 (pos j) d) := by
  unfold k0_pay7
  generalize k0_pay6 v0 v2 v4 v10 v12 = x
  fin_cases j <;> pointwise <;> rfl

/-- A step's new centers. -/
theorem pay10_ix (v0 : Vec Ideal S4x2048x64 .f32) (v2 : Vec Ideal S64x32 .f32) (v4 : Vec Ideal S1x32 .f32) (v10 : Vec Ideal S32x128 .f32) (v12 : Vec Ideal S1x128 .f32) (c : FVec Ideal S5x128 .f32) (j : Fin 5) (d : Fin 128) :
    k0_pay10 v0 v2 v4 v10 v12 (k0_pay4 (k0_pay6 v0 v2 v4 v10 v12) (iota .tc S1x5 32 [1] iota_S1x5_d1_w32) c) (ix2 j d)
      = ctr (fun i d => k0_pay6 v0 v2 v4 v10 v12 (ix2 i d)) (near (fun i d => k0_pay6 v0 v2 v4 v10 v12 (ix2 i d)) (fun j d => c (ix2 j d))) j d := by
  have e : ∀ (i : Fin 2048) (j : Fin 5), (sitofp .f32 (extui 32 (k0_pay4 (k0_pay6 v0 v2 v4 v10 v12) (iota .tc S1x5 32 [1] iota_S1x5_d1_w32) c) natLt_1_32) : FVec Ideal S2048x5 .f32) (ix2 i j)
      = one (near (fun i d => k0_pay6 v0 v2 v4 v10 v12 (ix2 i d)) (fun j d => c (ix2 j d))) i j :=
    pay11_ix _ _ (pay3_ix (k0_pay6 v0 v2 v4 v10 v12) c)
  unfold k0_pay10 k0_pay8
  generalize k0_pay6 v0 v2 v4 v10 v12 = x at *
  unfold ctr num
  simp only [← e]
  pointwise

/-- A batch's centers. -/
theorem cenK_ix (h : FVec Ideal S8192x128 .f32) (l : IVec S2048x1 32) (lab : Fin 2048 → Fin 5) (hl : ∀ i, l (ix2 i 0) = wrd (lab i)) (b : ℕ) (hb : b < 4) (j : Fin 5) (d : Fin 128) :
    cenK h l b hb (ix2 j d) = ctr (fun i d => hbK h b hb (ix2 i d)) lab j d := by
  unfold cenK k0_pay12 k0_pay13 k0_pay8
  pointwise
  simp only [pay11_ix l lab hl]
  unfold ctr num
  have hn : max (∑ i, one lab i j) 1 ≠ 0 := (lt_of_lt_of_le zero_lt_one (le_max_right _ _)).ne'
  unfold Ideal.div
  rw [if_neg hn, if_neg hn, one_mul]

/-- A batch's mean squared distances. -/
theorem distK_ix (h : FVec Ideal S8192x128 .f32) (l : IVec S2048x1 32) (lab : Fin 2048 → Fin 5) (hl : ∀ i, l (ix2 i 0) = wrd (lab i)) (b : ℕ) (hb : b < 4) (i : Fin 2048) :
    distK h l b hb (ix2 i 0) = dst (fun i d => hbK h b hb (ix2 i d)) lab i := by
  have hs : ∀ d, ∑ j, k0_pay11 (F := Ideal) l (ix2 i j) * cenK h l b hb (ix2 j d) = ctr (fun i d => hbK h b hb (ix2 i d)) lab (lab i) d := by
    intro d
    simp only [pay11_ix l lab hl, cenK_ix h l lab hl]
    unfold one
    simp
  unfold distK dst
  pointwise
  simp only [hs]

/-- A fold over the pairs of a row and the one column is the fold over the rows. -/
theorem fold_col (op : EReal → EReal → EReal) [Std.Commutative op] [Std.Associative op] (b : EReal) (f : Fin 2048 → EReal) :
    (Finset.univ : Finset (Fin 2048 × Fin 1)).fold op b (fun p => f p.1) = Finset.univ.fold op b f := by
  have h : (Finset.univ : Finset (Fin 2048 × Fin 1)) = Finset.univ.map ⟨fun i : Fin 2048 => (i, (0 : Fin 1)), fun _ _ e => congrArg Prod.fst e⟩ := by
    ext ⟨i, j⟩
    simp only [Finset.mem_univ, Finset.mem_map, true_and, true_iff]
    exact ⟨i, Prod.ext rfl (Subsingleton.elim _ _)⟩
  rw [h, Finset.fold_map]
  rfl

/-- A column normalised. -/
theorem normK_ix (x : FVec Ideal S2048x1 .f32) (i : Fin 2048) : normK x (ix2 i 0) = span (fun i => x (ix2 i 0)) i := by
  have h1 : colMin x = lo fun i => x (ix2 i 0) := by
    unfold colMin lo
    pointwise
    exact fold_col _ _ fun i => x (ix2 i 0)
  have h2 : colMax x = hi fun i => x (ix2 i 0) := by
    unfold colMax hi
    pointwise
    exact fold_col _ _ fun i => x (ix2 i 0)
  unfold normK span
  pointwise
  rw [h1, h2]

/-- A batch's scores. -/
theorem scoK_ix (h : FVec Ideal S8192x128 .f32) (l : IVec S2048x1 32) (lab : Fin 2048 → Fin 5) (hl : ∀ i, l (ix2 i 0) = wrd (lab i)) (b : ℕ) (hb : b < 4) (i : Fin 2048) :
    scoK h l b hb (ix2 i 0) = score (fun i d => hbK h b hb (ix2 i d)) lab i := by
  have hw : ∀ j : Fin 5, (wrd j).toInt = (j.val : ℤ) := by decide
  unfold scoK score
  pointwise
  rw [normK_ix, hl, Cert.Proof.Plain.of_word, hw]
  simp only [distK_ix h l lab hl]
  rfl

/-- A batch's scaled scores. -/
theorem scaK_ix (s : FVec Ideal S2048x1 .f32) (i : Fin 2048) : scaK s (ix2 i 0) = scaled (fun i => s (ix2 i 0)) i := by
  unfold scaK scaled
  pointwise
  rw [normK_ix]

end Cert.Proof.KernelIdeal

end
-- ==== Proof.Loop.lean ====
/-
  The kernel's ten trips over the extended reals: the labels it keeps are the plain ones.
-/
module

public import proofs.«01_k».proof.Proof.KerIdeal

@[expose] public section

noncomputable section

namespace Cert.Proof.KernelIdeal

open Cert.KernelIdeal Cert.KernelIdeal.Gen
open Idealize.ShloMosaic
open Cert.Proof.Plain (wrd near ctr ctrs lbls)

section
variable (v0 : Vec Ideal S4x2048x64 .f32) (v2 : Vec Ideal S64x32 .f32) (v4 : Vec Ideal S1x32 .f32) (v10 : Vec Ideal S32x128 .f32) (v12 : Vec Ideal S1x128 .f32)

/-- The rows the trips read. -/
abbrev rowsK (i : Fin 2048) (d : Fin 128) : EReal := k0_pay6 (F := Ideal) v0 v2 v4 v10 v12 (ix2 i d)

/-- A trip's centers. -/
theorem trip_ctrs (acc : FVec Ideal S5x128 .f32 × IVec S2048x1 32) (j : Fin 5) (d : Fin 128) :
    (trip (F := Ideal) v0 v2 v4 v10 v12 acc).1 (ix2 j d) = ctr (rowsK v0 v2 v4 v10 v12) (near (rowsK v0 v2 v4 v10 v12) fun j d => acc.1 (ix2 j d)) j d :=
  pay10_ix ..
/-- A trip's labels. -/
theorem trip_lbls (acc : FVec Ideal S5x128 .f32 × IVec S2048x1 32) (i : Fin 2048) :
    (trip (F := Ideal) v0 v2 v4 v10 v12 acc).2 (ix2 i 0) = wrd (near (rowsK v0 v2 v4 v10 v12) (fun j d => acc.1 (ix2 j d)) i) := by
  have e : (trip (F := Ideal) v0 v2 v4 v10 v12 acc).2 = k0_pay3 (F := Ideal) (k0_pay6 (F := Ideal) v0 v2 v4 v10 v12) acc.1 := by unfold trip; rfl
  rw [e]
  exact pay3_ix (k0_pay6 (F := Ideal) v0 v2 v4 v10 v12) acc.1 i

/-- After `k` trips the carried centers are the plain ones. -/
theorem trips_ctrs (k : ℕ) (j : Fin 5) (d : Fin 128) :
    ((trip (F := Ideal) v0 v2 v4 v10 v12)^[k] (k0_pay7 v0 v2 v4 v10 v12, k0_pay9)).1 (ix2 j d) = ctrs (rowsK v0 v2 v4 v10 v12) k j d := by
  induction k generalizing j d with
  | zero => exact pay7_ix ..
  | succ k ih =>
    rw [Function.iterate_succ_apply', trip_ctrs]
    simp only [ih]
    rfl

/-- After `k + 1` trips the carried labels are those of the plain centers after `k`. -/
theorem trips_lbls (k : ℕ) (i : Fin 2048) :
    ((trip (F := Ideal) v0 v2 v4 v10 v12)^[k + 1] (k0_pay7 v0 v2 v4 v10 v12, k0_pay9)).2 (ix2 i 0) = wrd (lbls (rowsK v0 v2 v4 v10 v12) k i) := by
  rw [Function.iterate_succ_apply', trip_lbls]
  simp only [trips_ctrs]
  rfl

/-- The loop's ten trips. -/
theorem loop_lbls (i : Fin 2048) :
    (Scf.fold (n := k0_t1_loop.trips) (fun _ acc => trip (F := Ideal) v0 v2 v4 v10 v12 acc) (k0_pay7 v0 v2 v4 v10 v12, k0_pay9)).2 (ix2 i 0)
      = wrd (lbls (rowsK v0 v2 v4 v10 v12) 9 i) := by
  rw [Scf.fold_eq, List.foldl_const, List.length_finRange, show k0_t1_loop.trips = 9 + 1 by decide]
  exact trips_lbls ..
end

end Cert.Proof.KernelIdeal

end
-- ==== Proof.RefStage.lean ====
/-
  The reference's stages as functions of arrays: the hidden layer, one Lloyd step, the scores, the soft and the hard
  ranks; and the run's results are these functions of the launched arguments.
-/
module

public import proofs.«01_k».proof.Proof.RefRead

@[expose] public section

set_option maxRecDepth 4000

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- A scalar constant broadcast to a shape. -/
abbrev splat (s : Shape) (h : S_.BroadcastsInDim s ![]) (b : BitVec 32) : FVec F s .f32 :=
  broadcastInDim s ![] h (constant S_ .f32 b)
/-- A scalar word broadcast to a shape. -/
abbrev splatI (s : Shape) (h : S_.BroadcastsInDim s ![]) (b : BitVec 32) : IVec s 32 :=
  broadcastInDim s ![] h (constantI S_ 32 b)

/-- The first layer before its rectifier. -/
def lin1 (x : FVec F S4x2048x64 .f32) (w : FVec F S64x32 .f32) (b : FVec F S32 .f32) : FVec F S4x2048x32 .f32 :=
  addf (Host.dotGeneral dot_S4x2048x64_S64x32_S4x2048x32_2_0_01_1_n_n none x w)
    (broadcastInDim S4x2048x32 ![0, 1, 2] bcast_S1x1x32_S4x2048x32_0_1_2 (broadcastInDim S1x1x32 ![2] bcast_S32_S1x1x32_2 b))
/-- The second layer before its rectifier. -/
def lin2 (x : FVec F S4x2048x32 .f32) (w : FVec F S32x128 .f32) (b : FVec F S128 .f32) : FVec F S4x2048x128 .f32 :=
  addf (Host.dotGeneral dot_S4x2048x32_S32x128_S4x2048x128_2_0_01_1_n_n none x w)
    (broadcastInDim S4x2048x128 ![0, 1, 2] bcast_S1x1x128_S4x2048x128_0_1_2 (broadcastInDim S1x1x128 ![2] bcast_S128_S1x1x128_2 b))
/-- The two layers. -/
def hid (a0 : FVec F S4x2048x64 .f32) (a1 : FVec F S64x32 .f32) (a2 : FVec F S32 .f32) (a3 : FVec F S32x128 .f32) (a4 : FVec F S128 .f32) :
    FVec F S4x2048x128 .f32 :=
  maximumf (lin2 (maximumf (lin1 a0 a1 a2) (splat _ bcast_S_S4x2048x32 0x00000000#32)) a3 a4) (splat _ bcast_S_S4x2048x128 0x00000000#32)
/-- Batch 0's rows of the hidden layer. -/
def rows0 (h : FVec F S4x2048x128 .f32) : FVec F S2048x128 .f32 :=
  shapeCast S2048x128 (extractStridedSlice S1x2048x128 ![0, 0, 0] h slices_S4x2048x128_S1x2048x128_0_0_0) shapeCasts_S1x2048x128_S2048x128
/-- Five evenly spaced positions. -/
def linsOf (a b : IVec S_ 32) : FVec F S5 .f32 :=
  let u : FVec F S4 .f32 := Host.divf (sitofp .f32 (iotaInDim S4 32 0)) (splat _ bcast_S_S4 0x40800000#32)
  let lo : FVec F S_ .f32 := sitofp .f32 a
  let hi : FVec F S_ .f32 := sitofp .f32 b
  concatenate S5 0 [⟨S4, addf (mulf (broadcastInDim S4 ![0] bcast_S1_S4_0 (shapeCast S1 lo shapeCasts_S_S1)) (subf (splat _ bcast_S_S4 0x3F800000#32) u))
      (mulf (broadcastInDim S4 ![0] bcast_S1_S4_0 (shapeCast S1 hi shapeCasts_S_S1)) u)⟩,
    ⟨S1, broadcastInDim S1 ![] bcast_S_S1 hi⟩] concatenates_S4_S1_S5_d0
/-- A list of start rows, a negative one counted from the end. -/
def wrap5 (i : IVec S5 32) : IVec S5x1 32 :=
  broadcastInDim S5x1 ![0] bcast_S5_S5x1_0 (select (cmpi .slt i (splatI _ bcast_S_S5 0#32)) (addi i (splatI _ bcast_S_S5 2048#32)) i)
/-- The starting centers: five rows. -/
def cen0 (x : FVec F S2048x128 .f32) : FVec F S5x128 .f32 :=
  Host.gather gather_S2048x128_S5x1_S5x128_1_0_n_n_0_1_1128 x (wrap5 (fptosi 32 (linsOf (F := F) (constantI S_ 32 0#32) (constantI S_ 32 2047#32))))
/-- The squared distances of the rows to the centers. -/
def dist2 (x : FVec F S2048x128 .f32) (c : FVec F S5x128 .f32) : FVec F S2048x5 .f32 :=
  let d : FVec F S2048x5x128 .f32 := subf
    (broadcastInDim S2048x5x128 ![0, 1, 2] bcast_S2048x1x128_S2048x5x128_0_1_2 (broadcastInDim S2048x1x128 ![0, 2] bcast_S2048x128_S2048x1x128_0_2 x))
    (broadcastInDim S2048x5x128 ![0, 1, 2] bcast_S1x5x128_S2048x5x128_0_1_2 (broadcastInDim S1x5x128 ![1, 2] bcast_S5x128_S1x5x128_1_2 c))
  Host.reduceAdd (mulf d d) (constant S_ .f32 0x00000000#32) reducesTo_S2048x5x128_S2048x5_d2 h_S_
/-- The nearest center's number, the first of several. -/
def amin (d : FVec F S2048x5 .f32) : IVec S2048 32 := fun j =>
  (Host.argReduce reducer_argmin_f32_i32 d (iotaInDim S2048x5 32 1) (constant S_ .f32 0x7F800000#32) (constantI S_ 32 0#32)
    reducesTo_S2048x5_S2048_d1 h_S_ j).2
/-- A label's row of zeros and a one. -/
def hot (l : IVec S2048 32) : FVec F S2048x5 .f32 :=
  uitofp .f32 (cmpi .eq (broadcastInDim S2048x5 ![0, 1] bcast_S2048x1_S2048x5_0_1 (broadcastInDim S2048x1 ![0] bcast_S2048_S2048x1_0 l))
    (broadcastInDim S2048x5 ![0, 1] bcast_S1x5_S2048x5_0_1 (iotaInDim S1x5 32 1)))
/-- How many rows carry each label, at least one. -/
def cnt (o : FVec F S2048x5 .f32) : FVec F S5 .f32 :=
  maximumf (Host.reduceAdd o (constant S_ .f32 0x00000000#32) reducesTo_S2048x5_S5_d0 h_S_) (splat _ bcast_S_S5 0x3F800000#32)
/-- The labels' means of the rows. -/
def mean (x : FVec F S2048x128 .f32) (o : FVec F S2048x5 .f32) : FVec F S5x128 .f32 :=
  Host.divf (Host.dotGeneral dot_S5x2048_S2048x128_S5x128_1_0_0_1_n_n none (transpose S5x2048 [1, 0] o transposes_S2048x5_S5x2048_1_0) x)
    (broadcastInDim S5x128 ![0, 1] bcast_S5x1_S5x128_0_1 (broadcastInDim S5x1 ![0] bcast_S5_S5x1_0 (cnt o)))
/-- The centers after `k` Lloyd steps. -/
def cens (x : FVec F S2048x128 .f32) : ℕ → FVec F S5x128 .f32
  | 0 => cen0 x
  | k + 1 => mean x (hot (amin (dist2 x (cens x k))))
/-- The labels the `k + 1`-st step gives. -/
def labs (x : FVec F S2048x128 .f32) (k : ℕ) : IVec S2048 32 := amin (dist2 x (cens x k))
/-- Every batch's label means. -/
def meanB (h : FVec F S4x2048x128 .f32) (o : FVec F S2048x5 .f32) : FVec F S4x5x128 .f32 :=
  Host.divf (transpose S4x5x128 [0, 2, 1] (Host.dotGeneral dot_S4x2048x128_S2048x5_S4x128x5_1_0_02_1_n_n none h o) transposes_S4x128x5_S4x5x128_0_2_1)
    (broadcastInDim S4x5x128 ![0, 1, 2] bcast_S1x5x1_S4x5x128_0_1_2 (broadcastInDim S1x5x1 ![1] bcast_S5_S1x5x1_1 (cnt o)))
/-- The rows' labels as indices, a negative one counted from the end. -/
def wrapL (l : IVec S2048 32) : IVec S2048x1 32 :=
  broadcastInDim S2048x1 ![0] bcast_S2048_S2048x1_0 (select (cmpi .slt l (splatI _ bcast_S_S2048 0#32)) (addi l (splatI _ bcast_S_S2048 5#32)) l)
/-- The sums of squared differences from the row's center. -/
def sqs (h : FVec F S4x2048x128 .f32) (c : FVec F S4x5x128 .f32) (l : IVec S2048 32) : FVec F S4x2048 .f32 :=
  let d : FVec F S4x2048x128 .f32 := subf h (Host.gather gather_S4x5x128_S2048x1_S4x2048x128_02_1_n_n_1_1_41128 c (wrapL l))
  Host.reduceAdd (mulf d d) (constant S_ .f32 0x00000000#32) reducesTo_S4x2048x128_S4x2048_d2 h_S_
/-- A batch's least entry. -/
def minB (x : FVec F S4x2048 .f32) : FVec F S4 .f32 := Host.reduce FloatOps.minimumf x (constant S_ .f32 0x7F800000#32) reducesTo_S4x2048_S4_d1 h_S_
/-- A batch's greatest entry. -/
def maxB (x : FVec F S4x2048 .f32) : FVec F S4 .f32 := Host.reduce FloatOps.maximumf x (constant S_ .f32 0xFF800000#32) reducesTo_S4x2048_S4_d1 h_S_
/-- Every batch less its least entry, over its span. -/
def norm (x : FVec F S4x2048 .f32) : FVec F S4x2048 .f32 :=
  let lo : FVec F S4x1 .f32 := broadcastInDim S4x1 ![0] bcast_S4_S4x1_0 (minB x)
  let hi : FVec F S4x1 .f32 := broadcastInDim S4x1 ![0] bcast_S4_S4x1_0 (maxB x)
  Host.divf (subf x (broadcastInDim S4x2048 ![0, 1] bcast_S4x1_S4x2048_0_1 lo)) (broadcastInDim S4x2048 ![0, 1] bcast_S4x1_S4x2048_0_1 (subf hi lo))
/-- The scores of the rows under given labels. -/
def sco (h : FVec F S4x2048x128 .f32) (l : IVec S2048 32) : FVec F S4x2048 .f32 :=
  addf (norm (Host.divf (sqs h (meanB h (hot l)) l) (splat _ bcast_S_S4x2048 0x43000000#32)))
    (broadcastInDim S4x2048 ![0, 1] bcast_S1x2048_S4x2048_0_1 (sitofp .f32 (broadcastInDim S1x2048 ![1] bcast_S2048_S1x2048_1 l)))
/-- The scaled scores. -/
def sca (s : FVec F S4x2048 .f32) : FVec F S4x2048 .f32 := mulf (norm s) (splat _ bcast_S_S4x2048 0x40800000#32)
/-- The logistic function of every pair's difference over a thousandth. -/
def sig2 (t : FVec F S4x2048 .f32) : FVec F S4x2048x2048 .f32 :=
  Host.divf (splat _ bcast_S_S4x2048x2048 0x3F800000#32) (addf (splat _ bcast_S_S4x2048x2048 0x3F800000#32) (Host.exp (Host.negf (Host.divf
    (subf (broadcastInDim S4x2048x2048 ![0, 1, 2] bcast_S4x2048x1_S4x2048x2048_0_1_2 (broadcastInDim S4x2048x1 ![0, 1] bcast_S4x2048_S4x2048x1_0_1 t))
      (broadcastInDim S4x2048x2048 ![0, 1, 2] bcast_S4x1x2048_S4x2048x2048_0_1_2 (broadcastInDim S4x1x2048 ![0, 2] bcast_S4x2048_S4x1x2048_0_2 t)))
    (broadcastInDim S4x2048x2048 ![] bcast_S_S4x2048x2048 (Host.divf (constant S_ .f32 0x3F800000#32) (constant S_ .f32 0x447A0000#32)))))))
/-- The soft ranks. -/
def soft (t : FVec F S4x2048 .f32) : FVec F S4x2048 .f32 :=
  addf (Host.reduceAdd (sig2 t) (constant S_ .f32 0x00000000#32) reducesTo_S4x2048x2048_S4x2048_d2 h_S_) (splat _ bcast_S_S4x2048 0x3F000000#32)
/-- The order of the scores, then that order's order: the hard ranks from 0. -/
def ord (s : FVec F S4x2048 .f32) : IVec S4x2048 32 :=
  (Host.sort2 S4x2048 1 comparator_i32_i32_d1 (Host.sort2 S4x2048 1 comparator_f32_i32_d1 s (iotaInDim S4x2048 32 1)).2 (iotaInDim S4x2048 32 1)).2
/-- The floor of the quotient. -/
def fdiv (r : IVec S4x2048 32) (n : IVec S_ 32) : IVec S4x2048 32 :=
  let q : IVec S4x2048 32 := Host.divsi r (broadcastInDim S4x2048 ![] bcast_S_S4x2048 n)
  select (andi (cmpi .ne (signi r) (broadcastInDim S4x2048 ![] bcast_S_S4x2048 (signi n)))
      (cmpi .ne (Host.remsi r (broadcastInDim S4x2048 ![] bcast_S_S4x2048 n)) (splatI _ bcast_S_S4x2048 0#32)))
    (subi q (splatI _ bcast_S_S4x2048 1#32)) q
/-- The hard ranks. -/
def rank (s : FVec F S4x2048 .f32) (n : IVec S_ 32) : IVec S4x2048 32 := addi (fdiv (ord s) n) (splatI _ bcast_S_S4x2048 1#32)

section
variable (V : Valuation τ sig (Elt F))
/-- The first layer. -/
theorem at_v3 : after main_part0_ops0 V (Proc.devRef .tc main_v3) = lin1 (V (Proc.devRef .tc main_arg0)) (V (Proc.devRef .tc main_arg1)) (V (Proc.devRef .tc main_arg2)) := rfl
/-- Its rectifier. -/
theorem at_v4 : after main_part0_ops1 V (Proc.devRef .tc main_v4) = maximumf (V (Proc.devRef .tc main_v3) : FVec F S4x2048x32 .f32) (splat _ bcast_S_S4x2048x32 0x00000000#32) := rfl
/-- The second layer. -/
theorem at_v8 : after main_part0_ops2 V (Proc.devRef .tc main_v8) = lin2 (V (Proc.devRef .tc main_v4)) (V (Proc.devRef .tc main_arg3)) (V (Proc.devRef .tc main_arg4)) := rfl
/-- Its rectifier. -/
theorem at_v9 : after main_part0_ops3 V (Proc.devRef .tc main_v9) = maximumf (V (Proc.devRef .tc main_v8) : FVec F S4x2048x128 .f32) (splat _ bcast_S_S4x2048x128 0x00000000#32) := rfl
/-- Batch 0's rows. -/
theorem at_v11 : after main_part0_ops4 V (Proc.devRef .tc main_v11) = rows0 (V (Proc.devRef .tc main_v9)) := rfl
/-- The positions' start. -/
theorem at_c : after main_part0_ops4 V (Proc.devRef .tc main_c) = constantI S_ 32 0#32 := rfl
/-- The positions' end. -/
theorem at_c0 : after main_part0_ops4 V (Proc.devRef .tc main_c_0) = constantI S_ 32 2047#32 := rfl
/-- The positions. -/
theorem at_v12 : after main_part0_ops5 V (Proc.devRef .tc main_v12) = linsOf (V (Proc.devRef .tc main_c)) (V (Proc.devRef .tc main_c_0)) := rfl
/-- The rows enter the loop. -/
theorem at_x : after main_part0_ops6 V (Proc.devRef .tc main_v22_0) = (V (Proc.devRef .tc main_v11)) := rfl
/-- The centers enter the loop. -/
theorem at_cen : after main_part0_ops6 V (Proc.devRef .tc main_v22_3) = Host.gather gather_S2048x128_S5x1_S5x128_1_0_n_n_0_1_1128 (V (Proc.devRef .tc main_v11)) (wrap5 (fptosi 32 (V (Proc.devRef .tc main_v12) : FVec F S5 .f32))) := rfl
/-- A trip's distances. -/
theorem in_d : after while0Ops0 V (Proc.devRef .tc main_while0b_v100) = dist2 (V (Proc.devRef .tc main_v22_0)) (V (Proc.devRef .tc main_v22_3)) := rfl
/-- A trip's labels. -/
theorem in_l : after while0Ops1 V (Proc.devRef .tc main_while0b_v101) = amin (V (Proc.devRef .tc main_while0b_v100)) := by
  after_results
  rfl
/-- A trip's rows of zeros and a one. -/
theorem in_o : after while0Ops2 V (Proc.devRef .tc main_while0b_v102) = hot (V (Proc.devRef .tc main_while0b_v101)) := rfl
/-- A trip's new centers. -/
theorem in_c : after while0Ops3 V (Proc.devRef .tc main_while0b_v110) = mean (V (Proc.devRef .tc main_v22_0)) (V (Proc.devRef .tc main_while0b_v102)) := rfl
/-- They are carried on. -/
theorem in_c4 : after while0Ops4 V (Proc.devRef .tc main_v22_3) = (V (Proc.devRef .tc main_while0b_v110)) := rfl
/-- So are the labels. -/
theorem in_l4 : after while0Ops4 V (Proc.devRef .tc main_v22_4) = (V (Proc.devRef .tc main_while0b_v101)) := rfl
/-- The rows of zeros and a one at the end. -/
theorem end_o : after main_part0_ops7 V (Proc.devRef .tc main_v23) = hot (V (Proc.devRef .tc main_v22_4)) := rfl
/-- The sums of squares at the end. -/
theorem end_q : after main_part0_ops8 V (Proc.devRef .tc main_v41) = sqs (V (Proc.devRef .tc main_v9)) (meanB (V (Proc.devRef .tc main_v9)) (V (Proc.devRef .tc main_v23))) (V (Proc.devRef .tc main_v22_4)) := rfl
/-- The number of columns. -/
theorem end_k : after main_part0_ops8 V (Proc.devRef .tc main_cst_10) = constant S_ .f32 0x43000000#32 := rfl
/-- The normalised distances. -/
theorem end_n : after main_part1_ops0_a V (Proc.devRef .tc main_v52) = norm (Host.divf (V (Proc.devRef .tc main_v41) : FVec F S4x2048 .f32) (broadcastInDim S4x2048 ![] bcast_S_S4x2048 (V (Proc.devRef .tc main_cst_10)))) := by
  after_results
  rfl
/-- The scores. -/
theorem end_s : after main_part1_ops0_b V (Proc.devRef .tc main_v56) = addf (V (Proc.devRef .tc main_v52) : FVec F S4x2048 .f32) (broadcastInDim S4x2048 ![0, 1] bcast_S1x2048_S4x2048_0_1 (sitofp .f32 (broadcastInDim S1x2048 ![1] bcast_S2048_S1x2048_1 (V (Proc.devRef .tc main_v22_4) : IVec S2048 32)))) := rfl
/-- The scaled scores. -/
theorem end_t : after main_part1_ops0_c V (Proc.devRef .tc main_v67) = sca (V (Proc.devRef .tc main_v56)) := by
  after_results
  rfl
/-- The logistic functions. -/
theorem end_g : after main_part1_ops0_d V (Proc.devRef .tc main_v81) = sig2 (V (Proc.devRef .tc main_v67)) := rfl
/-- The soft ranks. -/
theorem end_r : after main_part1_ops0_e V (Proc.devRef .tc main_v84) = addf (Host.reduceAdd (V (Proc.devRef .tc main_v81) : FVec F S4x2048x2048 .f32) (constant S_ .f32 0x00000000#32) reducesTo_S4x2048x2048_S4x2048_d2 h_S_) (splat _ bcast_S_S4x2048 0x3F000000#32) := rfl
/-- The scores' order. -/
theorem end_a : after main_part1_ops1 V (Proc.devRef .tc main_v85) = (Host.sort2 S4x2048 1 comparator_f32_i32_d1 (V (Proc.devRef .tc main_v56) : FVec F S4x2048 .f32) (iotaInDim S4x2048 32 1)).2 := rfl
/-- That order's order. -/
theorem end_b : after main_part1_ops2 V (Proc.devRef .tc main_v86) = (Host.sort2 S4x2048 1 comparator_i32_i32_d1 (V (Proc.devRef .tc main_v85) : IVec S4x2048 32) (iotaInDim S4x2048 32 1)).2 := rfl
/-- The quotients. -/
theorem end_f : after main_part1_ops3 V (Proc.devRef .tc main_v87) = fdiv (V (Proc.devRef .tc main_v86)) (V (Proc.devRef .tc main_arg5)) := rfl
/-- One more. -/
theorem end_1 : after main_part1_ops4 V (Proc.devRef .tc main_v89) = addi (V (Proc.devRef .tc main_v87) : IVec S4x2048 32) (splatI _ bcast_S_S4x2048 1#32) := rfl
/-- The soft ranks leave. -/
theorem out_soft : after main_part2_ops0 V (Proc.devRef .tc main_v90) = shapeCast S4x2048x1 (V (Proc.devRef .tc main_v84)) shapeCasts_S4x2048_S4x2048x1 := rfl
/-- The hard ranks leave. -/
theorem out_rank : after main_part2_ops0 V (Proc.devRef .tc main_v91) = shapeCast S4x2048x1 (V (Proc.devRef .tc main_v89)) shapeCasts_S4x2048_S4x2048x1 := rfl
/-- The scores leave. -/
theorem out_sco : after main_part2_ops0 V (Proc.devRef .tc main_v92) = shapeCast S4x2048x1 (V (Proc.devRef .tc main_v56)) shapeCasts_S4x2048_S4x2048x1 := rfl
end

section
variable (m : (ℓ : Loc nD τ sig) → Buf (Elt F) ℓ) (c : Dev nD)

/-- The hidden layer of the launched arguments. -/
def hidM : FVec F S4x2048x128 .f32 :=
  hid (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The first four stretches give the hidden layer. -/
theorem four_hid : after main_part0_ops3 (after main_part0_ops2 (after main_part0_ops1 (after main_part0_ops0 (launchContents m c)))) (Proc.devRef .tc main_v9) = hidM m c := by
  rw [at_v9,
    at_v8,
    at_v4,
    at_v3,
    after_of_writes_sub main_part0_ops1 _ main_part0_ops1_writes (r := main_arg3) (by decide +kernel),
    after_of_writes_sub main_part0_ops0 _ main_part0_ops0_writes (r := main_arg3) (by decide +kernel),
    after_of_writes_sub main_part0_ops1 _ main_part0_ops1_writes (r := main_arg4) (by decide +kernel),
    after_of_writes_sub main_part0_ops0 _ main_part0_ops0_writes (r := main_arg4) (by decide +kernel)]
  rfl
/-- The loop is entered with the hidden layer. -/
theorem entry_hid : entryContents preI m c (Proc.devRef .tc main_v9) = hidM m c := by
  simp only [entryContents, afterL_cons, afterL_nil]
  rw [after_of_writes_sub main_part0_ops6 _ main_part0_ops6_writes (r := main_v9) (by decide +kernel),
    after_of_writes_sub main_part0_ops5 _ main_part0_ops5_writes (r := main_v9) (by decide +kernel),
    after_of_writes_sub main_part0_ops4 _ main_part0_ops4_writes (r := main_v9) (by decide +kernel),
    four_hid]
/-- The loop is entered with batch 0's rows. -/
theorem entry_rows : entryContents preI m c (Proc.devRef .tc main_v22_0) = rows0 (hidM m c) := by
  simp only [entryContents, afterL_cons, afterL_nil]
  rw [at_x,
    after_of_writes_sub main_part0_ops5 _ main_part0_ops5_writes (r := main_v11) (by decide +kernel),
    at_v11,
    four_hid]
/-- The loop is entered with the starting centers. -/
theorem entry_cen : entryContents preI m c (Proc.devRef .tc main_v22_3) = cen0 (rows0 (hidM m c)) := by
  simp only [entryContents, afterL_cons, afterL_nil]
  rw [at_cen,
    after_of_writes_sub main_part0_ops5 _ main_part0_ops5_writes (r := main_v11) (by decide +kernel),
    at_v12,
    at_v11,
    at_c,
    at_c0,
    four_hid]
  rfl

variable (V : Valuation τ sig (Elt F))
/-- One trip's labels. -/
theorem trip_lab : afterL bodyI (after condOps V) (Proc.devRef .tc main_v22_4)
    = amin (dist2 (V (Proc.devRef .tc main_v22_0)) (V (Proc.devRef .tc main_v22_3))) := by
  simp only [afterL_cons, afterL_nil, bodyLast, after_append]
  rw [in_l4,
    after_of_writes_sub while0Ops3 _ while0Ops3_writes (r := main_while0b_v101) (by decide +kernel),
    after_of_writes_sub while0Ops2 _ while0Ops2_writes (r := main_while0b_v101) (by decide +kernel),
    in_l,
    in_d,
    after_of_writes_sub condOps _ condOps_writes (r := main_v22_0) (by decide +kernel),
    after_of_writes_sub condOps _ condOps_writes (r := main_v22_3) (by decide +kernel)]
/-- One trip's centers. -/
theorem trip_cen : afterL bodyI (after condOps V) (Proc.devRef .tc main_v22_3)
    = mean (V (Proc.devRef .tc main_v22_0)) (hot (amin (dist2 (V (Proc.devRef .tc main_v22_0)) (V (Proc.devRef .tc main_v22_3))))) := by
  simp only [afterL_cons, afterL_nil, bodyLast, after_append]
  rw [in_c4,
    in_c,
    after_of_writes_sub while0Ops2 _ while0Ops2_writes (r := main_v22_0) (by decide +kernel),
    in_o,
    after_of_writes_sub while0Ops1 _ while0Ops1_writes (r := main_v22_0) (by decide +kernel),
    in_l,
    in_d,
    after_of_writes_sub while0Ops0 _ while0Ops0_writes (r := main_v22_0) (by decide +kernel),
    after_of_writes_sub condOps _ condOps_writes (r := main_v22_0) (by decide +kernel),
    after_of_writes_sub condOps _ condOps_writes (r := main_v22_3) (by decide +kernel)]

/-- The rows are the same at every trip. -/
theorem atK_rows (k : ℕ) : atK m k c (Proc.devRef .tc main_v22_0) = rows0 (hidM m c) :=
  (trip_keep m c (by decide +kernel) k).trans (entry_rows m c)
/-- The hidden layer is the same at every trip. -/
theorem atK_hid (k : ℕ) : atK m k c (Proc.devRef .tc main_v9) = hidM m c :=
  (trip_keep m c (by decide +kernel) k).trans (entry_hid m c)
/-- The centers at every trip. -/
theorem atK_cen : ∀ k, atK m k c (Proc.devRef .tc main_v22_3) = cens (rows0 (hidM m c)) k
  | 0 => entry_cen m c
  | k + 1 => by
    rw [show atK m (k + 1) c = afterL bodyI (after condOps (atK m k c)) from rfl, trip_cen, atK_rows, atK_cen k]; rfl
/-- The labels after every trip. -/
theorem atK_lab (k : ℕ) : atK m (k + 1) c (Proc.devRef .tc main_v22_4) = labs (rows0 (hidM m c)) k := by
  rw [show atK m (k + 1) c = afterL bodyI (after condOps (atK m k c)) from rfl, trip_lab, atK_rows, atK_cen]; rfl

/-- The scores of the launched arguments. -/
def scoM : FVec F S4x2048 .f32 := sco (hidM m c) (labs (rows0 (hidM m c)) 9)

/-- The stretches up to the scores give them. -/
theorem post_v56 : after main_part1_ops0_b (after main_part1_ops0_a (after main_part0_ops8 (after main_part0_ops7 (after condOps V)))) (Proc.devRef .tc main_v56)
    = sco (V (Proc.devRef .tc main_v9)) (V (Proc.devRef .tc main_v22_4)) := by
  rw [end_s,
    end_n,
    end_q,
    end_k,
    after_of_writes_sub main_part1_ops0_a _ main_part1_ops0_a_writes (r := main_v22_4) (by decide +kernel),
    after_of_writes_sub main_part0_ops8 _ main_part0_ops8_writes (r := main_v22_4) (by decide +kernel),
    end_o,
    after_of_writes_sub main_part0_ops7 _ main_part0_ops7_writes (r := main_v9) (by decide +kernel),
    after_of_writes_sub main_part0_ops7 _ main_part0_ops7_writes (r := main_v22_4) (by decide +kernel),
    after_of_writes_sub condOps _ condOps_writes (r := main_v9) (by decide +kernel),
    after_of_writes_sub condOps _ condOps_writes (r := main_v22_4) (by decide +kernel)]
  rfl
/-- The end's scores. -/
theorem post_sco : afterL postI (after condOps V) (Proc.devRef .tc main_v92)
    = shapeCast S4x2048x1 (sco (V (Proc.devRef .tc main_v9)) (V (Proc.devRef .tc main_v22_4))) shapeCasts_S4x2048_S4x2048x1 := by
  simp only [afterL_cons, afterL_nil, main_part1_ops0, after_append]
  rw [out_sco,
    after_of_writes_sub main_part1_ops4 _ main_part1_ops4_writes (r := main_v56) (by decide +kernel),
    after_of_writes_sub main_part1_ops3 _ main_part1_ops3_writes (r := main_v56) (by decide +kernel),
    after_of_writes_sub main_part1_ops2 _ main_part1_ops2_writes (r := main_v56) (by decide +kernel),
    after_of_writes_sub main_part1_ops1 _ main_part1_ops1_writes (r := main_v56) (by decide +kernel),
    after_of_writes_sub main_part1_ops0_e _ main_part1_ops0_e_writes (r := main_v56) (by decide +kernel),
    after_of_writes_sub main_part1_ops0_d _ main_part1_ops0_d_writes (r := main_v56) (by decide +kernel),
    after_of_writes_sub main_part1_ops0_c _ main_part1_ops0_c_writes (r := main_v56) (by decide +kernel),
    post_v56]
/-- The end's soft ranks. -/
theorem post_soft : afterL postI (after condOps V) (Proc.devRef .tc main_v90)
    = shapeCast S4x2048x1 (soft (sca (sco (V (Proc.devRef .tc main_v9)) (V (Proc.devRef .tc main_v22_4))))) shapeCasts_S4x2048_S4x2048x1 := by
  simp only [afterL_cons, afterL_nil, main_part1_ops0, after_append]
  rw [out_soft,
    after_of_writes_sub main_part1_ops4 _ main_part1_ops4_writes (r := main_v84) (by decide +kernel),
    after_of_writes_sub main_part1_ops3 _ main_part1_ops3_writes (r := main_v84) (by decide +kernel),
    after_of_writes_sub main_part1_ops2 _ main_part1_ops2_writes (r := main_v84) (by decide +kernel),
    after_of_writes_sub main_part1_ops1 _ main_part1_ops1_writes (r := main_v84) (by decide +kernel),
    end_r,
    end_g,
    end_t,
    post_v56]
  rfl
/-- The end's hard ranks. -/
theorem post_rank : afterL postI (after condOps V) (Proc.devRef .tc main_v91)
    = shapeCast S4x2048x1 (rank (sco (V (Proc.devRef .tc main_v9)) (V (Proc.devRef .tc main_v22_4))) (V (Proc.devRef .tc main_arg5))) shapeCasts_S4x2048_S4x2048x1 := by
  simp only [afterL_cons, afterL_nil, main_part1_ops0, after_append]
  rw [out_rank,
    end_1,
    end_f,
    end_b,
    end_a,
    after_of_writes_sub main_part1_ops0_e _ main_part1_ops0_e_writes (r := main_v56) (by decide +kernel),
    after_of_writes_sub main_part1_ops0_d _ main_part1_ops0_d_writes (r := main_v56) (by decide +kernel),
    after_of_writes_sub main_part1_ops0_c _ main_part1_ops0_c_writes (r := main_v56) (by decide +kernel),
    post_v56,
    after_of_writes_sub main_part1_ops2 _ main_part1_ops2_writes (r := main_arg5) (by decide +kernel),
    after_of_writes_sub main_part1_ops1 _ main_part1_ops1_writes (r := main_arg5) (by decide +kernel),
    after_of_writes_sub main_part1_ops0_e _ main_part1_ops0_e_writes (r := main_arg5) (by decide +kernel),
    after_of_writes_sub main_part1_ops0_d _ main_part1_ops0_d_writes (r := main_arg5) (by decide +kernel),
    after_of_writes_sub main_part1_ops0_c _ main_part1_ops0_c_writes (r := main_arg5) (by decide +kernel),
    after_of_writes_sub main_part1_ops0_b _ main_part1_ops0_b_writes (r := main_arg5) (by decide +kernel),
    after_of_writes_sub main_part1_ops0_a _ main_part1_ops0_a_writes (r := main_arg5) (by decide +kernel),
    after_of_writes_sub main_part0_ops8 _ main_part0_ops8_writes (r := main_arg5) (by decide +kernel),
    after_of_writes_sub main_part0_ops7 _ main_part0_ops7_writes (r := main_arg5) (by decide +kernel),
    after_of_writes_sub condOps _ condOps_writes (r := main_arg5) (by decide +kernel)]
  rfl
/-- The reference's scores. -/
theorem final_sco : finalContents condOps preI bodyI postI 10 m c (Proc.devRef .tc main_v92)
    = shapeCast S4x2048x1 (scoM m c) shapeCasts_S4x2048_S4x2048x1 := by
  refine (post_sco (atK m 10 c)).trans ?_
  rw [atK_hid, atK_lab]; rfl
/-- The reference's soft ranks. -/
theorem final_soft : finalContents condOps preI bodyI postI 10 m c (Proc.devRef .tc main_v90)
    = shapeCast S4x2048x1 (soft (sca (scoM m c))) shapeCasts_S4x2048_S4x2048x1 := by
  refine (post_soft (atK m 10 c)).trans ?_
  rw [atK_hid, atK_lab]; rfl
/-- The reference's hard ranks. -/
theorem final_rank : finalContents condOps preI bodyI postI 10 m c (Proc.devRef .tc main_v91)
    = shapeCast S4x2048x1 (rank (scoM m c) (m ((c.tc : Thread nD τ).loc main_arg5))) shapeCasts_S4x2048_S4x2048x1 := by
  refine (post_rank (atK m 10 c)).trans ?_
  rw [atK_hid, atK_lab, trip_keep m c (by decide +kernel), pre_keep m c (by decide +kernel)]; rfl
end

end Cert.Proof.Ref

end
-- ==== Proof.RefIdeal.lean ====
/-
  The reference's stages over the extended reals, read at one index: each is the plain quantity of Plain.lean.
-/
module

public import proofs.«01_k».proof.Proof.RefStage
public import proofs.«01_k».proof.Proof.Plain

@[expose] public section

noncomputable section

namespace Cert.Proof.Ref

open Cert.ReferenceIdeal Cert.ReferenceIdeal.Gen
open Idealize.ShloMosaic
open Cert.Proof.Plain (wrd pick one num ctr far near pos ctrs lbls lo hi span dst score scaled)

/-- A pair of a value and a number comes no later than another: a smaller value, or the same and no greater number. -/
def early (a b : EReal × BitVec 32) : Prop := a.1 < b.1 ∨ a.1 = b.1 ∧ a.2.toInt ≤ b.2.toInt

/-- The reference's step keeps the one of two pairs that comes first. -/
theorem step_eq (a b : EReal × BitVec 32) :
    reducer_argmin_f32_i32 (F := Ideal) a b = if a.1 < b.1 ∨ a.1 = b.1 ∧ a.2.toInt < b.2.toInt then a else b := by
  obtain ⟨a1, a2⟩ := a
  obtain ⟨b1, b2⟩ := b
  show (Scalar.select (IntOp.ori (Ideal.cmp .olt a1 b1) (Ideal.cmp .une a1 a1)) a1 b1,
    Scalar.select (IntOp.ori (IntOp.ori (Ideal.cmp .olt a1 b1) (Ideal.cmp .une a1 a1))
      (IntOp.andi (Ideal.cmp .oeq a1 b1) (IntOp.cmpi .slt a2 b2))) a2 b2) = _
  have une : Ideal.cmp .une a1 a1 = 0#1 := by simp [Ideal.cmp]
  have or0 : ∀ x : BitVec 1, IntOp.ori x 0#1 = x := by decide
  have orand : ∀ x y z : BitVec 1, IntOp.ori x (IntOp.andi y z) = 1 ↔ x = 1 ∨ y = 1 ∧ z = 1 := by decide
  have ob : ∀ (p : Prop) [Decidable p], BitVec.ofBool (decide p) = 1 ↔ p := by
    intro p _
    by_cases h : p <;> simp [h]
  have lt1 : Ideal.cmp .olt a1 b1 = 1 ↔ a1 < b1 := by unfold Ideal.cmp; exact ob _
  have eq1 : Ideal.cmp .oeq a1 b1 = 1 ↔ a1 = b1 := by unfold Ideal.cmp; exact ob _
  have lt2 : IntOp.cmpi .slt a2 b2 = 1 ↔ a2.toInt < b2.toInt := by unfold IntOp.cmpi; exact ob _
  rw [une, or0]
  unfold Scalar.select
  by_cases h1 : a1 < b1
  · rw [if_pos (lt1.2 h1), if_pos ((orand _ _ _).2 (.inl (lt1.2 h1))), if_pos (.inl h1)]
  · rw [if_neg (fun h => h1 (lt1.1 h))]
    by_cases h2 : a1 = b1 ∧ a2.toInt < b2.toInt
    · rw [if_pos ((orand _ _ _).2 (.inr ⟨eq1.2 h2.1, lt2.2 h2.2⟩)), if_pos (.inr h2), h2.1]
    · rw [if_neg, if_neg (fun h => h.elim h1 h2)]
      intro h
      rcases (orand _ _ _).1 h with h | ⟨h, h'⟩
      · exact h1 (lt1.1 h)
      · exact h2 ⟨eq1.1 h, lt2.1 h'⟩

/-- The reference's fold ends at a pair it has met that comes no later than any. -/
theorem fold_first (L : List (EReal × BitVec 32)) : ∀ a : EReal × BitVec 32,
    (L.foldl (reducer_argmin_f32_i32 (F := Ideal)) a = a ∨ L.foldl (reducer_argmin_f32_i32 (F := Ideal)) a ∈ L)
      ∧ early (L.foldl (reducer_argmin_f32_i32 (F := Ideal)) a) a
      ∧ ∀ p ∈ L, early (L.foldl (reducer_argmin_f32_i32 (F := Ideal)) a) p := by
  have trans : ∀ {a b c}, early a b → early b c → early a c := by
    rintro a b c (h | ⟨h, h'⟩) (k | ⟨k, k'⟩)
    · exact .inl (h.trans k)
    · exact .inl (k ▸ h)
    · exact .inl (h ▸ k)
    · exact .inr ⟨h.trans k, h'.trans k'⟩
  induction L with
  | nil => intro a; exact ⟨.inl rfl, .inr ⟨rfl, le_rfl⟩, fun _ h => absurd h List.not_mem_nil⟩
  | cons b L ih =>
    intro a
    rw [List.foldl_cons]
    have hs : (reducer_argmin_f32_i32 (F := Ideal) a b = a ∨ reducer_argmin_f32_i32 (F := Ideal) a b = b)
        ∧ early (reducer_argmin_f32_i32 (F := Ideal) a b) a ∧ early (reducer_argmin_f32_i32 (F := Ideal) a b) b := by
      rw [step_eq]
      split_ifs with h
      · refine ⟨.inl rfl, .inr ⟨rfl, le_rfl⟩, ?_⟩
        rcases h with h | ⟨h, h'⟩
        · exact .inl h
        · exact .inr ⟨h, h'.le⟩
      · refine ⟨.inr rfl, ?_, .inr ⟨rfl, le_rfl⟩⟩
        rcases lt_trichotomy a.1 b.1 with h' | h' | h'
        · exact absurd (.inl h') h
        · exact .inr ⟨h'.symm, not_lt.1 fun k => h (.inr ⟨h', k⟩)⟩
        · exact .inl h'
    obtain ⟨hm, h1, h2⟩ := ih (reducer_argmin_f32_i32 (F := Ideal) a b)
    refine ⟨?_, trans h1 hs.2.1, fun p hp => ?_⟩
    · rcases hm with hm | hm
      · rcases hs.1 with h | h
        · exact .inl (hm.trans h)
        · exact .inr (by rw [hm, h]; exact List.mem_cons_self)
      · exact .inr (List.mem_cons_of_mem _ hm)
    · rcases List.mem_cons.1 hp with rfl | hp
      · exact trans h1 hs.2.2
      · exact h2 p hp

/-- The nearest center's number is the first of the five with the least distance. -/
theorem amin_ix (d : FVec Ideal S2048x5 .f32) (i : Fin 2048) : amin d (ix1 i) = wrd (pick fun j => d (ix2 i j)) := by
  unfold amin
  rw [Ideal.argReduce_eq_reduce2, Host.reduce2_eq_foldl_fiber]
  have hmem : ∀ p, p ∈ Host.argReduceFiber d (iotaInDim S2048x5 32 1) reducesTo_S2048x5_S2048_d1 (ix1 i)
      ↔ ∃ j : Fin 5, p = (d (ix2 i j), wrd j) := by
    intro p
    unfold Host.argReduceFiber
    rw [List.mem_map]
    constructor
    · rintro ⟨n, hn, rfl⟩
      rw [List.mem_filter, decide_eq_true_eq, Shape.ReducesTo.fiber_r2_a1] at hn
      obtain ⟨-, k, hk⟩ := hn
      exact ⟨k, by rw [← hk]; rfl⟩
    · rintro ⟨j, rfl⟩
      refine ⟨S2048x5.rowMajor (ix2 i j), List.mem_filter.2 ⟨List.mem_finRange _, ?_⟩, by rw [Equiv.symm_apply_apply]; rfl⟩
      rw [decide_eq_true_eq, Equiv.symm_apply_apply, Shape.ReducesTo.fiber_r2_a1]
      exact ⟨j, rfl⟩
  generalize Host.argReduceFiber d (iotaInDim S2048x5 32 1) reducesTo_S2048x5_S2048_d1 (ix1 i) = L at hmem
  obtain ⟨h1, h2, h3⟩ := fold_first L ((constant S_ .f32 0x7F800000#32 : FVec Ideal S_ .f32) (Shape.Idx.first h_S_), constantI S_ 32 0#32 (Shape.Idx.first h_S_))
  generalize L.foldl (reducer_argmin_f32_i32 (F := Ideal)) _ = r at h1 h2 h3 ⊢
  have htop : (constant S_ .f32 0x7F800000#32 : FVec Ideal S_ .f32) (Shape.Idx.first h_S_) = (⊤ : EReal) := by
    show Ideal.ofBits .f32 0x7F800000#32 = ⊤
    simp [Ideal.ofBits, Ideal.ieee]
  have hw : ∀ j : Fin 5, (wrd j).toInt = (j.val : ℤ) := by decide
  obtain ⟨k, hk⟩ : ∃ k : Fin 5, r = (d (ix2 i k), wrd k) := by
    rcases h1 with h1 | h1
    · refine ⟨0, ?_⟩
      have := h3 (d (ix2 i 0), wrd 0) ((hmem _).2 ⟨0, rfl⟩)
      rw [h1] at this ⊢
      rw [htop] at this ⊢
      rcases this with h | ⟨h, -⟩
      · exact absurd h not_top_lt
      · exact Prod.ext h rfl
    · exact (hmem _).1 h1
  rw [hk, Cert.Proof.Plain.pick_eq _ k]
  intro j
  have := h3 _ ((hmem _).2 ⟨j, rfl⟩)
  rw [hk] at this
  rcases this with h | ⟨h, h'⟩
  · exact .inl h
  · refine .inr ⟨h, ?_⟩
    rw [hw, hw] at h'
    exact Fin.le_def.2 (by exact_mod_cast h')

/-- A row of the starting centers is the row its start names, read as a signed number and held inside. -/
theorem gather_rows (x : FVec Ideal S2048x128 .f32) (s : IVec S5x1 32) (j : Fin 5) (d : Fin 128) :
    Host.gather gather_S2048x128_S5x1_S5x128_1_0_n_n_0_1_1128 x s (ix2 j d)
      = x (ix2 ⟨min (s (ix2 j 0)).toInt.toNat 2047, by omega⟩ d) := by
  unfold Host.gather
  congr 1
  funext a
  apply Fin.ext
  match a with
  | ⟨0, _⟩ =>
    refine (congrArg (fun t => min (s t).toInt.toNat 2047) (?_ : _ = ix2 j 0) : _)
    funext b
    match b with
    | ⟨0, _⟩ => rfl
    | ⟨1, _⟩ => rfl
  | ⟨1, _⟩ =>
    show 0 + 0 + d.val = d.val
    omega

/-- A row's center is the one its label names. -/
theorem gather_cens (x : FVec Ideal S4x5x128 .f32) (s : IVec S2048x1 32) (b : Fin 4) (i : Fin 2048) (d : Fin 128) :
    Host.gather gather_S4x5x128_S2048x1_S4x2048x128_02_1_n_n_1_1_41128 x s (ix3 b i d)
      = x (ix3 b ⟨min (s (ix2 i 0)).toInt.toNat 4, by omega⟩ d) := by
  unfold Host.gather
  congr 1
  funext a
  apply Fin.ext
  match a with
  | ⟨0, _⟩ =>
    show 0 + 0 + b.val = b.val
    omega
  | ⟨1, _⟩ =>
    refine (congrArg (fun t => min (s t).toInt.toNat 4) (?_ : _ = ix2 i 0) : _)
    funext b
    match b with
    | ⟨0, _⟩ => rfl
    | ⟨1, _⟩ => rfl
  | ⟨2, _⟩ =>
    show 0 + 0 + d.val = d.val
    omega

/-- The five starting positions. -/
theorem starts (j : Fin 5) :
    (wrap5 (fptosi 32 (linsOf (F := Ideal) (constantI S_ 32 0#32) (constantI S_ 32 2047#32))) (ix2 j 0)).toInt = (pos j).val := by
  have num : ∀ (w : BitVec 32) (k n : ℕ), w.toInt = (k : ℤ) → (n : ℝ) ≤ 2047 * (k / 4) → (2047 * (k / 4) : ℝ) < n + 1 → n < 2 ^ 31 →
      Ideal.fptosi 32 (FloatOps.sitofp (F := Ideal) .f32 0#32 * (1 - Ideal.div (FloatOps.sitofp (F := Ideal) .f32 w) (Ideal.ofBits .f32 1082130432#32))
        + FloatOps.sitofp (F := Ideal) .f32 2047#32 * Ideal.div (FloatOps.sitofp (F := Ideal) .f32 w) (Ideal.ofBits .f32 1082130432#32)) = BitVec.ofNat 32 n := by
    intro w k n hw h0 h1 hn
    have hz : (FloatOps.sitofp (F := Ideal) .f32 0#32 : EReal) = 0 := by rw [Cert.Proof.Plain.of_word]; simp
    have ht : (FloatOps.sitofp (F := Ideal) .f32 2047#32 : EReal) = ((2047 : ℝ) : EReal) := by rw [Cert.Proof.Plain.of_word, show (2047#32).toInt = 2047 by decide]; norm_num
    have hk : (FloatOps.sitofp (F := Ideal) .f32 w : EReal) = ((k : ℝ) : EReal) := by rw [Cert.Proof.Plain.of_word, hw]; norm_num
    rw [hz, ht, hk, Cert.Proof.Plain.bits_four, Ideal.div_coe (by norm_num), zero_mul, zero_add, ← EReal.coe_mul, ← EReal.coe_mul]
    exact Cert.Proof.Plain.to_word _ n (by rw [one_div, ← div_eq_mul_inv]; exact h0) (by rw [one_div, ← div_eq_mul_inv]; exact h1) hn
  have last : Ideal.fptosi 32 (FloatOps.sitofp (F := Ideal) .f32 2047#32) = 2047#32 := by
    rw [Cert.Proof.Plain.of_word, show (2047#32).toInt = 2047 by decide]
    exact Cert.Proof.Plain.to_word _ 2047 (by norm_num) (by norm_num) (by norm_num)
  have conv : ∀ x : EReal, FloatOps.fptosi (F := Ideal) (φ := .f32) 32 x = Ideal.fptosi 32 x := fun _ => rfl
  fin_cases j <;> unfold wrap5 linsOf <;> pointwise <;> rw [conv]
  · rw [num 0#32 0 0 (by decide) (by norm_num) (by norm_num) (by norm_num)]; decide
  · rw [num 1#32 1 511 (by decide) (by norm_num) (by norm_num) (by norm_num)]; decide
  · rw [num 2#32 2 1023 (by decide) (by norm_num) (by norm_num) (by norm_num)]; decide
  · rw [num 3#32 3 1535 (by decide) (by norm_num) (by norm_num) (by norm_num)]; decide
  · rw [last]; decide

/-- The starting centers are the rows at the five positions. -/
theorem cen0_ix (x : FVec Ideal S2048x128 .f32) (j : Fin 5) (d : Fin 128) : cen0 x (ix2 j d) = x (ix2 (pos j) d) := by
  unfold cen0
  rw [gather_rows]
  congr 2
  apply Fin.ext
  show min (_ : ℤ).toNat 2047 = _
  rw [starts]
  have := (pos j).isLt
  simp
  omega

/-- The squared distances. -/
theorem dist2_ix (x : FVec Ideal S2048x128 .f32) (c : FVec Ideal S5x128 .f32) (i : Fin 2048) (j : Fin 5) :
    dist2 x c (ix2 i j) = far (fun i d => x (ix2 i d)) (fun j d => c (ix2 j d)) i j := by
  unfold dist2 far
  pointwise

/-- The labels. -/
theorem amin_near (x : FVec Ideal S2048x128 .f32) (c : FVec Ideal S5x128 .f32) (i : Fin 2048) :
    amin (dist2 x c) (ix1 i) = wrd (near (fun i d => x (ix2 i d)) (fun j d => c (ix2 j d)) i) := by
  rw [amin_ix]
  unfold near
  simp only [dist2_ix]

/-- A row of zeros and a one. -/
theorem hot_ix (l : IVec S2048 32) (lab : Fin 2048 → Fin 5) (h : ∀ i, l (ix1 i) = wrd (lab i)) (i : Fin 2048) (j : Fin 5) :
    hot (F := Ideal) l (ix2 i j) = one lab i j := by
  unfold hot one
  pointwise
  rw [h]
  show ((((IntOp.cmpi .eq (wrd (lab i)) (wrd j)).toNat : ℝ)) : EReal) = _
  have key : ∀ a c : Fin 5, (IntOp.cmpi .eq (wrd a) (wrd c)).toNat = if a = c then 1 else 0 := by decide
  rw [key]
  split_ifs <;> simp

/-- The labels' means. -/
theorem mean_ix (x : FVec Ideal S2048x128 .f32) (l : IVec S2048 32) (lab : Fin 2048 → Fin 5) (h : ∀ i, l (ix1 i) = wrd (lab i)) (j : Fin 5) (d : Fin 128) :
    mean x (hot l) (ix2 j d) = ctr (fun i d => x (ix2 i d)) lab j d := by
  unfold mean cnt ctr num
  pointwise [hot_ix l lab h]

/-- The centers after `k` steps. -/
theorem cens_ix (x : FVec Ideal S2048x128 .f32) : ∀ (k : ℕ) (j : Fin 5) (d : Fin 128), cens x k (ix2 j d) = ctrs (fun i d => x (ix2 i d)) k j d
  | 0, j, d => cen0_ix x j d
  | k + 1, j, d => by
    show mean x (hot (amin (dist2 x (cens x k)))) (ix2 j d) = _
    rw [mean_ix x _ _ (amin_near x (cens x k))]
    simp only [cens_ix x k]
    rfl

/-- The labels of a step. -/
theorem labs_ix (x : FVec Ideal S2048x128 .f32) (k : ℕ) (i : Fin 2048) : labs x k (ix1 i) = wrd (lbls (fun i d => x (ix2 i d)) k i) := by
  unfold labs lbls
  rw [amin_near]
  simp only [cens_ix x k]

/-- Every batch's label means. -/
theorem meanB_ix (x : FVec Ideal S4x2048x128 .f32) (l : IVec S2048 32) (lab : Fin 2048 → Fin 5) (h : ∀ i, l (ix1 i) = wrd (lab i)) (b : Fin 4) (j : Fin 5) (d : Fin 128) :
    meanB x (hot l) (ix3 b j d) = ctr (fun i d => x (ix3 b i d)) lab j d := by
  unfold meanB cnt ctr num
  pointwise
  simp only [hot_ix l lab h, mul_comm]

/-- The sums of squares. -/
theorem sqs_ix (x : FVec Ideal S4x2048x128 .f32) (c : FVec Ideal S4x5x128 .f32) (l : IVec S2048 32) (lab : Fin 2048 → Fin 5) (h : ∀ i, l (ix1 i) = wrd (lab i)) (b : Fin 4) (i : Fin 2048) :
    sqs x c l (ix2 b i) = ∑ d, (x (ix3 b i d) - c (ix3 b (lab i) d)) * (x (ix3 b i d) - c (ix3 b (lab i) d)) := by
  have hw : wrapL l (ix2 i 0) = wrd (lab i) := by
    have key : ∀ j : Fin 5, Scalar.select (IntOp.cmpi .slt (wrd j) 0#32) (IntOp.addi (wrd j) 5#32) (wrd j) = wrd j := by decide
    unfold wrapL
    pointwise
    rw [h]
    exact key _
  have hg : ∀ d, Host.gather gather_S4x5x128_S2048x1_S4x2048x128_02_1_n_n_1_1_41128 c (wrapL l) (ix3 b i d) = c (ix3 b (lab i) d) := by
    intro d
    rw [gather_cens]
    congr 2
    apply Fin.ext
    show min (_ : BitVec 32).toInt.toNat 4 = _
    rw [hw]
    have : ∀ j : Fin 5, min (wrd j).toInt.toNat 4 = j.val := by decide
    exact this _
  unfold sqs
  pointwise [hg]

/-- A batch normalised. -/
theorem norm_ix (x : FVec Ideal S4x2048 .f32) (b : Fin 4) (i : Fin 2048) : norm x (ix2 b i) = span (fun i => x (ix2 b i)) i := by
  have h1 : minB x (ix1 b) = lo fun i => x (ix2 b i) := by unfold minB lo; pointwise
  have h2 : maxB x (ix1 b) = hi fun i => x (ix2 b i) := by unfold maxB hi; pointwise
  unfold norm span
  pointwise
  rw [h1, h2]

/-- The scores. -/
theorem sco_ix (x : FVec Ideal S4x2048x128 .f32) (l : IVec S2048 32) (lab : Fin 2048 → Fin 5) (h : ∀ i, l (ix1 i) = wrd (lab i)) (b : Fin 4) (i : Fin 2048) :
    sco x l (ix2 b i) = score (fun i d => x (ix3 b i d)) lab i := by
  unfold sco
  pointwise
  rw [norm_ix, h]
  have hd : (fun i => Host.divf (sqs x (meanB x (hot l)) l) (splat S4x2048 bcast_S_S4x2048 0x43000000#32) (ix2 b i)) = dst (fun i d => x (ix3 b i d)) lab := by
    funext i
    unfold dst
    pointwise
    rw [sqs_ix x _ l lab h]
    simp only [meanB_ix x l lab h]
  have hw : ∀ j : Fin 5, (wrd j).toInt = (j.val : ℤ) := by decide
  rw [hd, Cert.Proof.Plain.of_word, hw]
  rfl

/-- The scaled scores. -/
theorem sca_ix (s : FVec Ideal S4x2048 .f32) (b : Fin 4) (i : Fin 2048) : sca s (ix2 b i) = scaled (fun i => s (ix2 b i)) i := by
  unfold sca scaled
  pointwise
  rw [norm_ix]

end Cert.Proof.Ref

end
-- ==== Proof.Hidden.lean ====
/-
  The hidden layer: the kernel's rows are the reference's.
-/
module

public import proofs.«01_k».proof.Proof.KerIdeal
public import proofs.«01_k».proof.Proof.RefIdeal

@[expose] public section

noncomputable section

namespace Cert.Proof

open Idealize.ShloMosaic

/-- Row 2048·b + i of the kernel's hidden layer is row i of batch b of the reference's. -/
theorem hidden_eq (a0 : FVec Ideal Cert.ReferenceIdeal.S4x2048x64 .f32) (a1 : FVec Ideal Cert.ReferenceIdeal.S64x32 .f32) (a2 : FVec Ideal Cert.ReferenceIdeal.S32 .f32)
    (a3 : FVec Ideal Cert.ReferenceIdeal.S32x128 .f32) (a4 : FVec Ideal Cert.ReferenceIdeal.S128 .f32)
    (v4 : FVec Ideal Cert.KernelIdeal.S1x32 .f32) (v12 : FVec Ideal Cert.KernelIdeal.S1x128 .f32)
    (h4 : ∀ k, v4 (ix2 0 k) = a2 (ix1 k)) (h12 : ∀ k, v12 (ix2 0 k) = a4 (ix1 k)) (b : ℕ) (hb : b < 4) (i : Fin 2048) (d : Fin 128) :
    KernelIdeal.hbK (Cert.KernelIdeal.Gen.k0_pay5 (F := Ideal) a0 a1 v4 a3 v12) b hb (ix2 i d) = Ref.hid a0 a1 a2 a3 a4 (ix3 ⟨b, hb⟩ i d) := by
  unfold KernelIdeal.hbK Cert.KernelIdeal.Gen.k0_pay5 Ref.hid Ref.lin1 Ref.lin2
  pointwise
  have e : (2048 * b + i.val) / 2048 = b := by omega
  simp only [e, h4, h12]

end Cert.Proof

end
-- ==== Proof.Blocks.lean ====
/-
  The kernel's blocks of ranks over the extended reals, read at one row: sums over the columns from the block on, less the
  sums over the earlier blocks' rows.
-/
module

public import proofs.«01_k».proof.Proof.KerIdeal
public import Idealize.ShloMosaic.Lib.MatmulPlain

@[expose] public section

noncomputable section

namespace Cert.Proof.KernelIdeal

open Cert.KernelIdeal Cert.KernelIdeal.Gen
open Idealize.ShloMosaic
open Finset (range)

/-- A column's entry at a number, 0 past the end. -/
def col (x : FVec Ideal (Mx 2048 1) .f32) (n : ℕ) : EReal := if h : n < 2048 then x (ix2 ⟨n, h⟩ 0) else 0
/-- The kernel's sigmoid of a difference. -/
def sg (a b : EReal) : EReal :=
  Ideal.tanh (a * Ideal.ofBits .f32 0x43FA0000#32 - b * Ideal.ofBits .f32 0x43FA0000#32) * Ideal.ofBits .f32 0x3F000000#32 + Ideal.ofBits .f32 0x3F000000#32
/-- Whether the second of two numbers is smaller, as a number. -/
def lt (a b : EReal) : EReal := if b < a then 1 else 0

/-- A block's entry is the column's. -/
theorem blk_ix (p : ℕ) (h : p < 8) (x : FVec Ideal (Mx 2048 1) .f32) (i : Fin 256) : blk p h x (ix2 i 0) = col x (256 * p + i.val) := by
  unfold blk col
  rw [dif_pos (by omega)]
  pointwise
/-- A row's column from a block on is the column's entry. -/
theorem tail_ix (x : FVec Ideal (Mx 2048 1) .f32) (p : ℕ) (h : p < 8) (j : Fin (Wd p)) : tail (rowOf x) p h (ix2 0 j) = col x (256 * p + j.val) := by
  have hj := j.isLt
  unfold col
  rw [dif_pos (by unfold Wd at hj; omega)]
  cases p with
  | zero =>
    unfold tail rowOf
    pointwise
  | succ p =>
    unfold tail rowOf
    pointwise
/-- The same of the scaled row. -/
theorem tailT_ix (x : FVec Ideal (Mx 2048 1) .f32) (p : ℕ) (h : p < 8) (j : Fin (Wd p)) :
    tail (rowT x) p h (ix2 0 j) = col x (256 * p + j.val) * Ideal.ofBits .f32 0x43FA0000#32 := by
  rw [← tail_ix x p h j]
  cases p <;> rfl

/-- A row broadcast down the columns, read at one index. -/
theorem down_ix {m n : ℕ} (r : FVec Ideal (Mx 1 n) .f32) (i : Fin m) (j : Fin n) :
    broadcastTo (Mx m n) r (broadcasts_row m n) (ix2 i j) = r (ix2 0 j) := by
  have e : ∀ k : Fin n, (n = 1 → k.val = 0) → (n ≠ 1 → k = j) → r (ix2 0 k) = r (ix2 0 j) := by
    intro k h0 h1
    have : k = j := by
      by_cases hn : n = 1
      · have := j.isLt; have := h0 hn; exact Fin.ext (by omega)
      · exact h1 hn
    rw [this]
  pointwise
  exact e _ (fun h => congrArg Fin.val (dif_pos h)) (fun h => dif_neg h)
/-- A column broadcast along the rows, read at one index. -/
theorem along_ix {m n : ℕ} (hm : m ≠ 1) (c : FVec Ideal (Mx m 1) .f32) (i : Fin m) (j : Fin n) :
    broadcastTo (Mx m n) c (broadcasts_col m n) (ix2 i j) = c (ix2 i 0) := by
  have e : ∀ k : Fin m, k = i → c (ix2 k 0) = c (ix2 i 0) := by rintro k rfl; rfl
  pointwise
  first | done | exact e _ (dif_neg hm)

/-- A block's sigmoids. -/
theorem sigB_ix (x : FVec Ideal (Mx 2048 1) .f32) (p : ℕ) (h : p < 8) (i : Fin 256) (j : Fin (Wd p)) :
    sigB x p h (ix2 i j) = sg (col x (256 * p + i.val)) (col x (256 * p + j.val)) := by
  show Ideal.tanh (broadcastTo (Mx 256 (Wd p)) (mulf (blk p h x) (cst _ 0x43FA0000#32)) (broadcasts_col _ _) (ix2 i j)
      - broadcastTo (Mx 256 (Wd p)) (tail (rowT x) p h) (broadcasts_row _ _) (ix2 i j)) * Ideal.ofBits .f32 0x3F000000#32 + Ideal.ofBits .f32 0x3F000000#32 = _
  rw [down_ix, along_ix (by omega), tailT_ix]
  show Ideal.tanh (blk p h x (ix2 i 0) * _ - _) * _ + _ = _
  rw [blk_ix]
  rfl
/-- A block's indicators. -/
theorem ltB_ix (x : FVec Ideal (Mx 2048 1) .f32) (p : ℕ) (h : p < 8) (i : Fin 256) (j : Fin (Wd p)) :
    ltB x p h (ix2 i j) = lt (col x (256 * p + i.val)) (col x (256 * p + j.val)) := by
  show (FloatOps.sitofp (F := Ideal) .f32 (BitVec.setWidth 32 (BitVec.ofBool (decide (broadcastTo (Mx 256 (Wd p)) (tail (rowOf x) p h) (broadcasts_row _ _) (ix2 i j)
      < broadcastTo (Mx 256 (Wd p)) (blk p h x) (broadcasts_col _ _) (ix2 i j))))) : EReal) = _
  rw [down_ix, along_ix (by omega), tail_ix, blk_ix]
  unfold lt
  by_cases hl : col x (256 * p + j.val) < col x (256 * p + i.val)
  · simp only [hl, decide_true, if_true]
    rw [Plain.of_word, show (BitVec.setWidth 32 (BitVec.ofBool true)).toInt = 1 by decide]
    norm_num
  · simp only [hl, decide_false, if_false]
    rw [Plain.of_word, show (BitVec.setWidth 32 (BitVec.ofBool false)).toInt = 0 by decide]
    norm_num

/-- The row sums are sums. -/
theorem rowSum_ix (n : ℕ) (x : FVec Ideal (Mx 256 n) .f32) (i : Fin 256) : rowSum n x (ix2 i 0) = ∑ j : Fin n, x (ix2 i j) := by
  unfold rowSum
  refine (Ideal.matmul_plain_apply _ _ _ _ _ _).trans ?_
  show Ideal.ofBits .f32 0x00000000#32 + ∑ k, x (ix2 i k) * Ideal.ofBits .f32 0x3F800000#32 = _
  have z : Ideal.ofBits .f32 0x00000000#32 = 0 := by simp [Ideal.ofBits, Ideal.ieee]
  have o : Ideal.ofBits .f32 0x3F800000#32 = 1 := by
    have : Ideal.ofBits .f32 0x3F800000#32 = ((1 : ℝ) : EReal) := by
      simp [Ideal.ofBits, Ideal.ieee, -EReal.coe_mul]; norm_num
    rw [this]; rfl
  simp only [z, o, zero_add, mul_one]
/-- The column sums are sums. -/
theorem colSum_ix (n : ℕ) (x : FVec Ideal (Mx 256 n) .f32) (j : Fin n) : colSum n x (ix2 0 j) = ∑ r : Fin 256, x (ix2 r j) := by
  unfold colSum
  pointwise

section
variable (x : (q : ℕ) → q < 8 → FVec Ideal (Mx 1 (Wd q)) .f32) (X : ℕ → ℕ → EReal)
  (hx : ∀ q hq (j : Fin (Wd q)), x q hq (ix2 0 j) = X q (256 * q + j.val))
include hx

/-- A block's part of an earlier block's column sums. -/
theorem cut_ix (p : ℕ) (h : p < 8) (q : ℕ) (hq : q < p) (j : Fin 256) :
    extractStridedSlice (Mx 1 256) ![0, 256 * (p - q)] (x q (by omega)) (slices_cols h (by omega)) (ix2 0 j) = X q (256 * p + j.val) := by
  have hj : 256 * (p - q) + j.val < Wd q := by unfold Wd; omega
  have e : extractStridedSlice (Mx 1 256) ![0, 256 * (p - q)] (x q (by omega)) (slices_cols h (by omega)) (ix2 0 j)
      = x q (by omega) (ix2 0 ⟨256 * (p - q) + j.val, hj⟩) := by
    pointwise
  rw [e, hx]
  congr 1
  show 256 * q + (256 * (p - q) + j.val) = _
  omega
/-- The earlier blocks' column sums added up. -/
theorem colAcc_ix (p : ℕ) (h : p < 8) (q : ℕ) (hq : q < p) (j : Fin 256) :
    colAcc x p h q hq (ix2 0 j) = ∑ r ∈ range (q + 1), X r (256 * p + j.val) := by
  induction q with
  | zero =>
    rw [Finset.sum_range_one]
    exact cut_ix x X hx p h 0 hq j
  | succ q ih =>
    rw [Finset.sum_range_succ, ← ih (by omega), ← cut_ix x X hx p h (q + 1) hq j]
    rfl
/-- What is left once the earlier blocks' column sums are taken off. -/
theorem less_ix (y : FVec Ideal (Mx 256 1) .f32) (p : ℕ) (h : p < 8) (i : Fin 256) :
    less x y p h (ix2 i 0) = y (ix2 i 0) - ∑ q ∈ range p, X q (256 * p + i.val) := by
  cases p with
  | zero => rw [Finset.sum_range_zero, sub_zero]; rfl
  | succ p =>
    rw [← colAcc_ix x X hx (p + 1) h p (by omega) i]
    unfold less
    pointwise
end

/-- A block's soft ranks. -/
theorem softP_ix (x : FVec Ideal (Mx 2048 1) .f32) (p : ℕ) (h : p < 8) (i : Fin 256) :
    softP x p h (ix3 0 i 0) = (∑ j ∈ range (Wd p), sg (col x (256 * p + i.val)) (col x (256 * p + j)) + Ideal.ofBits .f32 (halfBits p))
      - ∑ q ∈ range p, ∑ r ∈ range 256, sg (col x (256 * q + r)) (col x (256 * p + i.val)) := by
  unfold softP
  pointwise
  rw [less_ix _ (fun q n => ∑ r ∈ range 256, sg (col x (256 * q + r)) (col x n))]
  · rw [Finset.sum_range (fun j => sg _ (col x (256 * p + j)))]
    show rowSum _ (sigB x p h) (ix2 i 0) + _ - _ = _
    rw [rowSum_ix]
    simp only [sigB_ix]
    rfl
  · intro q hq j
    rw [colSum_ix, Finset.sum_range]
    simp only [sigB_ix]

/-- Whether one row comes before another, as a number: its score is smaller, or the same and the row earlier. -/
def bef (x : FVec Ideal (Mx 2048 1) .f32) (a b : ℕ) : EReal := if col x b < col x a ∨ col x b = col x a ∧ b < a then 1 else 0

/-- The word of a comparison of two small numbers is 1 exactly when it holds. -/
theorem tri_word (i j : Fin 256) : BitVec.setWidth 32 (IntOp.cmpi .slt (BitVec.ofNat 32 j.val) (BitVec.ofNat 32 i.val)) = if j.val < i.val then 1#32 else 0#32 := by
  have e : ∀ n : ℕ, n < 256 → (BitVec.ofNat 32 n).toInt = n := fun n h => by
    rw [BitVec.toInt_eq_toNat_of_lt] <;> simp <;> omega
  show BitVec.setWidth 32 (BitVec.ofBool ((BitVec.ofNat 32 j.val).slt (BitVec.ofNat 32 i.val))) = _
  rw [BitVec.slt, e _ i.isLt, e _ j.isLt]
  by_cases h : j.val < i.val <;> simp [h]

/-- A block against itself. -/
theorem diag_ix (x : FVec Ideal (Mx 2048 1) .f32) (p : ℕ) (h : p < 8) (i : Fin 256) :
    diag x p h (ix2 i 0) = ∑ j ∈ range 256, bef x (256 * p + i.val) (256 * p + j) := by
  have hh : ∀ j : Fin 256, head x p h (ix2 0 j) = col x (256 * p + j.val) := by
    intro j
    have hj : j.val < Wd p := by unfold Wd; omega
    rw [← tail_ix x p h ⟨j.val, hj⟩]
    unfold head
    split
    · rfl
    · pointwise
  have hl : ∀ i j : Fin 256, headLt x p h (ix2 i j) = lt (col x (256 * p + i.val)) (col x (256 * p + j.val)) := by
    intro i j
    have hj : j.val < Wd p := by unfold Wd; omega
    rw [← ltB_ix x p h i ⟨j.val, hj⟩]
    unfold headLt
    split
    · rfl
    · pointwise
  unfold diag
  rw [rowSum_ix, Finset.sum_range]
  refine Finset.sum_congr rfl fun j _ => ?_
  have e : select (cmpf .oeq (broadcastTo (Mx 256 256) (head x p h) (broadcasts_row _ _))
    (broadcastTo (Mx 256 256) (blk p h x) (broadcasts_col _ _))) (k0_pay18 (F := Ideal)) (headLt x p h) (ix2 i j)
      = Scalar.select (BitVec.ofBool (decide (head x p h (ix2 0 j) = blk p h x (ix2 i 0)))) (k0_pay18 (F := Ideal) (ix2 i j)) (headLt x p h (ix2 i j)) := by
    pointwise
  have t : k0_pay18 (F := Ideal) (ix2 i j) = if j.val < i.val then (1 : EReal) else 0 := by
    unfold k0_pay18
    pointwise
    rw [tri_word, Plain.of_word]
    split_ifs
    · rw [show (1#32).toInt = 1 by decide]; norm_num
    · rw [show (0#32).toInt = 0 by decide]; norm_num
  rw [e, hh, hl, blk_ix, t]
  unfold bef lt
  by_cases he : col x (256 * p + j.val) = col x (256 * p + i.val)
  · simp [he, Scalar.select]
  · simp [he, Scalar.select]

/-- The rows from a block on that come before one of the block's. -/
theorem rowCnt_ix (x : FVec Ideal (Mx 2048 1) .f32) (p : ℕ) (h : p < 8) (i : Fin 256) :
    rowCnt x p h (ix2 i 0) = ∑ j ∈ range (Wd p), bef x (256 * p + i.val) (256 * p + j) := by
  unfold rowCnt
  split
  · exact diag_ix x 7 (by omega) i
  · rename_i hn
    have h7 : p < 7 := by
      rcases Nat.lt_or_ge p 7 with h' | h'
      · exact h'
      · obtain rfl : p = 7 := by omega
        exact absurd HEq.rfl (hn h rfl)
    rw [dif_pos h7]
    have e : Wd p = 256 + Wd (p + 1) := by unfold Wd; omega
    have e' : ∑ j ∈ range (Wd p), bef x (256 * p + i.val) (256 * p + j)
        = ∑ j ∈ range 256, bef x (256 * p + i.val) (256 * p + j) + ∑ j ∈ range (Wd (p + 1)), bef x (256 * p + i.val) (256 * p + (256 + j)) := by
      rw [e]; exact Finset.sum_range_add _ _ _
    rw [e', ← diag_ix x p h i]
    show diag x p h (ix2 i 0) + rowSum _ _ (ix2 i 0) = _
    congr 1
    rw [rowSum_ix, Finset.sum_range (fun j => bef x (256 * p + i.val) (256 * p + (256 + j)))]
    refine Finset.sum_congr rfl fun j _ => ?_
    have hj : 256 + j.val < Wd p := by have := j.isLt; omega
    have s : extractStridedSlice (Mx 256 (Wd (p + 1))) ![0, 256] (ltB x p h) (slices_rest h7) (ix2 i j) = ltB x p h (ix2 i ⟨256 + j.val, hj⟩) := by
      pointwise
    rw [s, ltB_ix]
    unfold lt bef
    have : ¬ 256 * p + (256 + j.val) < 256 * p + i.val := by omega
    simp [this]

/-- A block's hard ranks before the division. -/
theorem hardP_ix (x : FVec Ideal (Mx 2048 1) .f32) (p : ℕ) (h : p < 8) (i : Fin 256) :
    hardP x p h (ix2 i 0) = (∑ j ∈ range (Wd p), bef x (256 * p + i.val) (256 * p + j) + Ideal.ofBits .f32 (baseBits p))
      - ∑ q ∈ range p, ∑ r ∈ range 256, lt (col x (256 * q + r)) (col x (256 * p + i.val)) := by
  unfold hardP
  rw [less_ix _ (fun q n => ∑ r ∈ range 256, lt (col x (256 * q + r)) (col x n))]
  · pointwise
    rw [rowCnt_ix]
  · intro q hq j
    rw [colSum_ix, Finset.sum_range]
    simp only [ltB_ix]

end Cert.Proof.KernelIdeal

end
-- ==== Proof.Sort.lean ====
/-
  The hard ranks from 0: the order of a batch's order is, at each row, how many rows come before it.
-/
module

public import proofs.«01_k».proof.Proof.RefIdeal
public import Idealize.ShloMosaic.Lib.SortFacts
public import Idealize.ShloMosaic.Lib.SortPrefix

@[expose] public section

noncomputable section

namespace Cert.Proof

open Idealize.ShloMosaic

/-- Two relations that agree on later-before-earlier sort an increasing list alike. -/
theorem sort_same {n : ℕ} (R B : Fin n → Fin n → Bool) (h : ∀ a b, a < b → R b a = B b a) :
    ∀ l : List (Fin n), l.Pairwise (· < ·) → stableSort R l = stableSort B l
  | [], _ => rfl
  | a :: l, hl => by
    rw [List.pairwise_cons] at hl
    have ih := sort_same R B h l hl.2
    have ins : ∀ l' : List (Fin n), (∀ b ∈ l', a < b) → insertBefore R a l' = insertBefore B a l' := by
      intro l'
      induction l' with
      | nil => intro _; rfl
      | cons b l' ih' =>
        intro hb
        unfold insertBefore
        rw [h a b (hb b (List.mem_cons_self)), ih' fun c hc => hb c (List.mem_cons_of_mem _ hc)]
    unfold stableSort
    rw [ih]
    exact ins _ fun b hb => hl.1 b ((perm_stableSort B l).mem_iff.mp hb)

/-- How many positions come before position `i`, by key and then position. -/
def place {n : ℕ} {κ : Type} [LinearOrder κ] (key : Fin n → κ) (i : Fin n) : ℕ :=
  (Finset.univ.filter fun j => key j < key i ∨ key j = key i ∧ j < i).card

/-- The position that a stable sort by a key puts at `k` has `k` positions before it. -/
theorem place_sorted {n : ℕ} {κ : Type} [LinearOrder κ] (key : Fin n → κ) (R : Fin n → Fin n → Bool)
    (hR : ∀ a b, R a b = decide (key a < key b)) (k : Fin n) : place key (sortedFrom R k) = k.val := by
  have hB := StrictTotalBefore.of_key_then_position (fun a b : κ => decide (a < b)) key (fun a => by simp)
    (fun a b c h h' => by simp only [decide_eq_true_eq] at *; exact h.trans h')
    (fun a b => by simp only [decide_eq_true_eq]; exact lt_trichotomy a b)
  set B : Fin n → Fin n → Bool := fun k k' => decide (key k < key k') || (decide (key k = key k') && decide (k < k')) with hBd
  have hs : sortedFrom R = sortedFrom B := by
    have : sortPositions n R = sortPositions n B := sort_same R B (fun a b hab => by
      rw [hR, hBd]; simp [not_lt.2 hab.le]) _ (List.pairwise_lt_finRange n)
    funext k
    have g : ∀ (l l' : List (Fin n)) (h : l.length = n) (h' : l'.length = n), l = l' → l.get (k.cast h.symm) = l'.get (k.cast h'.symm) := by
      rintro l _ h h' rfl; rfl
    exact g _ _ (length_sortPositions n R) (length_sortPositions n B) this
  rw [hs]
  have mono : ∀ i j : Fin n, i < j → B (sortedFrom B i) (sortedFrom B j) = true := fun i j hij => by
    have h1 := sortedFrom_noInversion B B (fun a b h => hB.asymm a b h) (fun _ _ h => h) hB.negTrans i j hij
    rcases hB.total _ _ ((sortedFrom_injective B).ne hij.ne) with h | h
    · exact h
    · rw [h] at h1; exact absurd h1 (by decide)
  have iff : ∀ i j : Fin n, B (sortedFrom B i) (sortedFrom B j) = true ↔ i < j := fun i j => by
    refine ⟨fun h => ?_, mono i j⟩
    by_contra hn
    rcases lt_or_eq_of_le (not_lt.1 hn) with h' | h'
    · rw [hB.asymm _ _ (mono j i h')] at h; exact absurd h (by decide)
    · rw [h', hB.irrefl] at h; exact absurd h (by decide)
  have e : (Finset.univ.filter fun j => key j < key (sortedFrom B k) ∨ key j = key (sortedFrom B k) ∧ j < sortedFrom B k)
      = (Finset.univ.filter fun j => j < k).image (sortedFrom B) := by
    ext j
    obtain ⟨i, rfl⟩ := sortedFrom_surjective B j
    simp only [Finset.mem_filter, Finset.mem_univ, true_and, Finset.mem_image]
    have unB : ∀ a b, B a b = true ↔ key a < key b ∨ key a = key b ∧ a < b := fun a b => by
      simp only [hBd, Bool.or_eq_true, Bool.and_eq_true, decide_eq_true_eq]
    rw [← unB, iff]
    exact ⟨fun h => ⟨i, h, rfl⟩, fun ⟨i', h, e⟩ => sortedFrom_injective B e ▸ h⟩
  unfold place
  rw [e, Finset.card_image_of_injective _ (sortedFrom_injective B)]
  have : (Finset.univ.filter fun j : Fin n => j < k) = Finset.Iio k := by ext; simp
  rw [this, Fin.card_Iio]

/-- Sorting the sorted order's positions gives each position's place. -/
theorem place_twice {n : ℕ} {κ : Type} [LinearOrder κ] (key : Fin n → κ) (R R' : Fin n → Fin n → Bool)
    (hR : ∀ a b, R a b = decide (key a < key b)) (hR' : ∀ a b, R' a b = decide (sortedFrom R a < sortedFrom R b)) (i : Fin n) :
    (sortedFrom R' i).val = place key i := by
  have h1 := place_sorted (sortedFrom R) R' hR' i
  have h2 : ∀ j : Fin n, place (sortedFrom R) j = (sortedFrom R j).val := fun j => by
    unfold place
    have e : (Finset.univ.filter fun a => sortedFrom R a < sortedFrom R j ∨ sortedFrom R a = sortedFrom R j ∧ a < j)
        = Finset.univ.filter fun a => sortedFrom R a < sortedFrom R j := by
      ext a
      simp only [Finset.mem_filter, Finset.mem_univ, true_and]
      exact ⟨fun h => h.elim id fun h => absurd (sortedFrom_injective R h.1) h.2.ne, .inl⟩
    rw [e]
    have : (Finset.univ.filter fun a => sortedFrom R a < sortedFrom R j).image (sortedFrom R) = Finset.Iio (sortedFrom R j) := by
      ext a
      obtain ⟨b, rfl⟩ := sortedFrom_surjective R a
      simp only [Finset.mem_image, Finset.mem_filter, Finset.mem_univ, true_and, Finset.mem_Iio]
      exact ⟨fun ⟨c, h, e⟩ => e ▸ h, fun h => ⟨b, h, rfl⟩⟩
    rw [← Finset.card_image_of_injective _ (sortedFrom_injective R), this, Fin.card_Iio]
  rw [h2] at h1
  have h3 : sortedFrom R (sortedFrom R' i) = i := Fin.ext h1
  have := place_sorted key R hR (sortedFrom R' i)
  rw [h3] at this
  exact this.symm

/-- The reference's order of scores is plain less-than. -/
theorem before_score (a b : EReal × BitVec 32) :
    Cert.ReferenceIdeal.comparator_f32_i32_d1 (F := Ideal) a b = BitVec.ofBool (decide (a.1 < b.1)) := by
  obtain ⟨a1, a2⟩ := a
  obtain ⟨b1, b2⟩ := b
  have z : Ideal.ofBits .f32 0x00000000#32 = 0 := by simp [Ideal.ofBits, Ideal.ieee]
  have k : ∀ x : EReal, Scalar.select (BitVec.ofBool (decide (x ≠ x))) (Ideal.ofBits .f32 0x7FC00000#32)
      (Scalar.select (BitVec.ofBool (decide (x = Ideal.ofBits .f32 0x00000000#32))) (Ideal.ofBits .f32 0x00000000#32) x) = x := by
    intro x
    rw [z]
    by_cases h : x = 0 <;> simp [Scalar.select, h]
  show BitVec.ofBool (decide (Scalar.select (BitVec.ofBool (decide (a1 ≠ a1))) (Ideal.ofBits .f32 0x7FC00000#32)
      (Scalar.select (BitVec.ofBool (decide (a1 = Ideal.ofBits .f32 0x00000000#32))) (Ideal.ofBits .f32 0x00000000#32) a1)
    < Scalar.select (BitVec.ofBool (decide (b1 ≠ b1))) (Ideal.ofBits .f32 0x7FC00000#32)
      (Scalar.select (BitVec.ofBool (decide (b1 = Ideal.ofBits .f32 0x00000000#32))) (Ideal.ofBits .f32 0x00000000#32) b1))) = _
  rw [k, k]

/-- The positions' words compare as the positions. -/
theorem before_pos (a b : Fin 2048) (x y : BitVec 32) :
    (Cert.ReferenceIdeal.comparator_i32_i32_d1 (BitVec.ofNat 32 a.val, x) (BitVec.ofNat 32 b.val, y) == 1#1) = decide (a < b) := by
  show (BitVec.ofBool ((BitVec.ofNat 32 a.val).slt (BitVec.ofNat 32 b.val)) == 1#1) = _
  have ha := a.isLt
  have hb := b.isLt
  have e : ∀ n : ℕ, n < 2048 → (BitVec.ofNat 32 n).toInt = n := fun n h => by
    rw [BitVec.toInt_eq_toNat_of_lt] <;> simp <;> omega
  rw [BitVec.slt, e _ ha, e _ hb]
  by_cases h : a < b
  · have : (a.val : ℤ) < b.val := by exact_mod_cast h
    simp [h, this]
  · have : ¬ (a.val : ℤ) < b.val := by exact_mod_cast h
    simp [h, this]

/-- The second operand of a sort of rows, read at one index. -/
theorem carried {m n : ℕ} {α β : Type} (cmp : α × β → α × β → BitVec 1) (x : Shape.Idx ⟨2, ![m, n]⟩ → α) (y : Shape.Idx ⟨2, ![m, n]⟩ → β) (b : Fin m) (i : Fin n) :
    (Host.sort2 ⟨2, ![m, n]⟩ 1 cmp x y).2 (ix2 b i)
      = y (ix2 b (sortedFrom (n := n) (fun k k' => cmp (x (ix2 b k), y (ix2 b k)) (x (ix2 b k'), y (ix2 b k')) == 1#1) i)) := by
  have al : ∀ k : Fin n, Shape.Idx.along (s := ⟨2, ![m, n]⟩) (ix2 b i) 1 k = ix2 b k := by
    intro k
    funext a
    match a with
    | ⟨0, _⟩ => rfl
    | ⟨1, _⟩ => rfl
  unfold Host.sort2
  rw [dif_pos (show 1 < 2 by decide)]
  show y (Shape.Idx.along (s := ⟨2, ![m, n]⟩) (ix2 b i) 1 (sortedFrom (n := n) (fun k k' =>
    cmp (x (Shape.Idx.along (s := ⟨2, ![m, n]⟩) (ix2 b i) 1 k), y (Shape.Idx.along (s := ⟨2, ![m, n]⟩) (ix2 b i) 1 k))
      (x (Shape.Idx.along (s := ⟨2, ![m, n]⟩) (ix2 b i) 1 k'), y (Shape.Idx.along (s := ⟨2, ![m, n]⟩) (ix2 b i) 1 k')) == 1#1) i)) = _
  simp only [al]

/-- The column numbers of rows, read at one index. -/
theorem cols_ix {m n : ℕ} (b : Fin m) (i : Fin n) : iotaInDim ⟨2, ![m, n]⟩ 32 1 (ix2 b i) = BitVec.ofNat 32 i.val := rfl

/-- The reference's ranks from 0 are the rows' places. -/
theorem ord_ix (s : FVec Ideal Cert.ReferenceIdeal.S4x2048 .f32) (b : Fin 4) (i : Fin 2048) :
    Ref.ord (F := Ideal) s (ix2 b i) = BitVec.ofNat 32 (place (fun i => s (ix2 b i)) i) := by
  unfold Ref.ord
  refine (carried _ _ _ b i).trans ((cols_ix b _).trans (congrArg (BitVec.ofNat 32) ?_))
  refine place_twice _ (fun k k' => Cert.ReferenceIdeal.comparator_f32_i32_d1 (F := Ideal) (s (ix2 b k), BitVec.ofNat 32 k.val) (s (ix2 b k'), BitVec.ofNat 32 k'.val) == 1#1) _ (fun a c => ?_) (fun a c => ?_) i
  · rw [before_score]
    by_cases h : s (ix2 b a) < s (ix2 b c) <;> simp [h]
  · have f : ∀ k, (Host.sort2 Cert.ReferenceIdeal.S4x2048 1 (Cert.ReferenceIdeal.comparator_f32_i32_d1 (F := Ideal)) s (iotaInDim Cert.ReferenceIdeal.S4x2048 32 1)).2 (ix2 b k)
        = BitVec.ofNat 32 (sortedFrom (n := 2048) (fun k k' => Cert.ReferenceIdeal.comparator_f32_i32_d1 (F := Ideal) (s (ix2 b k), BitVec.ofNat 32 k.val) (s (ix2 b k'), BitVec.ofNat 32 k'.val) == 1#1) k).val :=
      fun k => (carried _ _ _ b k).trans (cols_ix b _)
    rw [f, f]
    exact before_pos _ _ _ _

end Cert.Proof

end
-- ==== Proof.Ranks.lean ====
/-
  The ranks in plain terms: what the kernel's blocks add up to, over all the rows.
-/
module

public import proofs.«01_k».proof.Proof.Blocks
public import proofs.«01_k».proof.Proof.Sort

@[expose] public section

noncomputable section

namespace Cert.Proof.KernelIdeal

open Cert.KernelIdeal Cert.KernelIdeal.Gen
open Idealize.ShloMosaic
open Finset (range)

/-- The sums of the blocks before block `p` are the sum of the rows before it. -/
theorem sum_blocks {M : Type} [AddCommMonoid M] (f : ℕ → M) (p : ℕ) : ∑ q ∈ range p, ∑ r ∈ range 256, f (256 * q + r) = ∑ n ∈ range (256 * p), f n := by
  induction p with
  | zero => rfl
  | succ p ih => rw [Finset.sum_range_succ, ih, Nat.mul_succ, Finset.sum_range_add]

/-- The rows before block `p` and those from it on are all the rows. -/
theorem sum_rows {M : Type} [AddCommMonoid M] (f : ℕ → M) (p : ℕ) (h : p < 8) :
    ∑ n ∈ range (256 * p), f n + ∑ j ∈ range (Wd p), f (256 * p + j) = ∑ n : Fin 2048, f n.val := by
  rw [← Finset.sum_range_add, Finset.sum_range f |>.symm]
  congr 2
  unfold Wd; omega

/-- The pattern a block adds. -/
theorem bits_base (p : ℕ) (h : p < 8) : Ideal.ofBits .f32 (baseBits p) = (((256 * p : ℕ) : ℝ) : EReal) := by
  have : p = 0 ∨ p = 1 ∨ p = 2 ∨ p = 3 ∨ p = 4 ∨ p = 5 ∨ p = 6 ∨ p = 7 := by omega
  rcases this with rfl | rfl | rfl | rfl | rfl | rfl | rfl | rfl <;>
    (simp [baseBits, Ideal.ofBits, Ideal.ieee, -EReal.coe_mul]; try norm_num)
/-- The pattern a block adds, a half more. -/
theorem bits_base_half (p : ℕ) (h : p < 8) : Ideal.ofBits .f32 (halfBits p) = ((((256 * p : ℕ) : ℝ) + 1 / 2 : ℝ) : EReal) := by
  have : p = 0 ∨ p = 1 ∨ p = 2 ∨ p = 3 ∨ p = 4 ∨ p = 5 ∨ p = 6 ∨ p = 7 := by omega
  rcases this with rfl | rfl | rfl | rfl | rfl | rfl | rfl | rfl <;>
    (simp [halfBits, Ideal.ofBits, Ideal.ieee, -EReal.coe_mul, -EReal.coe_add]; try norm_num)

/-- A sum of reals is real. -/
theorem coe_sum {ι : Type} (s : Finset ι) (f : ι → ℝ) : ∑ i ∈ s, ((f i : ℝ) : EReal) = ((∑ i ∈ s, f i : ℝ) : EReal) := by
  classical
  induction s using Finset.induction_on with
  | empty => rfl
  | insert a s h ih => rw [Finset.sum_insert h, Finset.sum_insert h, ih, EReal.coe_add]

/-- The sigmoid of a thousandfold difference. -/
def sr (a b : ℝ) : ℝ := 1 / (1 + Real.exp (-(1000 * (a - b))))
/-- Of two numbers each exceeds the other in shares that add up to 1. -/
theorem sr_add (a b : ℝ) : sr a b + sr b a = 1 := by
  unfold sr
  have e : -(1000 * (b - a)) = -(-(1000 * (a - b))) := by ring
  rw [e, Real.exp_neg (-(1000 * (a - b)))]
  have := Real.exp_pos (-(1000 * (a - b)))
  field_simp
  ring
/-- At reals the kernel's sigmoid is that one. -/
theorem sg_coe (a b : ℝ) : sg (a : EReal) (b : EReal) = ((sr a b : ℝ) : EReal) := by
  unfold sg
  rw [Plain.bits_500, Plain.bits_half, ← EReal.coe_mul, ← EReal.coe_mul, ← EReal.coe_sub, Ideal.tanh_coe, ← EReal.coe_mul, ← EReal.coe_add]
  congr 1
  unfold sr
  have e : -(1000 * (a - b)) = -(a * 500 - b * 500) + -(a * 500 - b * 500) := by ring
  rw [e, Real.exp_add, Real.tanh_eq_sinh_div_cosh, Real.sinh_eq, Real.cosh_eq, Real.exp_neg]
  have := Real.exp_pos (a * 500 - b * 500)
  field_simp
  ring

/-- A block's soft ranks at real scores. -/
theorem softP_real (x : FVec Ideal (Mx 2048 1) .f32) (r : ℕ → ℝ) (hr : ∀ n < 2048, col x n = (r n : EReal)) (p : ℕ) (h : p < 8) (i : Fin 256) :
    softP x p h (ix3 0 i 0) = ((∑ n : Fin 2048, sr (r (256 * p + i.val)) (r n.val) + 1 / 2 : ℝ) : EReal) := by
  rw [softP_ix, bits_base_half p h]
  have hi : 256 * p + i.val < 2048 := by omega
  have e1 : ∑ j ∈ range (Wd p), sg (col x (256 * p + i.val)) (col x (256 * p + j)) = ((∑ j ∈ range (Wd p), sr (r (256 * p + i.val)) (r (256 * p + j)) : ℝ) : EReal) := by
    rw [← coe_sum]
    refine Finset.sum_congr rfl fun j hj => ?_
    have := Finset.mem_range.1 hj
    rw [hr _ hi, hr _ (by unfold Wd at this; omega), sg_coe]
  have e2 : ∑ q ∈ range p, ∑ s ∈ range 256, sg (col x (256 * q + s)) (col x (256 * p + i.val)) = ((∑ n ∈ range (256 * p), sr (r n) (r (256 * p + i.val)) : ℝ) : EReal) := by
    rw [sum_blocks (fun n => sg (col x n) (col x (256 * p + i.val))), ← coe_sum]
    refine Finset.sum_congr rfl fun n hn => ?_
    have := Finset.mem_range.1 hn
    rw [hr _ hi, hr _ (by omega), sg_coe]
  rw [e1, e2, ← EReal.coe_add, ← EReal.coe_sub]
  congr 1
  rw [← sum_rows (fun n => sr (r (256 * p + i.val)) (r n)) p h]
  have e3 : ∑ n ∈ range (256 * p), sr (r n) (r (256 * p + i.val)) + ∑ n ∈ range (256 * p), sr (r (256 * p + i.val)) (r n) = ((256 * p : ℕ) : ℝ) := by
    rw [← Finset.sum_add_distrib, Finset.sum_congr rfl fun n _ => sr_add _ _, Finset.sum_const, Finset.card_range]
    simp
  linarith

/-- A sum of ones and zeros is a count. -/
theorem count_sum (s : Finset ℕ) (P : ℕ → Prop) [DecidablePred P] : ∑ n ∈ s, (if P n then (1 : EReal) else 0) = (((∑ n ∈ s, if P n then 1 else 0 : ℕ) : ℝ) : EReal) := by
  rw [Nat.cast_sum, ← coe_sum]
  refine Finset.sum_congr rfl fun n _ => ?_
  split_ifs <;> simp

/-- A block's hard ranks before the division are the rows' places. -/
theorem hardP_place (x : FVec Ideal (Mx 2048 1) .f32) (p : ℕ) (h : p < 8) (i : Fin 256) (a : ℕ) (ha : a = 256 * p + i.val) (hi : a < 2048) :
    hardP x p h (ix2 i 0) = ((place (fun n => x (ix2 n 0)) ⟨a, hi⟩ : ℝ) : EReal) := by
  have e : (place (fun n => x (ix2 n 0)) ⟨a, hi⟩) = ∑ n : Fin 2048, if col x n.val < col x a ∨ col x n.val = col x a ∧ n.val < a then 1 else 0 := by
    unfold place
    rw [Finset.card_filter]
    refine Finset.sum_congr rfl fun n _ => ?_
    have hc : ∀ m : Fin 2048, col x m.val = x (ix2 m 0) := fun m => by unfold col; rw [dif_pos m.isLt]
    have hc' : col x a = x (ix2 ⟨a, hi⟩ 0) := hc ⟨a, hi⟩
    rw [hc, hc']
    rfl
  rw [hardP_ix, bits_base p h, ← ha]
  unfold bef lt
  rw [sum_blocks (fun n => if col x a < col x n then (1 : EReal) else 0), count_sum, count_sum _ (fun n => col x a < col x n),
    ← EReal.coe_add, ← EReal.coe_sub]
  congr 1
  rw [e, ← sum_rows (fun n => if col x n < col x a ∨ col x n = col x a ∧ n < a then 1 else 0) p h]
  have e3 : (∑ n ∈ range (256 * p), if col x a < col x n then 1 else 0) + (∑ n ∈ range (256 * p), if col x n < col x a ∨ col x n = col x a ∧ n < a then 1 else 0) = 256 * p := by
    rw [← Finset.sum_add_distrib]
    have : ∀ n ∈ range (256 * p), ((if col x a < col x n then 1 else 0) + if col x n < col x a ∨ col x n = col x a ∧ n < a then 1 else 0) = 1 := by
      intro n hn
      have hn' : n < a := by have := Finset.mem_range.1 hn; omega
      rcases lt_trichotomy (col x n) (col x a) with h' | h' | h'
      · simp [h', lt_asymm h']
      · simp [h', hn']
      · simp [h', lt_asymm h', h'.ne']
    rw [Finset.sum_congr rfl this, Finset.sum_const, Finset.card_range]
    simp
  have e4 : ((256 * p : ℕ) : ℝ) = _ := congrArg (Nat.cast (R := ℝ)) e3.symm
  rw [e4]
  push_cast
  ring

end Cert.Proof.KernelIdeal

end
-- ==== Proof.Floor.lean ====
/-
  The two programs' floor divisions of a rank by the block size: the kernel's by reals, the reference's by words.
-/
module

public import proofs.«01_k».proof.Proof.Ranks

@[expose] public section

noncomputable section

namespace Cert.Proof

open Idealize.ShloMosaic

/-- The floor of a quotient of integers. -/
def flo (n b : ℤ) : ℤ := if 0 < b then n / b else -n / -b

/-- The floor of the reals' quotient is that of the integers'. -/
theorem floor_quot (n b : ℤ) (hb : b ≠ 0) : ⌊(n : ℝ) * (1 / (b : ℝ))⌋ = flo n b := by
  have key : ∀ n b : ℤ, 0 < b → ⌊(n : ℝ) * (1 / (b : ℝ))⌋ = n / b := by
    intro n b h
    have hr : (0 : ℝ) < (b : ℝ) := by exact_mod_cast h
    rw [Int.floor_eq_iff, mul_one_div, le_div_iff₀ hr, div_lt_iff₀ hr]
    have h1 : n / b * b ≤ n := Int.ediv_mul_le n h.ne'
    have h2 : n < (n / b + 1) * b := Int.lt_ediv_add_one_mul_self n h
    exact ⟨by exact_mod_cast h1, by exact_mod_cast h2⟩
  unfold flo
  split_ifs with h
  · exact key n b h
  · rw [← key (-n) (-b) (by omega)]
    congr 1
    push_cast
    rw [one_div, one_div, inv_neg, neg_mul_neg]

/-- The floor of a small number's quotient is small. -/
theorem flo_small (n : ℕ) (hn : n < 2048) (b : ℤ) (hb : b ≠ 0) : -2048 ≤ flo n b ∧ flo n b < 2048 := by
  unfold flo
  split_ifs with h
  · have h1 : (n : ℤ) / b ≤ n := Int.ediv_le_self _ (by omega)
    have h2 : 0 ≤ (n : ℤ) / b := Int.ediv_nonneg (by omega) h.le
    omega
  · have h0 : 0 < -b := by omega
    have h1 : -(n : ℤ) / -b ≤ 0 := Int.ediv_nonpos_of_nonpos_of_neg (by omega) h0
    have h2 : -(n : ℤ) ≤ -(n : ℤ) / -b := by
      rw [Int.le_ediv_iff_mul_le h0]
      nlinarith
    omega

/-- The kernel's floor division of a small number, one more. -/
theorem kernel_floor (n : ℕ) (hn : n < 2048) (w : BitVec 32) (hw : w ≠ 0) :
    Ideal.fptosi 32 (Ideal.liftRound Int.floor (Ideal.div ((n : ℝ) : EReal) ((w.toInt : ℝ) : EReal)) + 1) = BitVec.ofInt 32 (flo n w.toInt + 1) := by
  have hb : w.toInt ≠ 0 := fun h => hw (BitVec.eq_of_toInt_eq (by rw [h]; rfl))
  have hs := flo_small n hn w.toInt hb
  have hq := floor_quot n w.toInt hb
  rw [Ideal.div_coe (by exact_mod_cast hb), ← EReal.coe_mul, Ideal.liftRound_coe]
  rw [Int.cast_natCast] at hq
  rw [hq]
  have e : (((flo n w.toInt : ℤ) : ℝ) : EReal) + 1 = (((flo n w.toInt + 1 : ℤ) : ℝ) : EReal) := by push_cast; rfl
  rw [e, Ideal.fptosi, Ideal.toIntClamped_coe]
  congr 1
  split_ifs with h
  · rw [Int.floor_intCast]; omega
  · rw [Int.ceil_intCast]; omega

/-- The sign of a word as the reference prints it. -/
def sgn (x : BitVec 32) : BitVec 32 := if x = 0 then 0 else if x.msb then -1 else 1

/-- The reference's floor division of a small number. -/
theorem word_floor (n : ℕ) (hn : n < 2048) (w : BitVec 32) (hw : w ≠ 0) :
    Scalar.select (IntOp.andi (IntOp.cmpi .ne (sgn (BitVec.ofNat 32 n)) (sgn w)) (IntOp.cmpi .ne (IntOp.remsi .host (BitVec.ofNat 32 n) w) 0#32))
      (IntOp.subi (IntOp.divsi .host (BitVec.ofNat 32 n) w) 1#32) (IntOp.divsi .host (BitVec.ofNat 32 n) w) + 1#32 = BitVec.ofInt 32 (flo n w.toInt + 1) := by
  have hb : w.toInt ≠ 0 := fun h => hw (BitVec.eq_of_toInt_eq (by rw [h]; rfl))
  have hi : (BitVec.ofNat 32 n).toInt = n := by
    rw [BitVec.toInt_eq_toNat_of_lt] <;> simp <;> omega
  have hc : ¬ IntOp.SDivCorner (BitVec.ofNat 32 n) w := by
    rintro (h | ⟨h, _⟩)
    · exact hw h
    · have := congrArg BitVec.toInt h
      rw [hi, show (BitVec.intMin 32).toInt = -2147483648 by decide] at this
      omega
  have hq : IntOp.divsi .host (BitVec.ofNat 32 n) w = BitVec.ofInt 32 ((n : ℤ).tdiv w.toInt) := by
    unfold IntOp.divsi
    rw [if_neg hc]
    apply BitVec.eq_of_toInt_eq
    rw [BitVec.toInt_sdiv, hi, BitVec.toInt_ofInt]
  have hr : IntOp.cmpi .ne (IntOp.remsi .host (BitVec.ofNat 32 n) w) 0#32 = BitVec.ofBool (decide ((n : ℤ).tmod w.toInt ≠ 0)) := by
    unfold IntOp.remsi
    rw [if_neg hc]
    show BitVec.ofBool ((BitVec.ofNat 32 n).srem w != 0#32) = _
    congr 1
    have bn : ∀ x : BitVec 32, (x != 0#32) = decide (x ≠ 0#32) := fun x => by by_cases h : x = 0#32 <;> simp [h]
    rw [bn]
    refine decide_eq_decide.2 (not_congr ⟨fun h => ?_, fun h => ?_⟩)
    · have := congrArg BitVec.toInt h
      rwa [BitVec.toInt_srem, hi] at this
    · apply BitVec.eq_of_toInt_eq
      rw [BitVec.toInt_srem, hi, h]; rfl
  rw [hq, hr]
  have add1 : ∀ z : ℤ, BitVec.ofInt 32 z + 1#32 = BitVec.ofInt 32 (z + 1) := fun z => by
    rw [BitVec.ofInt_add]; rfl
  have back : ∀ x : BitVec 32, IntOp.subi x 1#32 + 1#32 = x := fun x => BitVec.sub_add_cancel x _
  rcases Nat.eq_zero_or_pos n with h0 | h0
  · subst h0
    have : ¬ ((0 : ℕ) : ℤ).tmod w.toInt ≠ 0 := by simp
    simp only [this, decide_false]
    have e : ∀ a : BitVec 1, IntOp.andi a (BitVec.ofBool false) = 0#1 := by decide
    rw [e]
    show BitVec.ofInt 32 _ + 1#32 = _
    rw [add1]
    congr 2
    unfold flo
    split_ifs <;> simp
  have sn : sgn (BitVec.ofNat 32 n) = 1 := by
    unfold sgn
    rw [if_neg, if_neg]
    · rw [BitVec.msb_eq_toInt, hi]; simp
    · intro h
      have := congrArg BitVec.toInt h
      rw [hi] at this
      have e : (0 : BitVec 32).toInt = 0 := by decide
      omega
  rcases lt_or_gt_of_ne hb with hneg | hpos
  · have sw : sgn w = -1 := by
      unfold sgn
      rw [if_neg hw, if_pos]
      rw [BitVec.msb_eq_toInt]; simpa using hneg
    rw [sn, sw, show IntOp.cmpi .ne (1 : BitVec 32) (-1) = 1#1 by decide]
    have hm : (n : ℤ).tmod w.toInt = (n : ℤ) % (-w.toInt) := by
      rw [← Int.tmod_neg, Int.tmod_eq_emod_of_nonneg (by omega)]
    have hd : (n : ℤ).tdiv w.toInt = -((n : ℤ) / (-w.toInt)) := by
      have := Int.tdiv_neg (n : ℤ) (-w.toInt)
      rw [neg_neg] at this
      rw [this, Int.tdiv_eq_ediv_of_nonneg (by omega)]
    have hf : flo n w.toInt = -(n : ℤ) / (-w.toInt) := by
      unfold flo; rw [if_neg (by omega)]
    rw [hm, hd, hf]
    generalize hC : -w.toInt = C
    have hCp : 0 < C := by omega
    have h1 := Int.emod_add_mul_ediv (n : ℤ) C
    have h2 := Int.emod_nonneg (n : ℤ) hCp.ne'
    have h3 := Int.emod_lt_of_pos (n : ℤ) hCp
    by_cases hz : (n : ℤ) % C = 0
    · have : ¬ (n : ℤ) % C ≠ 0 := not_not.2 hz
      simp only [this, decide_false]
      rw [show IntOp.andi (1#1) (BitVec.ofBool false) = 0#1 by decide]
      show BitVec.ofInt 32 _ + 1#32 = _
      rw [add1, Int.neg_ediv_of_dvd (Int.dvd_of_emod_eq_zero hz)]
    · simp only [ne_eq, hz, not_false_eq_true, decide_true]
      rw [show IntOp.andi (1#1) (BitVec.ofBool true) = 1#1 by decide]
      show IntOp.subi (BitVec.ofInt 32 _) 1#32 + 1#32 = _
      rw [back]
      congr 1
      have : -(n : ℤ) / C = -((n : ℤ) / C) - 1 := by
        have u := (Int.ediv_emod_unique (a := -(n : ℤ)) (b := C) (r := C - (n : ℤ) % C) (q := -((n : ℤ) / C) - 1) hCp).2
          ⟨by linarith [mul_sub C (-((n : ℤ) / C)) 1, mul_neg C ((n : ℤ) / C)], by omega, by omega⟩
        exact u.1
      omega
  · have sw : sgn w = 1 := by
      unfold sgn
      rw [if_neg hw, if_neg]
      rw [BitVec.msb_eq_toInt]; simp; omega
    rw [sn, sw, show IntOp.cmpi .ne (1 : BitVec 32) 1 = 0#1 by decide]
    have e : ∀ a : BitVec 1, IntOp.andi 0#1 a = 0#1 := by decide
    rw [e]
    show BitVec.ofInt 32 _ + 1#32 = _
    rw [add1, Int.tdiv_eq_ediv_of_nonneg (by omega)]
    unfold flo
    rw [if_pos hpos]

/-- The two programs' hard ranks agree at equal scores. -/
theorem rank_agree (s : FVec Ideal Cert.ReferenceIdeal.S4x2048 .f32) (n : IVec Cert.ReferenceIdeal.S_ 32) (w : BitVec 32) (hw : w ≠ 0) (hn : n ix0 = w)
    (b : Fin 4) (x : FVec Ideal (KernelIdeal.Mx 2048 1) .f32) (hx : ∀ i, x (ix2 i 0) = s (ix2 b i)) (p : ℕ) (h : p < 8) (i : Fin 256) (a : ℕ) (ha : a = 256 * p + i.val) (hl : a < 2048) :
    KernelIdeal.rankP (F := Ideal) (FloatOps.sitofp .f32 w) x p h (ix3 0 i 0) = Ref.rank (F := Ideal) s n (ix2 b ⟨a, hl⟩) := by
  have hp : place (fun i => s (ix2 b i)) ⟨a, hl⟩ < 2048 := by
    unfold place
    refine lt_of_lt_of_le (Finset.card_lt_card (Finset.filter_ssubset.2 ⟨⟨a, hl⟩, Finset.mem_univ _, ?_⟩)) (by simp)
    simp
  have l : KernelIdeal.rankP (F := Ideal) (FloatOps.sitofp .f32 w) x p h (ix3 0 i 0)
      = Ideal.fptosi 32 (Ideal.liftRound Int.floor (Ideal.div (KernelIdeal.hardP x p h (ix2 i 0)) ((w.toInt : ℝ) : EReal)) + 1) := by
    unfold KernelIdeal.rankP
    pointwise
    rfl
  have r : Ref.rank (F := Ideal) s n (ix2 b ⟨a, hl⟩) = Scalar.select (IntOp.andi (IntOp.cmpi .ne (sgn (Ref.ord (F := Ideal) s (ix2 b ⟨a, hl⟩))) (sgn (n ix0)))
      (IntOp.cmpi .ne (IntOp.remsi .host (Ref.ord (F := Ideal) s (ix2 b ⟨a, hl⟩)) (n ix0)) 0#32))
      (IntOp.subi (IntOp.divsi .host (Ref.ord (F := Ideal) s (ix2 b ⟨a, hl⟩)) (n ix0)) 1#32) (IntOp.divsi .host (Ref.ord (F := Ideal) s (ix2 b ⟨a, hl⟩)) (n ix0)) + 1#32 := by
    unfold Ref.rank Ref.fdiv sgn
    generalize Ref.ord (F := Ideal) s = o
    pointwise
    rfl
  rw [l, KernelIdeal.hardP_place x p h i a ha hl, r, ord_ix, hn, word_floor _ hp w hw]
  rw [show (fun n => x (ix2 n 0)) = fun i => s (ix2 b i) from funext hx]
  exact kernel_floor _ hp w hw

end Cert.Proof

end
-- ==== Proof.Spread.lean ====
/-
  Scores that are not all one have real scaled scores.
-/
module

public import proofs.«01_k».proof.Proof.Plain

@[expose] public section

noncomputable section

namespace Cert.Proof.Plain

open Idealize.ShloMosaic

/-- No number is below the least. -/
theorem lo_le (f : Fin 2048 → EReal) (i : Fin 2048) : lo f ≤ f i := (Finset.fold_min_le _).2 (.inr ⟨i, Finset.mem_univ _, le_rfl⟩)
/-- No number is above the greatest. -/
theorem le_hi (f : Fin 2048 → EReal) (i : Fin 2048) : f i ≤ hi f := (Finset.le_fold_max _).2 (.inr ⟨i, Finset.mem_univ _, le_rfl⟩)

/-- A number between two reals is real. -/
theorem real_between {a b : ℝ} {x : EReal} (h1 : (a : EReal) ≤ x) (h2 : x ≤ (b : EReal)) : ∃ r : ℝ, x = r := by
  induction x using EReal.rec with
  | bot => exact absurd h1 (not_le.2 (EReal.bot_lt_coe a))
  | coe r => exact ⟨r, rfl⟩
  | top => exact absurd h2 (not_le.2 (EReal.coe_lt_top b))

/-- A real difference is of reals. -/
theorem real_sub {a b : EReal} {d : ℝ} (h : a - b = d) : (∃ r : ℝ, a = r) ∧ ∃ r : ℝ, b = r := by
  induction a using EReal.rec with
  | bot => rw [EReal.bot_sub] at h; exact absurd h (EReal.bot_ne_coe d)
  | top =>
    induction b using EReal.rec with
    | bot => exact absurd h (EReal.top_ne_coe d)
    | coe b => exact absurd h (EReal.top_ne_coe d)
    | top => exact absurd h (EReal.bot_ne_coe d)
  | coe a =>
    induction b using EReal.rec with
    | bot => exact absurd h (EReal.top_ne_coe d)
    | coe b => exact ⟨⟨a, rfl⟩, ⟨b, rfl⟩⟩
    | top => exact absurd h (EReal.bot_ne_coe d)

/-- Scaled to their span numbers are all real, or all minus infinity. -/
theorem span_cases (f : Fin 2048 → EReal) : (∀ i, ∃ r : ℝ, span f i = r) ∨ ∀ i, span f i = ⊥ := by
  have inf : ∀ D : EReal, hi f - lo f = D → D⁻¹ = 0 → D ≠ 0 → ∀ i, ∃ r : ℝ, span f i = r := by
    intro D h hD hD' i
    refine ⟨0, ?_⟩
    unfold span Ideal.div
    rw [h, if_neg hD', hD, mul_zero]; rfl
  generalize hd : hi f - lo f = D
  induction D using EReal.rec with
  | bot => exact .inl (inf _ hd EReal.inv_bot (by decide))
  | top => exact .inl (inf _ hd EReal.inv_top (by decide))
  | coe d =>
    obtain ⟨⟨b, hb⟩, ⟨a, ha⟩⟩ := real_sub hd
    have hr : ∀ i, ∃ r : ℝ, f i = r := fun i => real_between (ha ▸ lo_le f i) (hb ▸ le_hi f i)
    by_cases h0 : d = 0
    · refine .inr fun i => ?_
      have hab : b = a := by
        rw [ha, hb, ← EReal.coe_sub, EReal.coe_eq_coe_iff] at hd
        linarith
      have hi' : f i = a := le_antisymm (hab ▸ hb ▸ le_hi f i) (ha ▸ lo_le f i)
      unfold span Ideal.div
      rw [hd, h0, hi', ha, ← EReal.coe_sub, sub_self]
      simp
    · refine .inl fun i => ?_
      obtain ⟨r, hri⟩ := hr i
      unfold span
      rw [hd, Ideal.div_coe h0, hri, ha, ← EReal.coe_sub, ← EReal.coe_mul]
      exact ⟨_, rfl⟩

/-- Scores that are not all one have real scaled scores. -/
theorem scaled_real (x : Fin 2048 → Fin 128 → EReal) (l : Fin 2048 → Fin 5) (h : lo (score x l) < hi (score x l)) (i : Fin 2048) :
    ∃ r : ℝ, scaled (score x l) i = r := by
  have hs : ∀ i, ∃ r : ℝ, score x l i = r := by
    rcases span_cases (dst x l) with hr | hb
    · intro i
      obtain ⟨r, e⟩ := hr i
      unfold score
      rw [e, ← EReal.coe_add]
      exact ⟨_, rfl⟩
    · have e : ∀ i, score x l i = ⊥ := fun i => by unfold score; rw [hb, EReal.bot_add]
      have : hi (score x l) ≤ ⊥ := by
        unfold hi
        rw [Finset.fold_max_le]
        exact ⟨by rw [bits_bot], fun i _ => (e i).le⟩
      exact absurd (lt_of_lt_of_le h this) not_lt_bot
  generalize score x l = s at *
  have hlo : ∃ r : ℝ, lo s = r := by
    obtain ⟨r, e⟩ := hs 0
    have h1 : lo s ≤ r := e ▸ lo_le s 0
    have h2 : lo s ≠ ⊥ := by
      intro hb
      have : lo s ≤ ⊥ := hb.le
      unfold lo at this
      rw [Finset.fold_min_le] at this
      rcases this with h' | ⟨i, _, h'⟩
      · rw [bits_top] at h'; exact absurd h' (by decide)
      · obtain ⟨r, e⟩ := hs i
        rw [e] at h'; exact absurd h' (not_le.2 (EReal.bot_lt_coe r))
    generalize lo s = y at *
    induction y using EReal.rec with
    | bot => exact absurd rfl h2
    | coe y => exact ⟨y, rfl⟩
    | top => exact absurd h1 (not_le.2 (EReal.coe_lt_top r))
  have hhi : ∃ r : ℝ, hi s = r := by
    obtain ⟨r, e⟩ := hs 0
    have h1 : (r : EReal) ≤ hi s := e ▸ le_hi s 0
    have h2 : hi s ≠ ⊤ := by
      intro hb
      have : ⊤ ≤ hi s := hb.ge
      unfold hi at this
      rw [Finset.le_fold_max] at this
      rcases this with h' | ⟨i, _, h'⟩
      · rw [bits_bot] at h'; exact absurd h' (by decide)
      · obtain ⟨r, e⟩ := hs i
        rw [e] at h'; exact absurd h' (not_le.2 (EReal.coe_lt_top r))
    generalize hi s = y at *
    induction y using EReal.rec with
    | bot => exact absurd h1 (not_le.2 (EReal.bot_lt_coe r))
    | coe y => exact ⟨y, rfl⟩
    | top => exact absurd rfl h2
  obtain ⟨a, ha⟩ := hlo
  obtain ⟨b, hb⟩ := hhi
  obtain ⟨r, hr⟩ := hs i
  have hab : b - a ≠ 0 := by
    rw [ha, hb, EReal.coe_lt_coe_iff] at h
    exact (sub_pos.2 h).ne'
  unfold scaled span
  rw [ha, hb, hr, bits_four, ← EReal.coe_sub, ← EReal.coe_sub, Ideal.div_coe hab, ← EReal.coe_mul, ← EReal.coe_mul]
  exact ⟨_, rfl⟩

end Cert.Proof.Plain

end
-- ==== Proof.PreRead.lean ====
/-
  The precondition read at the reference's stages: the block size is not zero and in every batch the greatest score
  exceeds the least.
-/
module

public import proofs.«01_k».proof.Proof.RefStage
public import proofs.«01_k».proof.Proof.Gen.Pre_scores_spread

@[expose] public section

set_option maxRecDepth 10000

noncomputable section

namespace Cert.Proof.Ref

open Cert.ReferenceIdeal Cert.ReferenceIdeal.Gen
open Idealize.ShloMosaic

variable {F : FTy → Type} [FloatOps F]

/-- The test of the scores and the block size. -/
def test (s : FVec F S4x2048 .f32) (n : IVec S_ 32) : IVec S_ 1 :=
  andi (cmpi .ne n (constantI S_ 32 0#32))
    (Host.reduce IntOp.andi (cmpf .ogt (maxB s) (minB s)) (constantI S_ 1 1#1) Cert.Pre_scores_spread.Gen.reducesTo_S4_S_d0 h_S_)

/-- The precondition is the test of the scores. -/
theorem pre_eq (a0 : FVec F S4x2048x64 .f32) (a1 : FVec F S64x32 .f32) (a2 : FVec F S32 .f32) (a3 : FVec F S32x128 .f32) (a4 : FVec F S128 .f32)
    (n e : IVec S_ 32) :
    Cert.Pre_scores_spread.fn (F := F) a0 a1 a2 a3 a4 n e
      = test (sco (hid a0 a1 a2 a3 a4) (labs (rows0 (hid a0 a1 a2 a3 a4)) 9)) n := rfl

end Cert.Proof.Ref

end
-- ==== Proof.Soft.lean ====
/-
  The reference's soft ranks at real scores, and what the precondition says of the scores and the block size.
-/
module

public import proofs.«01_k».proof.Proof.Ranks
public import proofs.«01_k».proof.Proof.PreRead
public import Idealize.ShloMosaic.Lib.ReduceAll

@[expose] public section

noncomputable section

namespace Cert.Proof.Ref

open Cert.ReferenceIdeal Cert.ReferenceIdeal.Gen
open Idealize.ShloMosaic
open Cert.Proof.Plain (lo hi)
open Cert.Proof.KernelIdeal (sr coe_sum)

/-- One pair's logistic value, at real scores. -/
theorem pair_coe (a b : ℝ) :
    Ideal.div (1 : EReal) (1 + Ideal.exp (-Ideal.div ((a : EReal) - (b : EReal)) (Ideal.div (1 : EReal) (Ideal.ofBits .f32 1148846080#32)))) = ((sr a b : ℝ) : EReal) := by
  rw [Plain.bits_1000, Ideal.div_coe (by norm_num), one_mul, ← EReal.coe_sub, Ideal.div_coe (by norm_num), ← EReal.coe_mul, ← EReal.coe_neg, Ideal.exp_coe,
    ← EReal.coe_one, ← EReal.coe_add, Ideal.div_coe (by positivity), ← EReal.coe_mul]
  congr 1
  unfold sr
  rw [one_mul]
  congr 4
  ring

/-- A row's soft rank at real scores. -/
theorem soft_real (x : FVec Ideal S4x2048 .f32) (b : Fin 4) (r : Fin 2048 → ℝ) (hr : ∀ k, x (ix2 b k) = (r k : EReal)) (i : Fin 2048) :
    soft x (ix2 b i) = ((∑ k : Fin 2048, sr (r i) (r k) + 1 / 2 : ℝ) : EReal) := by
  unfold soft sig2
  pointwise
  simp only [hr, pair_coe]
  rw [coe_sum, Plain.bits_half, ← EReal.coe_add]

/-- The precondition's test: the block size is not zero, and a batch's greatest score exceeds its least. -/
theorem of_test (s : FVec Ideal S4x2048 .f32) (n : IVec S_ 32) (h : test s n = fun _ => 1#1) :
    n ix0 ≠ 0#32 ∧ ∀ b : Fin 4, lo (fun i => s (ix2 b i)) < hi (fun i => s (ix2 b i)) := by
  obtain ⟨h1, h2⟩ := IntOp.andi_eq_one.1 (congrFun h ix0)
  refine ⟨fun e => ?_, fun b => ?_⟩
  · have h1 : IntOp.cmpi .ne (n ix0) 0#32 = 1#1 := h1
    rw [e] at h1
    exact absurd h1 (by decide)
  · have : Subsingleton S_.Idx := ⟨fun a b => funext fun i => i.elim0⟩
    have h3 := Host.reduce_andi_all _ _ _ _ _ h2 (ix1 b)
    have l : minB s (ix1 b) = lo fun i => s (ix2 b i) := by unfold minB lo; pointwise
    have g : maxB s (ix1 b) = hi fun i => s (ix2 b i) := by unfold maxB hi; pointwise
    rw [← l, ← g]
    by_contra hlt
    have e : cmpf .ogt (maxB s) (minB s) (ix1 b) = 0#1 := by
      pointwise
      simp [hlt]
    rw [e] at h3
    exact absurd h3 (by decide)

end Cert.Proof.Ref

end
-- ==== Proof.Value.lean ====
/-
  The kernel's three result arrays are the reference's, entry by entry.
-/
module

public import proofs.«01_k».proof.Proof.Arrays
public import proofs.«01_k».proof.Proof.Loop
public import proofs.«01_k».proof.Proof.Hidden
public import proofs.«01_k».proof.Proof.Floor
public import proofs.«01_k».proof.Proof.Spread
public import proofs.«01_k».proof.Proof.Soft

@[expose] public section

noncomputable section

namespace Cert.Proof

open Idealize.ShloMosaic
open Idealize.ShloMosaic.TcCoe
open Cert.KernelIdeal (nD τ sig main_arg0 main_arg1 main_arg2 main_arg3 main_arg4 main_arg5)
open Cert.KernelIdeal.Gen (iblk)
open Cert.Proof.KernelIdeal (hid lab bsz scoK scaK softP rankP hbK col rowsK arr_soft arr_rank arr_sco)
open Cert.Proof.Plain (wrd lbls lo hi score scaled)

variable (m : (ℓ : Loc nD τ sig) → Buf (Elt Ideal) ℓ) (c : Dev nD)

/-- The reference's hidden layer at the kernel's arguments. -/
def hidR : FVec Ideal Cert.ReferenceIdeal.S4x2048x128 .f32 :=
  Ref.hid (F := Ideal) (m ((c : Thread nD τ).loc main_arg0)) (m ((c : Thread nD τ).loc main_arg1)) (m ((c : Thread nD τ).loc main_arg2))
    (m ((c : Thread nD τ).loc main_arg3)) (m ((c : Thread nD τ).loc main_arg4))
/-- The reference's scores at the kernel's arguments. -/
def scoR : FVec Ideal Cert.ReferenceIdeal.S4x2048 .f32 := Ref.sco (hidR m c) (Ref.labs (Ref.rows0 (hidR m c)) 9)
/-- The rows of batch `b` of the hidden layer. -/
abbrev rowsR (b : Fin 4) (i : Fin 2048) (d : Fin 128) : EReal := hidR m c (ix3 b i d)

/-- The kernel's hidden layer, batch by batch. -/
theorem hid_ix (b : ℕ) (hb : b < 4) (i : Fin 2048) (d : Fin 128) : hbK (hid m c) b hb (ix2 i d) = rowsR m c ⟨b, hb⟩ i d := by
  rw [KernelIdeal.hid_eq]
  have e := hidden_eq (iblk m c 1 Cert.KernelIdeal.Gen.t0_0) (iblk m c 2 Cert.KernelIdeal.Gen.t0_0) (m ((c : Thread nD τ).loc main_arg2))
    (iblk m c 4 Cert.KernelIdeal.Gen.t0_0) (m ((c : Thread nD τ).loc main_arg4)) (iblk m c 3 Cert.KernelIdeal.Gen.t0_0) (iblk m c 5 Cert.KernelIdeal.Gen.t0_0)
    (KernelIdeal.blk3 m c) (KernelIdeal.blk5 m c) b hb i d
  refine e.trans ?_
  rw [KernelIdeal.blk1, KernelIdeal.blk2, KernelIdeal.blk4]
  rfl

/-- The reference's first batch of rows. -/
theorem rows0_ix (h : FVec Ideal Cert.ReferenceIdeal.S4x2048x128 .f32) (i : Fin 2048) (d : Fin 128) : Ref.rows0 h (ix2 i d) = h (ix3 0 i d) := by
  unfold Ref.rows0
  pointwise

/-- The kernel's labels are the plain ones of the first batch. -/
theorem lab_ix (i : Fin 2048) : lab m c (ix2 i 0) = wrd (lbls (rowsR m c 0) 9 i) := by
  rw [KernelIdeal.lab_eq]
  refine (KernelIdeal.loop_lbls _ _ _ _ _ i).trans ?_
  have e : rowsK (iblk m c 1 Cert.KernelIdeal.Gen.t0_0) (iblk m c 2 Cert.KernelIdeal.Gen.t0_0) (iblk m c 3 Cert.KernelIdeal.Gen.t0_0)
      (iblk m c 4 Cert.KernelIdeal.Gen.t0_0) (iblk m c 5 Cert.KernelIdeal.Gen.t0_0) = rowsR m c 0 := by
    funext i d
    refine Eq.trans ?_ (hid_ix m c 0 (by omega) i d)
    rw [KernelIdeal.hid_eq]
    rfl
  rw [e]

/-- The reference's labels are the plain ones of the first batch. -/
theorem labs_ix (i : Fin 2048) : Ref.labs (Ref.rows0 (hidR m c)) 9 (ix1 i) = wrd (lbls (rowsR m c 0) 9 i) := by
  rw [Ref.labs_ix]
  simp only [rows0_ix]

/-- The reference's scores, batch by batch. -/
theorem scoR_ix (b : Fin 4) (i : Fin 2048) : scoR m c (ix2 b i) = score (rowsR m c b) (lbls (rowsR m c 0) 9) i :=
  Ref.sco_ix _ _ _ (labs_ix m c) b i

/-- The kernel's scores are the reference's. -/
theorem sco_agree (b : ℕ) (hb : b < 4) (i : Fin 2048) : scoK (hid m c) (lab m c) b hb (ix2 i 0) = scoR m c (ix2 ⟨b, hb⟩ i) := by
  rw [KernelIdeal.scoK_ix (hid m c) (lab m c) (lbls (rowsR m c 0) 9) (lab_ix m c) b hb i, scoR_ix]
  exact congrArg (fun x => score x (lbls (rowsR m c 0) 9) i) (funext fun i => funext fun d => hid_ix m c b hb i d)

/-- The kernel's scaled scores are the reference's. -/
theorem sca_agree (b : ℕ) (hb : b < 4) (i : Fin 2048) :
    scaK (scoK (hid m c) (lab m c) b hb) (ix2 i 0) = Ref.sca (scoR m c) (ix2 ⟨b, hb⟩ i) := by
  rw [KernelIdeal.scaK_ix, Ref.sca_ix]
  exact congrArg (fun x => scaled x i) (funext fun i => sco_agree m c b hb i)

/-- Where the greatest score of a batch exceeds the least, its scaled scores are real. -/
theorem sca_real (b : Fin 4) (h : lo (fun i => scoR m c (ix2 b i)) < hi (fun i => scoR m c (ix2 b i))) (i : Fin 2048) :
    ∃ r : ℝ, Ref.sca (scoR m c) (ix2 b i) = r := by
  have e : (fun i => scoR m c (ix2 b i)) = score (rowsR m c b) (lbls (rowsR m c 0) 9) := funext fun i => scoR_ix m c b i
  rw [e] at h
  rw [Ref.sca_ix, e]
  exact Plain.scaled_real _ _ h i

/-- The kernel's soft ranks are the reference's. -/
theorem soft_agree (b : ℕ) (hb : b < 4) (h : lo (fun i => scoR m c (ix2 ⟨b, hb⟩ i)) < hi (fun i => scoR m c (ix2 ⟨b, hb⟩ i)))
    (p : ℕ) (hp : p < 8) (i : Fin 256) (hi : 256 * p + i.val < 2048) :
    softP (scaK (scoK (hid m c) (lab m c) b hb)) p hp (ix3 0 i 0) = Ref.soft (Ref.sca (scoR m c)) (ix2 ⟨b, hb⟩ ⟨256 * p + i.val, hi⟩) := by
  choose r hr using sca_real m c ⟨b, hb⟩ h
  let r' : ℕ → ℝ := fun n => if hn : n < 2048 then r ⟨n, hn⟩ else 0
  have hr' : ∀ n (hn : n < 2048), r' n = r ⟨n, hn⟩ := fun n hn => dif_pos hn
  have hc : ∀ n < 2048, col (scaK (scoK (hid m c) (lab m c) b hb)) n = (r' n : EReal) := fun n hn => by
    unfold col
    rw [dif_pos hn, hr' n hn, sca_agree, hr]
  rw [KernelIdeal.softP_real _ r' hc p hp i, Ref.soft_real _ _ r hr, hr' _ hi]
  simp only [hr' _ (Fin.is_lt _), Fin.eta]

/-- The kernel's hard ranks are the reference's. -/
theorem rank_agree' (hn : m ((c : Thread nD τ).loc main_arg5) ix0 ≠ 0#32) (b : ℕ) (hb : b < 4) (p : ℕ) (hp : p < 8) (i : Fin 256) (hi : 256 * p + i.val < 2048) :
    rankP (bsz m c) (scoK (hid m c) (lab m c) b hb) p hp (ix3 0 i 0)
      = Ref.rank (scoR m c) (m ((c : Thread nD τ).loc main_arg5)) (ix2 ⟨b, hb⟩ ⟨256 * p + i.val, hi⟩) := by
  have e : bsz m c = FloatOps.sitofp (F := Ideal) .f32 (m ((c : Thread nD τ).loc main_arg5) ix0) := by
    rw [KernelIdeal.bsz_eq, KernelIdeal.blk0]
    rfl
  rw [e]
  exact rank_agree (scoR m c) (m ((c : Thread nD τ).loc main_arg5)) _ hn rfl ⟨b, hb⟩ _ (fun i => sco_agree m c b hb i) p hp i _ rfl hi

/-- The reference's soft ranks, as its result holds them. -/
abbrev softR : FVec Ideal Cert.KernelIdeal.S4x2048x1 .f32 := shapeCast Cert.ReferenceIdeal.S4x2048x1 (Ref.soft (Ref.sca (scoR m c))) Cert.ReferenceIdeal.Gen.shapeCasts_S4x2048_S4x2048x1
/-- The reference's hard ranks, as its result holds them. -/
abbrev rankR : IVec Cert.KernelIdeal.S4x2048x1 32 := shapeCast Cert.ReferenceIdeal.S4x2048x1 (Ref.rank (scoR m c) (m ((c : Thread nD τ).loc main_arg5))) Cert.ReferenceIdeal.Gen.shapeCasts_S4x2048_S4x2048x1
/-- The reference's scores, as its result holds them. -/
abbrev scoR3 : FVec Ideal Cert.KernelIdeal.S4x2048x1 .f32 := shapeCast Cert.ReferenceIdeal.S4x2048x1 (scoR m c) Cert.ReferenceIdeal.Gen.shapeCasts_S4x2048_S4x2048x1

/-- A result's entry. -/
theorem cast_ix {α : Type} (x : Cert.ReferenceIdeal.S4x2048.Idx → α) (b : Fin 4) (i : Fin 2048) :
    shapeCast Cert.ReferenceIdeal.S4x2048x1 x Cert.ReferenceIdeal.Gen.shapeCasts_S4x2048_S4x2048x1 (ix3 b i 0) = x (ix2 b i) := by
  pointwise

/-- The soft ranks' array is the reference's. -/
theorem soft_arr (h : ∀ b : Fin 4, lo (fun i => scoR m c (ix2 b i)) < hi (fun i => scoR m c (ix2 b i))) :
    (KernelIdeal.dats m 0 c).arrAt 6 Cert.KernelIdeal.cfg0.N = softR m c :=
  arr_soft m c (softR m c) fun b hb p hp i hi => (soft_agree m c b hb (h ⟨b, hb⟩) p hp i hi).trans (cast_ix _ ⟨b, hb⟩ ⟨_, hi⟩).symm
/-- The hard ranks' array is the reference's. -/
theorem rank_arr (hn : m ((c : Thread nD τ).loc main_arg5) ix0 ≠ 0#32) : (KernelIdeal.dats m 0 c).arrAt 7 Cert.KernelIdeal.cfg0.N = rankR m c :=
  arr_rank m c (rankR m c) fun b hb p hp i hi => (rank_agree' m c hn b hb p hp i hi).trans (cast_ix _ ⟨b, hb⟩ ⟨_, hi⟩).symm
/-- The scores' array is the reference's. -/
theorem sco_arr : (KernelIdeal.dats m 0 c).arrAt 8 Cert.KernelIdeal.cfg0.N = scoR3 m c :=
  arr_sco m c (scoR3 m c) fun b hb i => (sco_agree m c b hb i).trans (cast_ix _ ⟨b, hb⟩ i).symm

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_scores_spread
public import proofs.«01_k».proof.Proof.KernelLaunch
public import proofs.«01_k».proof.Proof.KernelIdealLaunch
public import proofs.«01_k».proof.Proof.RefRead
public import proofs.«01_k».proof.Proof.Value
public import Idealize.ShloMosaic.Lib.Claim

@[expose] public section

noncomputable section

namespace Cert.Proof

open Idealize.ShloMosaic Idealize.SL.Sem

/-- The kernel runs, its arguments end unchanged, every semaphore counter ends at zero. -/
theorem quiescent_kernel : Cert.quiescent_Kernel := fun m g _ =>
  have h := Kernel.run_main (F := Bits) m g
  (θ_run _ _ _).mono (fun _ h => h) <| θ_run_and
    (Kernel.Gen.frame_of m g (Kernel.dats m) (fun _ _ => rfl) ((θ_run _ _ _).mono (fun _ h => h.1) h))
    ((θ_run _ _ _).mono (fun _ h => h.2) h)

/-- The same of the kernel read at the ideal instance. -/
theorem quiescent_kernelIdeal : Cert.quiescent_KernelIdeal := fun m g _ =>
  have h := KernelIdeal.run_main (F := Ideal) m g
  (θ_run _ _ _).mono (fun _ h => h) <| θ_run_and
    (KernelIdeal.Gen.frame_of m g (KernelIdeal.dats m) (fun _ _ => rfl) ((θ_run _ _ _).mono (fun _ h => h.1) h))
    ((θ_run _ _ _).mono (fun _ h => h.2) h)

/-- The same, under the precondition of the value claim. -/
theorem quiescent_kernelIdeal_pre : Cert.quiescent_KernelIdeal_pre_scores_spread := fun m g _ =>
  quiescent_kernelIdeal m g trivial

/-- The reference runs, its arguments end unchanged, every semaphore counter ends at zero. -/
theorem quiescent_reference : Cert.quiescent_ReferenceIdeal := fun m g _ =>
  (θ_run _ _ _).mono (fun _ h => ⟨fun c => (h.1 c).2, h.2⟩) (Ref.run_main (F := Ideal) m g)

/-- The same, under the precondition of the value claim. -/
theorem quiescent_reference_pre : Cert.quiescent_ReferenceIdeal_pre_scores_spread := fun m g _ =>
  quiescent_reference m g trivial

/-- The reference's scores at arguments equal to the kernel's. -/
theorem scoM_eq (m : (ℓ : Loc Cert.KernelIdeal.nD Cert.KernelIdeal.τ Cert.KernelIdeal.sig) → Buf (Elt Ideal) ℓ) (c : Dev Cert.KernelIdeal.nD)
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Ref.scoM (F := Ideal) m' c = scoR m c := by
  have e : Ref.hidM (F := Ideal) m' c = hidR m c := by
    unfold Ref.hidM hidR
    rw [h0, h1, h2, h3, h4]
  unfold Ref.scoM scoR
  rw [e]

/-- Under the precondition the two programs, run from equal arguments, end with equal results and unchanged arguments. -/
theorem algebraic : Cert.algebraic_KernelIdeal_ReferenceIdeal_pre_scores_spread := fun m g m' g' hp ha => by
  have ht : ∀ c : Dev Cert.KernelIdeal.nD, _ := fun c => Ref.of_test _ _ ((Ref.pre_eq (F := Ideal) _ _ _ _ _ _ _).symm.trans (hp c))
  refine ⟨softR m, rankR m, scoR3 m, ?_, ?_⟩
  · have h := KernelIdeal.run_main (F := Ideal) m g
    have hf := KernelIdeal.Gen.frame_of m g (KernelIdeal.dats m) (fun _ _ => rfl) ((θ_run _ _ _).mono (fun _ h => h.1) h)
    refine (θ_run _ _ _).mono (fun r h c => ?_) (θ_run_and h hf)
    exact ⟨((h.1.1 c).1 6).trans (soft_arr m c (ht c).2), ((h.1.1 c).1 7).trans (rank_arr m c (ht c).1), ((h.1.1 c).1 8).trans (sco_arr m c), h.2 c⟩
  · refine (θ_run _ _ _).mono (fun r h c => ?_) (Ref.run_main (F := Ideal) m' g')
    obtain ⟨⟨s, k, v⟩, a⟩ := h.1 c
    obtain ⟨h0, h1, h2, h3, h4, h5, -⟩ := ha c
    have e := scoM_eq m c m' h0 h1 h2 h3 h4
    refine ⟨s.trans ?_, k.trans ?_, v.trans ?_, a⟩
    · rw [Ref.final_soft, e]
    · rw [Ref.final_rank, e, h5]
    · rw [Ref.final_sco, e]

/-- Everything the certificate claims. -/
theorem claim : Cert.Claim := ⟨Cert.Kernel.Gen.facts, Cert.KernelIdeal.Gen.facts, Cert.ReferenceIdeal.Gen.facts, Cert.Pre_scores_spread.Gen.facts,
  quiescent_kernel, quiescent_kernelIdeal, quiescent_kernelIdeal_pre, quiescent_reference, quiescent_reference_pre, trivial, algebraic⟩

end Cert.Proof

end
